-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v191)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v191) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v28) = v0 c
          ∧ r.2.mem ((c.tc : Thread Cert.Reference9Ideal.nD Cert.Reference9Ideal.τ).loc Cert.Reference9Ideal.main_v51) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_v32) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S4x4096x3072 : Shape := ⟨3, ![4, 4096, 3072]⟩
abbrev S4x1x256x16x64 : Shape := ⟨5, ![4, 1, 256, 16, 64]⟩
abbrev S1x16x15x31 : Shape := ⟨4, ![1, 16, 15, 31]⟩
abbrev S4x4096x2048 : Shape := ⟨3, ![4, 4096, 2048]⟩
abbrev S_ : Shape := ⟨0, ![]⟩

class Facts : Prop where
  slices_S4x4096x3072_S4x4096x2048_0_0_0 : S4x4096x3072.Slices ![0, 0, 0] S4x4096x2048
  bitsLt_bf16_f32 : FTy.bits .bf16 < FTy.bits .f32
  bcast_S_S4x4096x2048 : S_.BroadcastsInDim S4x4096x2048 (![] : Fin 0 → Fin S4x4096x2048.rank)
  bcast_S_S4x1x256x16x64 : S_.BroadcastsInDim S4x1x256x16x64 (![] : Fin 0 → Fin S4x1x256x16x64.rank)
  bcast_S_S1x16x15x31 : S_.BroadcastsInDim S1x16x15x31 (![] : Fin 0 → Fin S1x16x15x31.rank)

variable [Facts]

def fn {F : FTy → Type} [FloatOps F] (main_arg0 : FVec F S4x4096x3072 .bf16) (main_arg1 : FVec F S4x1x256x16x64 .f32) (main_arg2 : FVec F S4x1x256x16x64 .f32) (main_arg3 : FVec F S1x16x15x31 .f32) : IVec S4x4096x2048 1 × IVec S4x1x256x16x64 1 × IVec S1x16x15x31 1 :=
  let main_v0 : FVec F S4x4096x2048 .bf16 := (extractStridedSlice S4x4096x2048 ![0, 0, 0] · slices_S4x4096x3072_S4x4096x2048_0_0_0) main_arg0
  let main_v1 : FVec F S4x4096x2048 .f32 := (extf .f32 · bitsLt_bf16_f32) main_v0
  let main_v2 : FVec F S4x4096x2048 .f32 := Host.absf main_v1
  let main_cst : FVec F S_ .f32 := constant S_ .f32 0x7F800000#32
  let main_v3 : FVec F S4x4096x2048 .f32 := broadcastInDim S4x4096x2048 ![] bcast_S_S4x4096x2048 main_cst
  let main_v4 : IVec S4x4096x2048 1 := cmpf .olt main_v2 main_v3
  let main_v5 : FVec F S4x1x256x16x64 .f32 := Host.absf main_arg1
  let main_cst_0 : FVec F S_ .f32 := constant S_ .f32 0x7F800000#32
  let main_v6 : FVec F S4x1x256x16x64 .f32 := broadcastInDim S4x1x256x16x64 ![] bcast_S_S4x1x256x16x64 main_cst_0
  let main_v7 : IVec S4x1x256x16x64 1 := cmpf .olt main_v5 main_v6
  let main_v8 : FVec F S1x16x15x31 .f32 := Host.absf main_arg3
  let main_cst_1 : FVec F S_ .f32 := constant S_ .f32 0x7F800000#32
  let main_v9 : FVec F S1x16x15x31 .f32 := broadcastInDim S1x16x15x31 ![] bcast_S_S1x16x15x31 main_cst_1
  let main_v10 : IVec S1x16x15x31 1 := cmpf .olt main_v8 main_v9
  (main_v4, main_v7, main_v10)
-- ==== Kernel.lean ====
abbrev S4x4096x3072 : Shape := ⟨3, ![4, 4096, 3072]⟩
abbrev S4x1x256x16x64 : Shape := ⟨5, ![4, 1, 256, 16, 64]⟩
abbrev S1x16x15x31 : Shape := ⟨4, ![1, 16, 15, 31]⟩
abbrev S4x256x16x64 : Shape := ⟨4, ![4, 256, 16, 64]⟩
abbrev S4x256x1024 : Shape := ⟨3, ![4, 256, 1024]⟩
abbrev S16x15x31 : Shape := ⟨3, ![16, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S16x15x64x64 : Shape := ⟨4, ![16, 15, 64, 64]⟩
abbrev S1x1x64x64 : Shape := ⟨4, ![1, 1, 64, 64]⟩
abbrev S16x1x64x64 : Shape := ⟨4, ![16, 1, 64, 64]⟩
abbrev S16x64x64 : Shape := ⟨3, ![16, 64, 64]⟩
abbrev S16x64x512 : Shape := ⟨3, ![16, 64, 512]⟩
abbrev S1x16x64x512 : Shape := ⟨4, ![1, 16, 64, 512]⟩
abbrev S8x16x64x512 : Shape := ⟨4, ![8, 16, 64, 512]⟩
abbrev S8x8x128x512 : Shape := ⟨4, ![8, 8, 128, 512]⟩
abbrev S4x4096x1024 : Shape := ⟨3, ![4, 4096, 1024]⟩
abbrev S1x128x1024 : Shape := ⟨3, ![1, 128, 1024]⟩
abbrev S1x4096x1024 : Shape := ⟨3, ![1, 4096, 1024]⟩
abbrev S1x256x1024 : Shape := ⟨3, ![1, 256, 1024]⟩
abbrev S1x8x128x512 : Shape := ⟨4, ![1, 8, 128, 512]⟩
abbrev S64x128 : Shape := ⟨2, ![64, 128]⟩
abbrev S1x64x128 : Shape := ⟨3, ![1, 64, 128]⟩
abbrev S128x128 : Shape := ⟨2, ![128, 128]⟩
abbrev S1x512x128 : Shape := ⟨3, ![1, 512, 128]⟩
abbrev S512x128 : Shape := ⟨2, ![512, 128]⟩
abbrev S128x512 : Shape := ⟨2, ![128, 512]⟩
abbrev S1x1x128x512 : Shape := ⟨4, ![1, 1, 128, 512]⟩
abbrev S1x256x128 : Shape := ⟨3, ![1, 256, 128]⟩
abbrev S256x128 : Shape := ⟨2, ![256, 128]⟩
abbrev S128x256 : Shape := ⟨2, ![128, 256]⟩
abbrev S128x768 : Shape := ⟨2, ![128, 768]⟩
abbrev S128 : Shape := ⟨1, ![128]⟩
abbrev S128x1 : Shape := ⟨2, ![128, 1]⟩

abbrev nBuf : Space → Nat
  | .hbm => 212
  | .vmem => 16
  | .smem => 0
  | _ => 0

abbrev hbmTy0_0 (i : Nat) : BufTy := match i % 128 with
  | 0 => ⟨S4x4096x3072, .bf16⟩
  | 1 => ⟨S4x1x256x16x64, .f32⟩
  | 2 => ⟨S4x1x256x16x64, .f32⟩
  | 3 => ⟨S1x16x15x31, .f32⟩
  | 4 => ⟨S4x256x16x64, .f32⟩
  | 5 => ⟨S4x256x1024, .f32⟩
  | 6 => ⟨S4x256x1024, .bf16⟩
  | 7 => ⟨S4x256x16x64, .f32⟩
  | 8 => ⟨S4x256x1024, .f32⟩
  | 9 => ⟨S4x256x1024, .bf16⟩
  | 10 => ⟨S16x15x31, .f32⟩
  | 11 => ⟨S64, .i32⟩
  | 12 => ⟨S_, .i32⟩
  | 13 => ⟨S64, .i32⟩
  | 14 => ⟨S64, .i32⟩
  | 15 => ⟨S_, .i32⟩
  | 16 => ⟨S_, .i32⟩
  | 17 => ⟨S_, .i32⟩
  | 18 => ⟨S64, .i32⟩
  | 19 => ⟨S64, .i32⟩
  | 20 => ⟨S_, .i32⟩
  | 21 => ⟨S64, .i32⟩
  | 22 => ⟨S64, .i32⟩
  | 23 => ⟨S1x64, .i32⟩
  | 24 => ⟨S64x1, .i32⟩
  | 25 => ⟨S64x64, .i32⟩
  | 26 => ⟨S64x64, .i32⟩
  | 27 => ⟨S64x64, .i32⟩
  | 28 => ⟨S_, .i32⟩
  | 29 => ⟨S64x64, .i32⟩
  | 30 => ⟨S64x64, .i32⟩
  | 31 => ⟨S1x64, .i32⟩
  | 32 => ⟨S64x1, .i32⟩
  | 33 => ⟨S64x64, .i32⟩
  | 34 => ⟨S64x64, .i32⟩
  | 35 => ⟨S64x64, .i1⟩
  | 36 => ⟨S1x64, .i32⟩
  | 37 => ⟨S64x1, .i32⟩
  | 38 => ⟨S_, .i32⟩
  | 39 => ⟨S64x1, .i32⟩
  | 40 => ⟨S64x1, .i32⟩
  | 41 => ⟨S64x64, .i32⟩
  | 42 => ⟨S64x64, .i32⟩
  | 43 => ⟨S64x64, .i1⟩
  | 44 => ⟨S64x64, .i1⟩
  | 45 => ⟨S1x64x64, .i32⟩
  | 46 => ⟨S31, .i32⟩
  | 47 => ⟨S31x1x1, .i32⟩
  | 48 => ⟨S31x64x64, .i32⟩
  | 49 => ⟨S31x64x64, .i32⟩
  | 50 => ⟨S31x64x64, .i1⟩
  | 51 => ⟨S31x64x64, .f32⟩
  | 52 => ⟨S16x15x64x64, .f32⟩
  | 53 => ⟨S1x1x64x64, .i1⟩
  | 54 => ⟨S_, .f32⟩
  | 55 => ⟨S_, .f32⟩
  | 56 => ⟨S_, .f32⟩
  | 57 => ⟨S_, .f32⟩
  | 58 => ⟨S16x15x64x64, .f32⟩
  | 59 => ⟨S16x15x64x64, .f32⟩
  | 60 => ⟨S_, .f32⟩
  | 61 => ⟨S_, .f32⟩
  | 62 => ⟨S16x15x64x64, .i1⟩
  | 63 => ⟨S16x15x64x64, .f32⟩
  | 64 => ⟨S16x15x64x64, .f32⟩
  | 65 => ⟨S16x1x64x64, .f32⟩
  | 66 => ⟨S16x64x64, .f32⟩
  | 67 => ⟨S16x1x64x64, .f32⟩
  | 68 => ⟨S16x64x64, .f32⟩
  | 69 => ⟨S16x1x64x64, .f32⟩
  | 70 => ⟨S16x64x64, .f32⟩
  | 71 => ⟨S16x1x64x64, .f32⟩
  | 72 => ⟨S16x64x64, .f32⟩
  | 73 => ⟨S16x1x64x64, .f32⟩
  | 74 => ⟨S16x64x64, .f32⟩
  | 75 => ⟨S16x1x64x64, .f32⟩
  | 76 => ⟨S16x64x64, .f32⟩
  | 77 => ⟨S16x1x64x64, .f32⟩
  | 78 => ⟨S16x64x64, .f32⟩
  | 79 => ⟨S16x1x64x64, .f32⟩
  | 80 => ⟨S16x64x64, .f32⟩
  | 81 => ⟨S16x64x512, .f32⟩
  | 82 => ⟨S16x1x64x64, .f32⟩
  | 83 => ⟨S16x64x64, .f32⟩
  | 84 => ⟨S16x1x64x64, .f32⟩
  | 85 => ⟨S16x64x64, .f32⟩
  | 86 => ⟨S16x1x64x64, .f32⟩
  | 87 => ⟨S16x64x64, .f32⟩
  | 88 => ⟨S16x1x64x64, .f32⟩
  | 89 => ⟨S16x64x64, .f32⟩
  | 90 => ⟨S16x1x64x64, .f32⟩
  | 91 => ⟨S16x64x64, .f32⟩
  | 92 => ⟨S16x1x64x64, .f32⟩
  | 93 => ⟨S16x64x64, .f32⟩
  | 94 => ⟨S16x1x64x64, .f32⟩
  | 95 => ⟨S16x64x64, .f32⟩
  | 96 => ⟨S16x1x64x64, .f32⟩
  | 97 => ⟨S16x64x64, .f32⟩
  | 98 => ⟨S16x64x512, .f32⟩
  | 99 => ⟨S16x1x64x64, .f32⟩
  | 100 => ⟨S16x64x64, .f32⟩
  | 101 => ⟨S16x1x64x64, .f32⟩
  | 102 => ⟨S16x64x64, .f32⟩
  | 103 => ⟨S16x1x64x64, .f32⟩
  | 104 => ⟨S16x64x64, .f32⟩
  | 105 => ⟨S16x1x64x64, .f32⟩
  | 106 => ⟨S16x64x64, .f32⟩
  | 107 => ⟨S16x1x64x64, .f32⟩
  | 108 => ⟨S16x64x64, .f32⟩
  | 109 => ⟨S16x1x64x64, .f32⟩
  | 110 => ⟨S16x64x64, .f32⟩
  | 111 => ⟨S16x1x64x64, .f32⟩
  | 112 => ⟨S16x64x64, .f32⟩
  | 113 => ⟨S16x1x64x64, .f32⟩
  | 114 => ⟨S16x64x64, .f32⟩
  | 115 => ⟨S16x64x512, .f32⟩
  | 116 => ⟨S16x1x64x64, .f32⟩
  | 117 => ⟨S16x64x64, .f32⟩
  | 118 => ⟨S16x1x64x64, .f32⟩
  | 119 => ⟨S16x64x64, .f32⟩
  | 120 => ⟨S16x1x64x64, .f32⟩
  | 121 => ⟨S16x64x64, .f32⟩
  | 122 => ⟨S16x1x64x64, .f32⟩
  | 123 => ⟨S16x64x64, .f32⟩
  | 124 => ⟨S16x1x64x64, .f32⟩
  | 125 => ⟨S16x64x64, .f32⟩
  | 126 => ⟨S16x1x64x64, .f32⟩
  | 127 => ⟨S16x64x64, .f32⟩
  | _ => ⟨S4x4096x3072, .bf16⟩

abbrev hbmTy0_1 (i : Nat) : BufTy := match i % 128 with
  | 0 => ⟨S16x1x64x64, .f32⟩
  | 1 => ⟨S16x64x64, .f32⟩
  | 2 => ⟨S16x1x64x64, .f32⟩
  | 3 => ⟨S16x64x64, .f32⟩
  | 4 => ⟨S16x64x512, .f32⟩
  | 5 => ⟨S16x1x64x64, .f32⟩
  | 6 => ⟨S16x64x64, .f32⟩
  | 7 => ⟨S16x1x64x64, .f32⟩
  | 8 => ⟨S16x64x64, .f32⟩
  | 9 => ⟨S16x1x64x64, .f32⟩
  | 10 => ⟨S16x64x64, .f32⟩
  | 11 => ⟨S16x1x64x64, .f32⟩
  | 12 => ⟨S16x64x64, .f32⟩
  | 13 => ⟨S16x1x64x64, .f32⟩
  | 14 => ⟨S16x64x64, .f32⟩
  | 15 => ⟨S16x1x64x64, .f32⟩
  | 16 => ⟨S16x64x64, .f32⟩
  | 17 => ⟨S16x1x64x64, .f32⟩
  | 18 => ⟨S16x64x64, .f32⟩
  | 19 => ⟨S16x1x64x64, .f32⟩
  | 20 => ⟨S16x64x64, .f32⟩
  | 21 => ⟨S16x64x512, .f32⟩
  | 22 => ⟨S16x1x64x64, .f32⟩
  | 23 => ⟨S16x64x64, .f32⟩
  | 24 => ⟨S16x1x64x64, .f32⟩
  | 25 => ⟨S16x64x64, .f32⟩
  | 26 => ⟨S16x1x64x64, .f32⟩
  | 27 => ⟨S16x64x64, .f32⟩
  | 28 => ⟨S16x1x64x64, .f32⟩
  | 29 => ⟨S16x64x64, .f32⟩
  | 30 => ⟨S16x1x64x64, .f32⟩
  | 31 => ⟨S16x64x64, .f32⟩
  | 32 => ⟨S16x1x64x64, .f32⟩
  | 33 => ⟨S16x64x64, .f32⟩
  | 34 => ⟨S16x1x64x64, .f32⟩
  | 35 => ⟨S16x64x64, .f32⟩
  | 36 => ⟨S16x1x64x64, .f32⟩
  | 37 => ⟨S16x64x64, .f32⟩
  | 38 => ⟨S16x64x512, .f32⟩
  | 39 => ⟨S16x1x64x64, .f32⟩
  | 40 => ⟨S16x64x64, .f32⟩
  | 41 => ⟨S16x1x64x64, .f32⟩
  | 42 => ⟨S16x64x64, .f32⟩
  | 43 => ⟨S16x1x64x64, .f32⟩
  | 44 => ⟨S16x64x64, .f32⟩
  | 45 => ⟨S16x1x64x64, .f32⟩
  | 46 => ⟨S16x64x64, .f32⟩
  | 47 => ⟨S16x1x64x64, .f32⟩
  | 48 => ⟨S16x64x64, .f32⟩
  | 49 => ⟨S16x1x64x64, .f32⟩
  | 50 => ⟨S16x64x64, .f32⟩
  | 51 => ⟨S16x1x64x64, .f32⟩
  | 52 => ⟨S16x64x64, .f32⟩
  | 53 => ⟨S16x1x64x64, .f32⟩
  | 54 => ⟨S16x64x64, .f32⟩
  | 55 => ⟨S16x64x512, .f32⟩
  | 56 => ⟨S16x1x64x64, .f32⟩
  | 57 => ⟨S16x64x64, .f32⟩
  | 58 => ⟨S16x1x64x64, .f32⟩
  | 59 => ⟨S16x64x64, .f32⟩
  | 60 => ⟨S16x1x64x64, .f32⟩
  | 61 => ⟨S16x64x64, .f32⟩
  | 62 => ⟨S16x1x64x64, .f32⟩
  | 63 => ⟨S16x64x64, .f32⟩
  | 64 => ⟨S16x1x64x64, .f32⟩
  | 65 => ⟨S16x64x64, .f32⟩
  | 66 => ⟨S16x1x64x64, .f32⟩
  | 67 => ⟨S16x64x64, .f32⟩
  | 68 => ⟨S16x1x64x64, .f32⟩
  | 69 => ⟨S16x64x64, .f32⟩
  | 70 => ⟨S16x1x64x64, .f32⟩
  | 71 => ⟨S16x64x64, .f32⟩
  | 72 => ⟨S16x64x512, .f32⟩
  | 73 => ⟨S1x16x64x512, .f32⟩
  | 74 => ⟨S1x16x64x512, .f32⟩
  | 75 => ⟨S1x16x64x512, .f32⟩
  | 76 => ⟨S1x16x64x512, .f32⟩
  | 77 => ⟨S1x16x64x512, .f32⟩
  | 78 => ⟨S1x16x64x512, .f32⟩
  | 79 => ⟨S1x16x64x512, .f32⟩
  | 80 => ⟨S1x16x64x512, .f32⟩
  | 81 => ⟨S8x16x64x512, .f32⟩
  | 82 => ⟨S8x8x128x512, .f32⟩
  | 83 => ⟨S4x4096x1024, .bf16⟩
  | _ => ⟨S4x4096x3072, .bf16⟩

abbrev hbmTy (i : Nat) : BufTy := match i / 128 with
  | 0 => hbmTy0_0 i
  | 1 => hbmTy0_1 i
  | _ => ⟨S4x4096x3072, .bf16⟩

abbrev bufTy : (tb : Table) → Fin (tcTables nBuf tb) → BufTy
  | .hbm, ⟨i, _⟩ => hbmTy i
  | .local _ .vmem, ⟨0, _⟩ => ⟨S1x128x1024, .bf16⟩
  | .local _ .vmem, ⟨1, _⟩ => ⟨S1x128x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x4096x1024, .bf16⟩
  | .local _ .vmem, ⟨5, _⟩ => ⟨S1x4096x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x8x128x512, .f32⟩
  | .local _ .vmem, ⟨11, _⟩ => ⟨S1x8x128x512, .f32⟩
  | .local _ .vmem, ⟨12, _⟩ => ⟨S1x8x128x512, .f32⟩
  | .local _ .vmem, ⟨13, _⟩ => ⟨S1x8x128x512, .f32⟩
  | .local _ .vmem, ⟨14, _⟩ => ⟨S1x128x1024, .bf16⟩
  | .local _ .vmem, ⟨15, _⟩ => ⟨S1x128x1024, .bf16⟩
  | _, _ => ⟨S4x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let c56_i32 : BitVec 32 := 56#32
  let c0_i32_0 : BitVec 32 := 0#32
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c56_i32 v6
  let c64_i32_1 : BitVec 32 := 64#32
  let v8 : BitVec 32 := Scalar.muli v7 c64_i32_1
  v8
def k0_off1 (i : grid0.Coords) (c0_i32 : BitVec 32) : Fin 3 → Nat :=
  let c0_6 : Index := 0#32
  let c56_i32 : BitVec 32 := 56#32
  let c0_i32_0 : BitVec 32 := 0#32
  let arg1 : BitVec 32 := BitVec.ofNat 32 (i 1).val
  let c2_i32 : BitVec 32 := 2#32
  let v3 : BitVec 32 := Scalar.muli arg1 c2_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c56_i32 v6
  let c64_i32_1 : BitVec 32 := 64#32
  let v8 : BitVec 32 := Scalar.muli v7 c64_i32_1
  let v9 : BitVec 32 := v8
  let v19 : Index := Scalar.indexCast v9
  let c0_7 : Index := 0#32
  ![0, v19.toNat, 0]
def k0_off2 (i : grid0.Coords) (c0_i32 : BitVec 32) : Fin 3 → Nat :=
  let c0_34 : Index := 0#32
  let c56_i32 : BitVec 32 := 56#32
  let c0_i32_0 : BitVec 32 := 0#32
  let arg1 : BitVec 32 := BitVec.ofNat 32 (i 1).val
  let c2_i32 : BitVec 32 := 2#32
  let v3 : BitVec 32 := Scalar.muli arg1 c2_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c56_i32 v6
  let c64_i32_1 : BitVec 32 := 64#32
  let v8 : BitVec 32 := Scalar.muli v7 c64_i32_1
  let v9 : BitVec 32 := v8
  let v70 : Index := Scalar.indexCast v9
  let c128_35 : Index := 128#32
  ![0, v70.toNat, 128]
def k0_off3 (i : grid0.Coords) (c0_i32 : BitVec 32) : Fin 3 → Nat :=
  let c0_62 : Index := 0#32
  let c56_i32 : BitVec 32 := 56#32
  let c0_i32_0 : BitVec 32 := 0#32
  let arg1 : BitVec 32 := BitVec.ofNat 32 (i 1).val
  let c2_i32 : BitVec 32 := 2#32
  let v3 : BitVec 32 := Scalar.muli arg1 c2_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c56_i32 v6
  let c64_i32_1 : BitVec 32 := 64#32
  let v8 : BitVec 32 := Scalar.muli v7 c64_i32_1
  let v9 : BitVec 32 := v8
  let v121 : Index := Scalar.indexCast v9
  let c256_63 : Index := 256#32
  ![0, v121.toNat, 256]
def k0_off4 (i : grid0.Coords) (c0_i32 : BitVec 32) : Fin 3 → Nat :=
  let c0_90 : Index := 0#32
  let c56_i32 : BitVec 32 := 56#32
  let c0_i32_0 : BitVec 32 := 0#32
  let arg1 : BitVec 32 := BitVec.ofNat 32 (i 1).val
  let c2_i32 : BitVec 32 := 2#32
  let v3 : BitVec 32 := Scalar.muli arg1 c2_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c56_i32 v6
  let c64_i32_1 : BitVec 32 := 64#32
  let v8 : BitVec 32 := Scalar.muli v7 c64_i32_1
  let v9 : BitVec 32 := v8
  let v172 : Index := Scalar.indexCast v9
  let c384_91 : Index := 384#32
  ![0, v172.toNat, 384]
def k0_off5 (i : grid0.Coords) (c0_i32 : BitVec 32) : Fin 3 → Nat :=
  let c0_118 : Index := 0#32
  let c56_i32 : BitVec 32 := 56#32
  let c0_i32_0 : BitVec 32 := 0#32
  let arg1 : BitVec 32 := BitVec.ofNat 32 (i 1).val
  let c2_i32 : BitVec 32 := 2#32
  let v3 : BitVec 32 := Scalar.muli arg1 c2_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c56_i32 v6
  let c64_i32_1 : BitVec 32 := 64#32
  let v8 : BitVec 32 := Scalar.muli v7 c64_i32_1
  let v9 : BitVec 32 := v8
  let v223 : Index := Scalar.indexCast v9
  let c512_119 : Index := 512#32
  ![0, v223.toNat, 512]
def k0_off6 (i : grid0.Coords) (c0_i32 : BitVec 32) : Fin 3 → Nat :=
  let c0_146 : Index := 0#32
  let c56_i32 : BitVec 32 := 56#32
  let c0_i32_0 : BitVec 32 := 0#32
  let arg1 : BitVec 32 := BitVec.ofNat 32 (i 1).val
  let c2_i32 : BitVec 32 := 2#32
  let v3 : BitVec 32 := Scalar.muli arg1 c2_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c56_i32 v6
  let c64_i32_1 : BitVec 32 := 64#32
  let v8 : BitVec 32 := Scalar.muli v7 c64_i32_1
  let v9 : BitVec 32 := v8
  let v274 : Index := Scalar.indexCast v9
  let c640_147 : Index := 640#32
  ![0, v274.toNat, 640]
def k0_off7 (i : grid0.Coords) (c0_i32 : BitVec 32) : Fin 3 → Nat :=
  let c0_174 : Index := 0#32
  let c56_i32 : BitVec 32 := 56#32
  let c0_i32_0 : BitVec 32 := 0#32
  let arg1 : BitVec 32 := BitVec.ofNat 32 (i 1).val
  let c2_i32 : BitVec 32 := 2#32
  let v3 : BitVec 32 := Scalar.muli arg1 c2_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c56_i32 v6
  let c64_i32_1 : BitVec 32 := 64#32
  let v8 : BitVec 32 := Scalar.muli v7 c64_i32_1
  let v9 : BitVec 32 := v8
  let v325 : Index := Scalar.indexCast v9
  let c768_175 : Index := 768#32
  ![0, v325.toNat, 768]
def k0_off8 (i : grid0.Coords) (c0_i32 : BitVec 32) : Fin 3 → Nat :=
  let c0_202 : Index := 0#32
  let c56_i32 : BitVec 32 := 56#32
  let c0_i32_0 : BitVec 32 := 0#32
  let arg1 : BitVec 32 := BitVec.ofNat 32 (i 1).val
  let c2_i32 : BitVec 32 := 2#32
  let v3 : BitVec 32 := Scalar.muli arg1 c2_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c56_i32 v6
  let c64_i32_1 : BitVec 32 := 64#32
  let v8 : BitVec 32 := Scalar.muli v7 c64_i32_1
  let v9 : BitVec 32 := v8
  let v376 : Index := Scalar.indexCast v9
  let c896_203 : Index := 896#32
  ![0, v376.toNat, 896]
def k0_mult2 (i : grid0.Coords) : BitVec 32 :=
  let c56_i32_229 : BitVec 32 := 56#32
  let c0_i32_228 : BitVec 32 := 0#32
  let arg1 : BitVec 32 := BitVec.ofNat 32 (i 1).val
  let c2_i32_226 : BitVec 32 := 2#32
  let v418 : BitVec 32 := Scalar.muli arg1 c2_i32_226
  let c1_i32 : BitVec 32 := 1#32
  let v419 : BitVec 32 := Scalar.addi v418 c1_i32
  let c4_i32_227 : BitVec 32 := 4#32
  let v420 : BitVec 32 := Scalar.subi v419 c4_i32_227
  let v421 : BitVec 32 := Scalar.maxsi c0_i32_228 v420
  let v422 : BitVec 32 := Scalar.minsi c56_i32_229 v421
  let c64_i32_230 : BitVec 32 := 64#32
  let v423 : BitVec 32 := Scalar.muli v422 c64_i32_230
  v423
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c4_i32 : BitVec 32 := 4#32
  let v2 : BitVec 32 := Scalar.subi v1 c4_i32
  let c0_i32_0 : BitVec 32 := 0#32
  let c56_i32 : BitVec 32 := 56#32
  let v3 : BitVec 32 := Scalar.maxsi c0_i32_0 v2
  let v4 : BitVec 32 := Scalar.minsi c56_i32 v3
  let v5 : BitVec 32 := Scalar.subi v4 v1
  let c8_i32 : BitVec 32 := 8#32
  let v6 : BitVec 32 := Scalar.addi v5 c8_i32
  let c1_i32 : BitVec 32 := 1#32
  let v7 : BitVec 32 := Scalar.subi v6 c1_i32
  let c0_i32_1 : BitVec 32 := 0#32
  let c0_i32_2 : BitVec 32 := 0#32
  let c0_i32_3 : BitVec 32 := 0#32
  let c0_i32_4 : BitVec 32 := 0#32
  ![v7.toNat, c0_i32_1.toNat, c0_i32_2.toNat, c0_i32_3.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c4_i32 : BitVec 32 := 4#32
  let v2 : BitVec 32 := Scalar.subi v1 c4_i32
  let c0_i32 : BitVec 32 := 0#32
  let c56_i32 : BitVec 32 := 56#32
  let v3 : BitVec 32 := Scalar.maxsi c0_i32 v2
  let v4 : BitVec 32 := Scalar.minsi c56_i32 v3
  let v5 : BitVec 32 := Scalar.subi v4 v1
  let c8_i32 : BitVec 32 := 8#32
  let v6 : BitVec 32 := Scalar.addi v5 c8_i32
  let c1_i32_0 : BitVec 32 := 1#32
  let v7 : BitVec 32 := Scalar.subi v6 c1_i32_0
  let c0_i32_1 : BitVec 32 := 0#32
  let c0_i32_2 : BitVec 32 := 0#32
  let c0_i32_3 : BitVec 32 := 0#32
  let c0_i32_4 : BitVec 32 := 0#32
  ![v7.toNat, c0_i32_1.toNat, c0_i32_2.toNat, c0_i32_3.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "scale" => some (((1 / 8) * (Real.log 2)⁻¹ : ℝ) : EReal)
  | _ => none
-- ==== ReferenceIdeal.lean ====
abbrev S4x4096x3072 : Shape := ⟨3, ![4, 4096, 3072]⟩
abbrev S4x1x256x16x64 : Shape := ⟨5, ![4, 1, 256, 16, 64]⟩
abbrev S1x16x15x31 : Shape := ⟨4, ![1, 16, 15, 31]⟩
abbrev S4x4096x1024 : Shape := ⟨3, ![4, 4096, 1024]⟩
abbrev S_ : Shape := ⟨0, ![]⟩
abbrev S4x64x64x16x64 : Shape := ⟨5, ![4, 64, 64, 16, 64]⟩
abbrev S4x256x16x64 : Shape := ⟨4, ![4, 256, 16, 64]⟩
abbrev S16x15x31 : Shape := ⟨3, ![16, 15, 31]⟩
abbrev S64 : Shape := ⟨1, ![64]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S16 : Shape := ⟨1, ![16]⟩
abbrev S1x16 : Shape := ⟨2, ![1, 16]⟩
abbrev S64x16 : Shape := ⟨2, ![64, 16]⟩
abbrev S64x1x8x1 : Shape := ⟨4, ![64, 1, 8, 1]⟩
abbrev S1x64x1x16 : Shape := ⟨4, ![1, 64, 1, 16]⟩
abbrev S64x64x8x16 : Shape := ⟨4, ![64, 64, 8, 16]⟩
abbrev S64x64x8x16x1 : Shape := ⟨5, ![64, 64, 8, 16, 1]⟩
abbrev S64x64x8x16x2 : Shape := ⟨5, ![64, 64, 8, 16, 2]⟩
abbrev S4x64x64x8x16x16x64 : Shape := ⟨7, ![4, 64, 64, 8, 16, 16, 64]⟩
abbrev S16x64x64x8x16 : Shape := ⟨5, ![16, 64, 64, 8, 16]⟩
abbrev S4x16x64x64x8x16 : Shape := ⟨6, ![4, 16, 64, 64, 8, 16]⟩
abbrev S1x16x64x64x8x16 : Shape := ⟨6, ![1, 16, 64, 64, 8, 16]⟩
abbrev S4x16x64x64x256 : Shape := ⟨5, ![4, 16, 64, 64, 256]⟩
abbrev S4x16x64x64x128 : Shape := ⟨5, ![4, 16, 64, 64, 128]⟩
abbrev S4x16x64x64x384 : Shape := ⟨5, ![4, 16, 64, 64, 384]⟩
abbrev S4x16x64x64 : Shape := ⟨4, ![4, 16, 64, 64]⟩
abbrev S4x16x64x64x1 : Shape := ⟨5, ![4, 16, 64, 64, 1]⟩
abbrev S4x64x64x128x16x64 : Shape := ⟨6, ![4, 64, 64, 128, 16, 64]⟩
abbrev S4x16x64x64x64 : Shape := ⟨5, ![4, 16, 64, 64, 64]⟩

abbrev nBuf : Space → Nat
  | .hbm => 159
  | .vmem => 0
  | .smem => 0
  | _ => 0

abbrev hbmTy0_0 (i : Nat) : BufTy := match i % 128 with
  | 0 => ⟨S4x4096x3072, .bf16⟩
  | 1 => ⟨S4x1x256x16x64, .f32⟩
  | 2 => ⟨S4x1x256x16x64, .f32⟩
  | 3 => ⟨S1x16x15x31, .f32⟩
  | 4 => ⟨S4x4096x3072, .f32⟩
  | 5 => ⟨S4x4096x1024, .f32⟩
  | 6 => ⟨S4x4096x1024, .f32⟩
  | 7 => ⟨S4x4096x1024, .f32⟩
  | 8 => ⟨S_, .f32⟩
  | 9 => ⟨S4x4096x1024, .f32⟩
  | 10 => ⟨S4x4096x1024, .f32⟩
  | 11 => ⟨S4x64x64x16x64, .f32⟩
  | 12 => ⟨S4x64x64x16x64, .f32⟩
  | 13 => ⟨S4x64x64x16x64, .f32⟩
  | 14 => ⟨S4x256x16x64, .f32⟩
  | 15 => ⟨S4x256x16x64, .f32⟩
  | 16 => ⟨S16x15x31, .f32⟩
  | 17 => ⟨S64, .i32⟩
  | 18 => ⟨S_, .i32⟩
  | 19 => ⟨S64, .i32⟩
  | 20 => ⟨S64, .i32⟩
  | 21 => ⟨S_, .i32⟩
  | 22 => ⟨S_, .i32⟩
  | 23 => ⟨S_, .i32⟩
  | 24 => ⟨S64, .i32⟩
  | 25 => ⟨S64, .i32⟩
  | 26 => ⟨S_, .i32⟩
  | 27 => ⟨S64, .i32⟩
  | 28 => ⟨S64, .i32⟩
  | 29 => ⟨S64x1, .i32⟩
  | 30 => ⟨S8, .i32⟩
  | 31 => ⟨S1x8, .i32⟩
  | 32 => ⟨S64x8, .i32⟩
  | 33 => ⟨S64x8, .i32⟩
  | 34 => ⟨S64x8, .i32⟩
  | 35 => ⟨S64x1, .i32⟩
  | 36 => ⟨S64x8, .i32⟩
  | 37 => ⟨S64x8, .i32⟩
  | 38 => ⟨S_, .i32⟩
  | 39 => ⟨S64x8, .i32⟩
  | 40 => ⟨S64x8, .i32⟩
  | 41 => ⟨S64, .i32⟩
  | 42 => ⟨S_, .i32⟩
  | 43 => ⟨S64, .i32⟩
  | 44 => ⟨S64, .i32⟩
  | 45 => ⟨S_, .i32⟩
  | 46 => ⟨S_, .i32⟩
  | 47 => ⟨S_, .i32⟩
  | 48 => ⟨S64, .i32⟩
  | 49 => ⟨S64, .i32⟩
  | 50 => ⟨S_, .i32⟩
  | 51 => ⟨S64, .i32⟩
  | 52 => ⟨S64, .i32⟩
  | 53 => ⟨S64x1, .i32⟩
  | 54 => ⟨S16, .i32⟩
  | 55 => ⟨S1x16, .i32⟩
  | 56 => ⟨S64x16, .i32⟩
  | 57 => ⟨S64x16, .i32⟩
  | 58 => ⟨S64x16, .i32⟩
  | 59 => ⟨S64x1, .i32⟩
  | 60 => ⟨S64x16, .i32⟩
  | 61 => ⟨S64x16, .i32⟩
  | 62 => ⟨S_, .i32⟩
  | 63 => ⟨S64x16, .i32⟩
  | 64 => ⟨S64x16, .i32⟩
  | 65 => ⟨S64x1x8x1, .i32⟩
  | 66 => ⟨S1x64x1x16, .i32⟩
  | 67 => ⟨S_, .i32⟩
  | 68 => ⟨S64x1x8x1, .i32⟩
  | 69 => ⟨S64x1x8x1, .i1⟩
  | 70 => ⟨S_, .i32⟩
  | 71 => ⟨S64x1x8x1, .i32⟩
  | 72 => ⟨S64x1x8x1, .i32⟩
  | 73 => ⟨S64x1x8x1, .i32⟩
  | 74 => ⟨S_, .i32⟩
  | 75 => ⟨S1x64x1x16, .i32⟩
  | 76 => ⟨S1x64x1x16, .i1⟩
  | 77 => ⟨S_, .i32⟩
  | 78 => ⟨S1x64x1x16, .i32⟩
  | 79 => ⟨S1x64x1x16, .i32⟩
  | 80 => ⟨S1x64x1x16, .i32⟩
  | 81 => ⟨S64x64x8x16, .i32⟩
  | 82 => ⟨S64x64x8x16, .i32⟩
  | 83 => ⟨S64x64x8x16x1, .i32⟩
  | 84 => ⟨S64x64x8x16x1, .i32⟩
  | 85 => ⟨S64x64x8x16x2, .i32⟩
  | 86 => ⟨S4x64x64x8x16x16x64, .f32⟩
  | 87 => ⟨S_, .i32⟩
  | 88 => ⟨S64x1x8x1, .i32⟩
  | 89 => ⟨S64x1x8x1, .i1⟩
  | 90 => ⟨S_, .i32⟩
  | 91 => ⟨S64x1x8x1, .i32⟩
  | 92 => ⟨S64x1x8x1, .i32⟩
  | 93 => ⟨S64x1x8x1, .i32⟩
  | 94 => ⟨S_, .i32⟩
  | 95 => ⟨S1x64x1x16, .i32⟩
  | 96 => ⟨S1x64x1x16, .i1⟩
  | 97 => ⟨S_, .i32⟩
  | 98 => ⟨S1x64x1x16, .i32⟩
  | 99 => ⟨S1x64x1x16, .i32⟩
  | 100 => ⟨S1x64x1x16, .i32⟩
  | 101 => ⟨S64x64x8x16, .i32⟩
  | 102 => ⟨S64x64x8x16, .i32⟩
  | 103 => ⟨S64x64x8x16x1, .i32⟩
  | 104 => ⟨S64x64x8x16x1, .i32⟩
  | 105 => ⟨S64x64x8x16x2, .i32⟩
  | 106 => ⟨S4x64x64x8x16x16x64, .f32⟩
  | 107 => ⟨S64x1x8x1, .i32⟩
  | 108 => ⟨S1x64x1x16, .i32⟩
  | 109 => ⟨S_, .i32⟩
  | 110 => ⟨S64x1x8x1, .i32⟩
  | 111 => ⟨S64x1x8x1, .i1⟩
  | 112 => ⟨S_, .i32⟩
  | 113 => ⟨S64x1x8x1, .i32⟩
  | 114 => ⟨S64x1x8x1, .i32⟩
  | 115 => ⟨S64x1x8x1, .i32⟩
  | 116 => ⟨S_, .i32⟩
  | 117 => ⟨S1x64x1x16, .i32⟩
  | 118 => ⟨S1x64x1x16, .i1⟩
  | 119 => ⟨S_, .i32⟩
  | 120 => ⟨S1x64x1x16, .i32⟩
  | 121 => ⟨S1x64x1x16, .i32⟩
  | 122 => ⟨S1x64x1x16, .i32⟩
  | 123 => ⟨S64x64x8x16, .i32⟩
  | 124 => ⟨S64x64x8x16, .i32⟩
  | 125 => ⟨S64x64x8x16x1, .i32⟩
  | 126 => ⟨S64x64x8x16x1, .i32⟩
  | 127 => ⟨S64x64x8x16x2, .i32⟩
  | _ => ⟨S4x4096x3072, .bf16⟩

abbrev hbmTy0_1 (i : Nat) : BufTy := match i % 128 with
  | 0 => ⟨S16x64x64x8x16, .f32⟩
  | 1 => ⟨S4x16x64x64x8x16, .f32⟩
  | 2 => ⟨S1x16x64x64x8x16, .f32⟩
  | 3 => ⟨S4x16x64x64x8x16, .f32⟩
  | 4 => ⟨S4x16x64x64x8x16, .f32⟩
  | 5 => ⟨S4x16x64x64x256, .f32⟩
  | 6 => ⟨S4x16x64x64x128, .f32⟩
  | 7 => ⟨S4x16x64x64x384, .f32⟩
  | 8 => ⟨S_, .f32⟩
  | 9 => ⟨S4x16x64x64, .f32⟩
  | 10 => ⟨S_, .f32⟩
  | 11 => ⟨S4x16x64x64, .f32⟩
  | 12 => ⟨S4x16x64x64, .f32⟩
  | 13 => ⟨S4x16x64x64x1, .f32⟩
  | 14 => ⟨S4x16x64x64x384, .f32⟩
  | 15 => ⟨S4x16x64x64x384, .f32⟩
  | 16 => ⟨S4x16x64x64x384, .f32⟩
  | 17 => ⟨S_, .f32⟩
  | 18 => ⟨S4x16x64x64, .f32⟩
  | 19 => ⟨S4x16x64x64x1, .f32⟩
  | 20 => ⟨S4x16x64x64x384, .f32⟩
  | 21 => ⟨S4x16x64x64x384, .f32⟩
  | 22 => ⟨S4x16x64x64x128, .f32⟩
  | 23 => ⟨S4x16x64x64x256, .f32⟩
  | 24 => ⟨S4x64x64x128x16x64, .f32⟩
  | 25 => ⟨S4x64x64x16x64, .f32⟩
  | 26 => ⟨S4x16x64x64x64, .f32⟩
  | 27 => ⟨S4x64x64x16x64, .f32⟩
  | 28 => ⟨S4x64x64x16x64, .f32⟩
  | 29 => ⟨S4x4096x1024, .f32⟩
  | 30 => ⟨S4x4096x1024, .bf16⟩
  | _ => ⟨S4x4096x3072, .bf16⟩

abbrev hbmTy (i : Nat) : BufTy := match i / 128 with
  | 0 => hbmTy0_0 i
  | 1 => hbmTy0_1 i
  | _ => ⟨S4x4096x3072, .bf16⟩

abbrev bufTy : (tb : Table) → Fin (tcTables nBuf tb) → BufTy
  | .hbm, ⟨i, _⟩ => hbmTy i
  | _, _ => ⟨S4x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_3 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_c_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_7 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_11 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_c_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_15 : Ref sig .tc := ⟨.hbm, 109, rfl⟩
abbrev main_v78 : Ref sig .tc := ⟨.hbm, 110, rfl⟩
abbrev main_v79 : Ref sig .tc := ⟨.hbm, 111, rfl⟩
abbrev main_c_16 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_17 : Ref sig .tc := ⟨.hbm, 116, rfl⟩
abbrev main_v83 : Ref sig .tc := ⟨.hbm, 117, rfl⟩
abbrev main_v84 : Ref sig .tc := ⟨.hbm, 118, rfl⟩
abbrev main_c_18 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_19 : Ref sig .tc := ⟨.hbm, 136, rfl⟩
abbrev main_v101 : Ref sig .tc := ⟨.hbm, 137, rfl⟩
abbrev main_cst_20 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_21 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩

abbrev nD : Nat := 1
abbrev τ : Topo := Topo.v7x

variable {F : FTy → Type} [FloatOps F]
-- ==== Kernel2.lean ====
abbrev S16x2560x1024 : Shape := ⟨3, ![16, 2560, 1024]⟩
abbrev S2x16x1024x2048 : Shape := ⟨4, ![2, 16, 1024, 2048]⟩
abbrev S2x16x2048x1024 : Shape := ⟨4, ![2, 16, 2048, 1024]⟩
abbrev S16x2560 : Shape := ⟨2, ![16, 2560]⟩
abbrev S16x1x2560 : Shape := ⟨3, ![16, 1, 2560]⟩
abbrev S1x2560x1024 : Shape := ⟨3, ![1, 2560, 1024]⟩
abbrev S1x1x1024x512 : Shape := ⟨4, ![1, 1, 1024, 512]⟩
abbrev S1x1x512x1024 : Shape := ⟨4, ![1, 1, 512, 1024]⟩
abbrev S1x1x2560 : Shape := ⟨3, ![1, 1, 2560]⟩
abbrev S1024x512 : Shape := ⟨2, ![1024, 512]⟩
abbrev S512x1024 : Shape := ⟨2, ![512, 1024]⟩
abbrev S1x512x1024 : Shape := ⟨3, ![1, 512, 1024]⟩
abbrev S512x512 : Shape := ⟨2, ![512, 512]⟩
abbrev S1x1x128 : Shape := ⟨3, ![1, 1, 128]⟩
abbrev S1x128 : Shape := ⟨2, ![1, 128]⟩
abbrev S128x128 : Shape := ⟨2, ![128, 128]⟩
abbrev S1x128x128 : Shape := ⟨3, ![1, 128, 128]⟩

abbrev nBuf : Space → Nat
  | .hbm => 7
  | .vmem => 12
  | .smem => 0
  | _ => 0

abbrev bufTy : (tb : Table) → Fin (tcTables nBuf tb) → BufTy
  | .hbm, ⟨0, _⟩ => ⟨S16x2560x1024, .bf16⟩
  | .hbm, ⟨1, _⟩ => ⟨S2x16x1024x2048, .f32⟩
  | .hbm, ⟨2, _⟩ => ⟨S2x16x1024x2048, .f32⟩
  | .hbm, ⟨3, _⟩ => ⟨S2x16x2048x1024, .f32⟩
  | .hbm, ⟨4, _⟩ => ⟨S16x2560, .f32⟩
  | .hbm, ⟨5, _⟩ => ⟨S16x1x2560, .f32⟩
  | .hbm, ⟨6, _⟩ => ⟨S16x2560x1024, .f32⟩
  | .local _ .vmem, ⟨0, _⟩ => ⟨S1x2560x1024, .bf16⟩
  | .local _ .vmem, ⟨1, _⟩ => ⟨S1x2560x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x1x2560, .f32⟩
  | .local _ .vmem, ⟨9, _⟩ => ⟨S1x1x2560, .f32⟩
  | .local _ .vmem, ⟨10, _⟩ => ⟨S1x2560x1024, .f32⟩
  | .local _ .vmem, ⟨11, _⟩ => ⟨S1x2560x1024, .f32⟩
  | _, _ => ⟨S16x2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2560x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2560x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16x2560x1024 : Shape := ⟨3, ![16, 2560, 1024]⟩
abbrev S2x16x1024x2048 : Shape := ⟨4, ![2, 16, 1024, 2048]⟩
abbrev S2x16x2048x1024 : Shape := ⟨4, ![2, 16, 2048, 1024]⟩
abbrev S16x2560 : Shape := ⟨2, ![16, 2560]⟩
abbrev S1x16x1024x2048 : Shape := ⟨4, ![1, 16, 1024, 2048]⟩
abbrev S16x1024x2048 : Shape := ⟨3, ![16, 1024, 2048]⟩
abbrev S16x2560x2048 : Shape := ⟨3, ![16, 2560, 2048]⟩
abbrev S_ : Shape := ⟨0, ![]⟩
abbrev S1x16x2048x1024 : Shape := ⟨4, ![1, 16, 2048, 1024]⟩
abbrev S16x2048x1024 : Shape := ⟨3, ![16, 2048, 1024]⟩
abbrev S16x2560x1 : Shape := ⟨3, ![16, 2560, 1]⟩

abbrev nBuf : Space → Nat
  | .hbm => 28
  | .vmem => 0
  | .smem => 0
  | _ => 0

abbrev bufTy : (tb : Table) → Fin (tcTables nBuf tb) → BufTy
  | .hbm, ⟨0, _⟩ => ⟨S16x2560x1024, .bf16⟩
  | .hbm, ⟨1, _⟩ => ⟨S2x16x1024x2048, .f32⟩
  | .hbm, ⟨2, _⟩ => ⟨S2x16x1024x2048, .f32⟩
  | .hbm, ⟨3, _⟩ => ⟨S2x16x2048x1024, .f32⟩
  | .hbm, ⟨4, _⟩ => ⟨S16x2560, .f32⟩
  | .hbm, ⟨5, _⟩ => ⟨S16x2560x1024, .f32⟩
  | .hbm, ⟨6, _⟩ => ⟨S1x16x1024x2048, .f32⟩
  | .hbm, ⟨7, _⟩ => ⟨S16x1024x2048, .f32⟩
  | .hbm, ⟨8, _⟩ => ⟨S16x2560x2048, .f32⟩
  | .hbm, ⟨9, _⟩ => ⟨S16x2560x2048, .f32⟩
  | .hbm, ⟨10, _⟩ => ⟨S16x2560x2048, .f32⟩
  | .hbm, ⟨11, _⟩ => ⟨S_, .f32⟩
  | .hbm, ⟨12, _⟩ => ⟨S16x2560x2048, .f32⟩
  | .hbm, ⟨13, _⟩ => ⟨S16x2560x2048, .f32⟩
  | .hbm, ⟨14, _⟩ => ⟨S_, .f32⟩
  | .hbm, ⟨15, _⟩ => ⟨S16x2560x2048, .f32⟩
  | .hbm, ⟨16, _⟩ => ⟨S16x2560x2048, .f32⟩
  | .hbm, ⟨17, _⟩ => ⟨S16x2560x2048, .f32⟩
  | .hbm, ⟨18, _⟩ => ⟨S1x16x1024x2048, .f32⟩
  | .hbm, ⟨19, _⟩ => ⟨S16x1024x2048, .f32⟩
  | .hbm, ⟨20, _⟩ => ⟨S16x2560x2048, .f32⟩
  | .hbm, ⟨21, _⟩ => ⟨S16x2560x2048, .f32⟩
  | .hbm, ⟨22, _⟩ => ⟨S1x16x2048x1024, .f32⟩
  | .hbm, ⟨23, _⟩ => ⟨S16x2048x1024, .f32⟩
  | .hbm, ⟨24, _⟩ => ⟨S16x2560x1024, .f32⟩
  | .hbm, ⟨25, _⟩ => ⟨S16x2560x1, .f32⟩
  | .hbm, ⟨26, _⟩ => ⟨S16x2560x1024, .f32⟩
  | .hbm, ⟨27, _⟩ => ⟨S16x2560x1024, .f32⟩
  | _, _ => ⟨S16x2560x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩

abbrev nD : Nat := 1
abbrev τ : Topo := Topo.v7x

variable {F : FTy → Type} [FloatOps F]
-- ==== Kernel3.lean ====
abbrev S20480x1024 : Shape := ⟨2, ![20480, 1024]⟩
abbrev S1x1024x3072 : Shape := ⟨3, ![1, 1024, 3072]⟩
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S20480x1024, .bf16⟩
  | .hbm, ⟨1, _⟩ => ⟨S1x1024x3072, .f32⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | _, _ => ⟨S20480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S20480x1024 : Shape := ⟨2, ![20480, 1024]⟩
abbrev S1x1024x3072 : Shape := ⟨3, ![1, 1024, 3072]⟩
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 9
  | .vmem => 0
  | .smem => 0
  | _ => 0

abbrev bufTy : (tb : Table) → Fin (tcTables nBuf tb) → BufTy
  | .hbm, ⟨0, _⟩ => ⟨S20480x1024, .bf16⟩
  | .hbm, ⟨1, _⟩ => ⟨S1x1024x3072, .f32⟩
  | .hbm, ⟨2, _⟩ => ⟨S4096x1024, .bf16⟩
  | .hbm, ⟨3, _⟩ => ⟨S4096x1024, .f32⟩
  | .hbm, ⟨4, _⟩ => ⟨S1024x3072, .f32⟩
  | .hbm, ⟨5, _⟩ => ⟨S4096x3072, .f32⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S20480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel4.lean ====
abbrev S20480x1024 : Shape := ⟨2, ![20480, 1024]⟩
abbrev S1x1024x3072 : Shape := ⟨3, ![1, 1024, 3072]⟩
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S20480x1024, .bf16⟩
  | .hbm, ⟨1, _⟩ => ⟨S1x1024x3072, .f32⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | _, _ => ⟨S20480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S20480x1024 : Shape := ⟨2, ![20480, 1024]⟩
abbrev S1x1024x3072 : Shape := ⟨3, ![1, 1024, 3072]⟩
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 9
  | .vmem => 0
  | .smem => 0
  | _ => 0

abbrev bufTy : (tb : Table) → Fin (tcTables nBuf tb) → BufTy
  | .hbm, ⟨0, _⟩ => ⟨S20480x1024, .bf16⟩
  | .hbm, ⟨1, _⟩ => ⟨S1x1024x3072, .f32⟩
  | .hbm, ⟨2, _⟩ => ⟨S4096x1024, .bf16⟩
  | .hbm, ⟨3, _⟩ => ⟨S4096x1024, .f32⟩
  | .hbm, ⟨4, _⟩ => ⟨S1024x3072, .f32⟩
  | .hbm, ⟨5, _⟩ => ⟨S4096x3072, .f32⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S20480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel5.lean ====
abbrev S20480x1024 : Shape := ⟨2, ![20480, 1024]⟩
abbrev S20480x8x128 : Shape := ⟨3, ![20480, 8, 128]⟩
abbrev S8x1x1024 : Shape := ⟨3, ![8, 1, 1024]⟩
abbrev S1024 : Shape := ⟨1, ![1024]⟩
abbrev S1x1024 : Shape := ⟨2, ![1, 1024]⟩
abbrev S4096x1024 : Shape := ⟨2, ![4096, 1024]⟩
abbrev S1024x1024 : Shape := ⟨2, ![1024, 1024]⟩
abbrev S1024x8x128 : Shape := ⟨3, ![1024, 8, 128]⟩
abbrev S1x1x1024 : Shape := ⟨3, ![1, 1, 1024]⟩
abbrev S1024x1x128 : Shape := ⟨3, ![1024, 1, 128]⟩
abbrev S1024x128 : Shape := ⟨2, ![1024, 128]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S20480x1024, .f32⟩
  | .hbm, ⟨1, _⟩ => ⟨S20480x8x128, .f32⟩
  | .hbm, ⟨2, _⟩ => ⟨S8x1x1024, .f32⟩
  | .hbm, ⟨3, _⟩ => ⟨S1024, .f32⟩
  | .hbm, ⟨4, _⟩ => ⟨S1x1024, .f32⟩
  | .hbm, ⟨5, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x8x128, .f32⟩
  | .local _ .vmem, ⟨3, _⟩ => ⟨S1024x8x128, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let c0_i32 : BitVec 32 := 0#32
  let v0 : BitVec 32 := Scalar.addi c0_i32 arg0
  let c4_i32 : BitVec 32 := 4#32
  let v1 : BitVec 32 := Scalar.divsi v0 c4_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32 c0_i32_2
  let v8 : BitVec 32 := Scalar.extui v7
  let c0_i32_3 : BitVec 32 := 0#32
  let v9 : BitVec 1 := Scalar.cmpi .slt c4_i32 c0_i32_3
  let v10 : BitVec 32 := Scalar.extui v9
  let v11 : BitVec 32 := Scalar.subi v8 v10
  let v12 : BitVec 1 := Scalar.cmpi .ne v6 v11
  let v13 : BitVec 32 := Scalar.remsi v0 c4_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S20480x1024 : Shape := ⟨2, ![20480, 1024]⟩
abbrev S20480x8x128 : Shape := ⟨3, ![20480, 8, 128]⟩
abbrev S8x1x1024 : Shape := ⟨3, ![8, 1, 1024]⟩
abbrev S1024 : Shape := ⟨1, ![1024]⟩
abbrev S4096x1024 : Shape := ⟨2, ![4096, 1024]⟩
abbrev S1x1x1024 : Shape := ⟨3, ![1, 1, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S20480x1024, .f32⟩
  | .hbm, ⟨1, _⟩ => ⟨S20480x8x128, .f32⟩
  | .hbm, ⟨2, _⟩ => ⟨S8x1x1024, .f32⟩
  | .hbm, ⟨3, _⟩ => ⟨S1024, .f32⟩
  | .hbm, ⟨4, _⟩ => ⟨S4096x1024, .f32⟩
  | .hbm, ⟨5, _⟩ => ⟨S1x1x1024, .f32⟩
  | .hbm, ⟨6, _⟩ => ⟨S1x1024, .f32⟩
  | .hbm, ⟨7, _⟩ => ⟨S20480x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel6.lean ====
abbrev S20480x1024 : Shape := ⟨2, ![20480, 1024]⟩
abbrev S20480x8x128 : Shape := ⟨3, ![20480, 8, 128]⟩
abbrev S8x1x1024 : Shape := ⟨3, ![8, 1, 1024]⟩
abbrev S1024 : Shape := ⟨1, ![1024]⟩
abbrev S1x1024 : Shape := ⟨2, ![1, 1024]⟩
abbrev S16384x1024 : Shape := ⟨2, ![16384, 1024]⟩
abbrev S1024x1024 : Shape := ⟨2, ![1024, 1024]⟩
abbrev S1024x8x128 : Shape := ⟨3, ![1024, 8, 128]⟩
abbrev S1x1x1024 : Shape := ⟨3, ![1, 1, 1024]⟩
abbrev S1024x1x128 : Shape := ⟨3, ![1024, 1, 128]⟩
abbrev S1024x128 : Shape := ⟨2, ![1024, 128]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S20480x1024, .f32⟩
  | .hbm, ⟨1, _⟩ => ⟨S20480x8x128, .f32⟩
  | .hbm, ⟨2, _⟩ => ⟨S8x1x1024, .f32⟩
  | .hbm, ⟨3, _⟩ => ⟨S1024, .f32⟩
  | .hbm, ⟨4, _⟩ => ⟨S1x1024, .f32⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x8x128, .f32⟩
  | .local _ .vmem, ⟨3, _⟩ => ⟨S1024x8x128, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.addi c4_i32 arg0
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S20480x1024 : Shape := ⟨2, ![20480, 1024]⟩
abbrev S20480x8x128 : Shape := ⟨3, ![20480, 8, 128]⟩
abbrev S8x1x1024 : Shape := ⟨3, ![8, 1, 1024]⟩
abbrev S1024 : Shape := ⟨1, ![1024]⟩
abbrev S16384x1024 : Shape := ⟨2, ![16384, 1024]⟩
abbrev S4x4096x1024 : Shape := ⟨3, ![4, 4096, 1024]⟩
abbrev S4x1x1024 : Shape := ⟨3, ![4, 1, 1024]⟩
abbrev S16384x8x128 : Shape := ⟨3, ![16384, 8, 128]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S20480x1024, .f32⟩
  | .hbm, ⟨1, _⟩ => ⟨S20480x8x128, .f32⟩
  | .hbm, ⟨2, _⟩ => ⟨S8x1x1024, .f32⟩
  | .hbm, ⟨3, _⟩ => ⟨S1024, .f32⟩
  | .hbm, ⟨4, _⟩ => ⟨S16384x1024, .f32⟩
  | .hbm, ⟨5, _⟩ => ⟨S4x4096x1024, .f32⟩
  | .hbm, ⟨6, _⟩ => ⟨S4x1x1024, .f32⟩
  | .hbm, ⟨7, _⟩ => ⟨S16384x8x128, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S16384x1024, .f32⟩
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel7.lean ====
abbrev S20480x1024 : Shape := ⟨2, ![20480, 1024]⟩
abbrev S1x1024x3072 : Shape := ⟨3, ![1, 1024, 3072]⟩
abbrev S16384x3072 : Shape := ⟨2, ![16384, 3072]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S20480x1024, .bf16⟩
  | .hbm, ⟨1, _⟩ => ⟨S1x1024x3072, .f32⟩
  | .hbm, ⟨2, _⟩ => ⟨S16384x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S20480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S20480x1024 : Shape := ⟨2, ![20480, 1024]⟩
abbrev S1x1024x3072 : Shape := ⟨3, ![1, 1024, 3072]⟩
abbrev S16384x1024 : Shape := ⟨2, ![16384, 1024]⟩
abbrev S1024x3072 : Shape := ⟨2, ![1024, 3072]⟩
abbrev S16384x3072 : Shape := ⟨2, ![16384, 3072]⟩

abbrev nBuf : Space → Nat
  | .hbm => 7
  | .vmem => 0
  | .smem => 0
  | _ => 0

abbrev bufTy : (tb : Table) → Fin (tcTables nBuf tb) → BufTy
  | .hbm, ⟨0, _⟩ => ⟨S20480x1024, .bf16⟩
  | .hbm, ⟨1, _⟩ => ⟨S1x1024x3072, .f32⟩
  | .hbm, ⟨2, _⟩ => ⟨S16384x1024, .bf16⟩
  | .hbm, ⟨3, _⟩ => ⟨S16384x1024, .f32⟩
  | .hbm, ⟨4, _⟩ => ⟨S1024x3072, .f32⟩
  | .hbm, ⟨5, _⟩ => ⟨S16384x3072, .f32⟩
  | .hbm, ⟨6, _⟩ => ⟨S16384x3072, .bf16⟩
  | _, _ => ⟨S20480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S20480x1024 : Shape := ⟨2, ![20480, 1024]⟩
abbrev S1x1024x5184 : Shape := ⟨3, ![1, 1024, 5184]⟩
abbrev S20480x2048 : Shape := ⟨2, ![20480, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S20480x1024, .bf16⟩
  | .hbm, ⟨1, _⟩ => ⟨S1x1024x5184, .f32⟩
  | .hbm, ⟨2, _⟩ => ⟨S20480x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S20480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S20480x1024 : Shape := ⟨2, ![20480, 1024]⟩
abbrev S1x1024x5184 : Shape := ⟨3, ![1, 1024, 5184]⟩
abbrev S1024x5184 : Shape := ⟨2, ![1024, 5184]⟩
abbrev S20480x5184 : Shape := ⟨2, ![20480, 5184]⟩
abbrev S20480x2048 : Shape := ⟨2, ![20480, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S20480x1024, .bf16⟩
  | .hbm, ⟨1, _⟩ => ⟨S1x1024x5184, .f32⟩
  | .hbm, ⟨2, _⟩ => ⟨S20480x1024, .f32⟩
  | .hbm, ⟨3, _⟩ => ⟨S1024x5184, .f32⟩
  | .hbm, ⟨4, _⟩ => ⟨S20480x5184, .f32⟩
  | .hbm, ⟨5, _⟩ => ⟨S20480x2048, .f32⟩
  | .hbm, ⟨6, _⟩ => ⟨S20480x2048, .f32⟩
  | .hbm, ⟨7, _⟩ => ⟨S20480x2048, .f32⟩
  | .hbm, ⟨8, _⟩ => ⟨S_, .f32⟩
  | .hbm, ⟨9, _⟩ => ⟨S20480x2048, .f32⟩
  | .hbm, ⟨10, _⟩ => ⟨S20480x2048, .f32⟩
  | .hbm, ⟨11, _⟩ => ⟨S_, .f32⟩
  | .hbm, ⟨12, _⟩ => ⟨S20480x2048, .f32⟩
  | .hbm, ⟨13, _⟩ => ⟨S20480x2048, .f32⟩
  | .hbm, ⟨14, _⟩ => ⟨S20480x2048, .f32⟩
  | .hbm, ⟨15, _⟩ => ⟨S20480x2048, .bf16⟩
  | _, _ => ⟨S20480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== Kernel9.lean ====
abbrev S2x20480x2048 : Shape := ⟨3, ![2, 20480, 2048]⟩
abbrev S20480x2048 : Shape := ⟨2, ![20480, 2048]⟩
abbrev S2048 : Shape := ⟨1, ![2048]⟩
abbrev S1x2048x1024 : Shape := ⟨3, ![1, 2048, 1024]⟩
abbrev S20480x1024 : Shape := ⟨2, ![20480, 1024]⟩
abbrev S8x1x1024 : Shape := ⟨3, ![8, 1, 1024]⟩
abbrev S1024 : Shape := ⟨1, ![1024]⟩
abbrev S1024x16 : Shape := ⟨2, ![1024, 16]⟩
abbrev S1x2048 : Shape := ⟨2, ![1, 2048]⟩
abbrev S1x1024 : Shape := ⟨2, ![1, 1024]⟩
abbrev S16x1024 : Shape := ⟨2, ![16, 1024]⟩
abbrev S16x20480 : Shape := ⟨2, ![16, 20480]⟩
abbrev S1x512x2048 : Shape := ⟨3, ![1, 512, 2048]⟩
abbrev S512x2048 : Shape := ⟨2, ![512, 2048]⟩
abbrev S512x1024 : Shape := ⟨2, ![512, 1024]⟩
abbrev S1x1x1024 : Shape := ⟨3, ![1, 1, 1024]⟩
abbrev S16x512 : Shape := ⟨2, ![16, 512]⟩
abbrev S2048x1024 : Shape := ⟨2, ![2048, 1024]⟩
abbrev S512 : Shape := ⟨1, ![512]⟩
abbrev S512x1 : Shape := ⟨2, ![512, 1]⟩
abbrev S32x1024 : Shape := ⟨2, ![32, 1024]⟩
abbrev S32x512 : Shape := ⟨2, ![32, 512]⟩

abbrev nBuf : Space → Nat
  | .hbm => 16
  | .vmem => 25
  | .smem => 0
  | _ => 0

abbrev bufTy : (tb : Table) → Fin (tcTables nBuf tb) → BufTy
  | .hbm, ⟨0, _⟩ => ⟨S2x20480x2048, .bf16⟩
  | .hbm, ⟨1, _⟩ => ⟨S20480x2048, .bf16⟩
  | .hbm, ⟨2, _⟩ => ⟨S2048, .f32⟩
  | .hbm, ⟨3, _⟩ => ⟨S1x2048x1024, .f32⟩
  | .hbm, ⟨4, _⟩ => ⟨S20480x1024, .f32⟩
  | .hbm, ⟨5, _⟩ => ⟨S8x1x1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S1024x16, .f32⟩
  | .hbm, ⟨10, _⟩ => ⟨S1x2048, .f32⟩
  | .hbm, ⟨11, _⟩ => ⟨S1x1024, .f32⟩
  | .hbm, ⟨12, _⟩ => ⟨S16x1024, .f32⟩
  | .hbm, ⟨13, _⟩ => ⟨S20480x1024, .f32⟩
  | .hbm, ⟨14, _⟩ => ⟨S20480x1024, .f32⟩
  | .hbm, ⟨15, _⟩ => ⟨S16x20480, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S1x2048x1024, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S16x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S16x512, .f32⟩
  | .local _ .vmem, ⟨23, _⟩ => ⟨S16x512, .f32⟩
  | .local _ .vmem, ⟨24, _⟩ => ⟨S2048x1024, .bf16⟩
  | _, _ => ⟨S2x20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![40], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S16x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference9Ideal.lean ====
abbrev S2x20480x2048 : Shape := ⟨3, ![2, 20480, 2048]⟩
abbrev S20480x2048 : Shape := ⟨2, ![20480, 2048]⟩
abbrev S2048 : Shape := ⟨1, ![2048]⟩
abbrev S1x2048x1024 : Shape := ⟨3, ![1, 2048, 1024]⟩
abbrev S20480x1024 : Shape := ⟨2, ![20480, 1024]⟩
abbrev S8x1x1024 : Shape := ⟨3, ![8, 1, 1024]⟩
abbrev S1024 : Shape := ⟨1, ![1024]⟩
abbrev S1024x16 : Shape := ⟨2, ![1024, 16]⟩
abbrev S1x20480x2048 : Shape := ⟨3, ![1, 20480, 2048]⟩
abbrev S5x1x1024 : Shape := ⟨3, ![5, 1, 1024]⟩
abbrev S5x4096x1024 : Shape := ⟨3, ![5, 4096, 1024]⟩
abbrev S_ : Shape := ⟨0, ![]⟩
abbrev S20480 : Shape := ⟨1, ![20480]⟩
abbrev S20480x1 : Shape := ⟨2, ![20480, 1]⟩
abbrev S1x2048 : Shape := ⟨2, ![1, 2048]⟩
abbrev S2048x1024 : Shape := ⟨2, ![2048, 1024]⟩
abbrev S1x1024 : Shape := ⟨2, ![1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2x20480x2048, .bf16⟩
  | .hbm, ⟨1, _⟩ => ⟨S20480x2048, .bf16⟩
  | .hbm, ⟨2, _⟩ => ⟨S2048, .f32⟩
  | .hbm, ⟨3, _⟩ => ⟨S1x2048x1024, .f32⟩
  | .hbm, ⟨4, _⟩ => ⟨S20480x1024, .f32⟩
  | .hbm, ⟨5, _⟩ => ⟨S8x1x1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S1024x16, .f32⟩
  | .hbm, ⟨10, _⟩ => ⟨S1x20480x2048, .bf16⟩
  | .hbm, ⟨11, _⟩ => ⟨S20480x2048, .bf16⟩
  | .hbm, ⟨12, _⟩ => ⟨S20480x2048, .f32⟩
  | .hbm, ⟨13, _⟩ => ⟨S1x20480x2048, .bf16⟩
  | .hbm, ⟨14, _⟩ => ⟨S20480x2048, .bf16⟩
  | .hbm, ⟨15, _⟩ => ⟨S20480x2048, .f32⟩
  | .hbm, ⟨16, _⟩ => ⟨S20480x2048, .f32⟩
  | .hbm, ⟨17, _⟩ => ⟨S20480x2048, .f32⟩
  | .hbm, ⟨18, _⟩ => ⟨S20480x2048, .f32⟩
  | .hbm, ⟨19, _⟩ => ⟨S5x1x1024, .f32⟩
  | .hbm, ⟨20, _⟩ => ⟨S5x4096x1024, .f32⟩
  | .hbm, ⟨21, _⟩ => ⟨S20480x1024, .f32⟩
  | .hbm, ⟨22, _⟩ => ⟨S20480x2048, .f32⟩
  | .hbm, ⟨23, _⟩ => ⟨S_, .f32⟩
  | .hbm, ⟨24, _⟩ => ⟨S20480, .f32⟩
  | .hbm, ⟨25, _⟩ => ⟨S20480x1, .f32⟩
  | .hbm, ⟨26, _⟩ => ⟨S_, .f32⟩
  | .hbm, ⟨27, _⟩ => ⟨S20480x1, .f32⟩
  | .hbm, ⟨28, _⟩ => ⟨S20480x1, .f32⟩
  | .hbm, ⟨29, _⟩ => ⟨S_, .f32⟩
  | .hbm, ⟨30, _⟩ => ⟨S20480x1, .f32⟩
  | .hbm, ⟨31, _⟩ => ⟨S20480x1, .f32⟩
  | .hbm, ⟨32, _⟩ => ⟨S20480x1, .f32⟩
  | .hbm, ⟨33, _⟩ => ⟨S20480x2048, .f32⟩
  | .hbm, ⟨34, _⟩ => ⟨S20480x2048, .f32⟩
  | .hbm, ⟨35, _⟩ => ⟨S1x2048, .f32⟩
  | .hbm, ⟨36, _⟩ => ⟨S20480x2048, .f32⟩
  | .hbm, ⟨37, _⟩ => ⟨S20480x2048, .f32⟩
  | .hbm, ⟨38, _⟩ => ⟨S2048x1024, .f32⟩
  | .hbm, ⟨39, _⟩ => ⟨S20480x1024, .f32⟩
  | .hbm, ⟨40, _⟩ => ⟨S20480x1024, .f32⟩
  | .hbm, ⟨41, _⟩ => ⟨S20480x1024, .f32⟩
  | .hbm, ⟨42, _⟩ => ⟨S20480x1024, .f32⟩
  | .hbm, ⟨43, _⟩ => ⟨S_, .f32⟩
  | .hbm, ⟨44, _⟩ => ⟨S20480, .f32⟩
  | .hbm, ⟨45, _⟩ => ⟨S20480x1, .f32⟩
  | .hbm, ⟨46, _⟩ => ⟨S_, .f32⟩
  | .hbm, ⟨47, _⟩ => ⟨S20480x1, .f32⟩
  | .hbm, ⟨48, _⟩ => ⟨S20480x1, .f32⟩
  | .hbm, ⟨49, _⟩ => ⟨S_, .f32⟩
  | .hbm, ⟨50, _⟩ => ⟨S20480x1, .f32⟩
  | .hbm, ⟨51, _⟩ => ⟨S20480x1, .f32⟩
  | .hbm, ⟨52, _⟩ => ⟨S20480x1, .f32⟩
  | .hbm, ⟨53, _⟩ => ⟨S20480x1024, .f32⟩
  | .hbm, ⟨54, _⟩ => ⟨S20480x1024, .f32⟩
  | .hbm, ⟨55, _⟩ => ⟨S1x1024, .f32⟩
  | .hbm, ⟨56, _⟩ => ⟨S20480x1024, .f32⟩
  | .hbm, ⟨57, _⟩ => ⟨S20480x1024, .f32⟩
  | .hbm, ⟨58, _⟩ => ⟨S5x1x1024, .f32⟩
  | .hbm, ⟨59, _⟩ => ⟨S5x4096x1024, .f32⟩
  | .hbm, ⟨60, _⟩ => ⟨S20480x1024, .f32⟩
  | .hbm, ⟨61, _⟩ => ⟨S_, .f32⟩
  | .hbm, ⟨62, _⟩ => ⟨S20480x1024, .f32⟩
  | .hbm, ⟨63, _⟩ => ⟨S20480x1024, .f32⟩
  | .hbm, ⟨64, _⟩ => ⟨S20480x1024, .f32⟩
  | .hbm, ⟨65, _⟩ => ⟨S5x1x1024, .f32⟩
  | .hbm, ⟨66, _⟩ => ⟨S5x4096x1024, .f32⟩
  | .hbm, ⟨67, _⟩ => ⟨S20480x1024, .f32⟩
  | .hbm, ⟨68, _⟩ => ⟨S20480x1024, .f32⟩
  | _, _ => ⟨S2x20480x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Kernel10.lean ====
abbrev S4096x1024 : Shape := ⟨2, ![4096, 1024]⟩
abbrev S16384x1024 : Shape := ⟨2, ![16384, 1024]⟩
abbrev S1x1024x1024 : Shape := ⟨3, ![1, 1024, 1024]⟩
abbrev S8x1x1024 : Shape := ⟨3, ![8, 1, 1024]⟩
abbrev S1024 : Shape := ⟨1, ![1024]⟩
abbrev S1024x16 : Shape := ⟨2, ![1024, 16]⟩
abbrev S1x1024 : Shape := ⟨2, ![1, 1024]⟩
abbrev S16x1024 : Shape := ⟨2, ![16, 1024]⟩
abbrev S20480x1024 : Shape := ⟨2, ![20480, 1024]⟩
abbrev S16x20480 : Shape := ⟨2, ![16, 20480]⟩
abbrev S512x1024 : Shape := ⟨2, ![512, 1024]⟩
abbrev S1x1x1024 : Shape := ⟨3, ![1, 1, 1024]⟩
abbrev S16x512 : Shape := ⟨2, ![16, 512]⟩
abbrev S1024x1024 : Shape := ⟨2, ![1024, 1024]⟩
abbrev S512 : Shape := ⟨1, ![512]⟩
abbrev S512x1 : Shape := ⟨2, ![512, 1]⟩
abbrev S32x1024 : Shape := ⟨2, ![32, 1024]⟩
abbrev S32x512 : Shape := ⟨2, ![32, 512]⟩

abbrev nBuf : Space → Nat
  | .hbm => 15
  | .vmem => 24
  | .smem => 0
  | _ => 0

abbrev bufTy : (tb : Table) → Fin (tcTables nBuf tb) → BufTy
  | .hbm, ⟨0, _⟩ => ⟨S4096x1024, .bf16⟩
  | .hbm, ⟨1, _⟩ => ⟨S16384x1024, .bf16⟩
  | .hbm, ⟨2, _⟩ => ⟨S1x1024x1024, .f32⟩
  | .hbm, ⟨3, _⟩ => ⟨S4096x1024, .f32⟩
  | .hbm, ⟨4, _⟩ => ⟨S16384x1024, .f32⟩
  | .hbm, ⟨5, _⟩ => ⟨S8x1x1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S1024x16, .f32⟩
  | .hbm, ⟨10, _⟩ => ⟨S1x1024, .f32⟩
  | .hbm, ⟨11, _⟩ => ⟨S16x1024, .f32⟩
  | .hbm, ⟨12, _⟩ => ⟨S20480x1024, .f32⟩
  | .hbm, ⟨13, _⟩ => ⟨S20480x1024, .f32⟩
  | .hbm, ⟨14, _⟩ => ⟨S16x20480, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S16x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S16x512, .f32⟩
  | .local _ .vmem, ⟨22, _⟩ => ⟨S16x512, .f32⟩
  | .local _ .vmem, ⟨23, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference10Ideal.lean ====
abbrev S4096x1024 : Shape := ⟨2, ![4096, 1024]⟩
abbrev S16384x1024 : Shape := ⟨2, ![16384, 1024]⟩
abbrev S1x1024x1024 : Shape := ⟨3, ![1, 1024, 1024]⟩
abbrev S8x1x1024 : Shape := ⟨3, ![8, 1, 1024]⟩
abbrev S1024 : Shape := ⟨1, ![1024]⟩
abbrev S1024x16 : Shape := ⟨2, ![1024, 16]⟩
abbrev S20480x1024 : Shape := ⟨2, ![20480, 1024]⟩
abbrev S5x1x1024 : Shape := ⟨3, ![5, 1, 1024]⟩
abbrev S5x4096x1024 : Shape := ⟨3, ![5, 4096, 1024]⟩
abbrev S1024x1024 : Shape := ⟨2, ![1024, 1024]⟩
abbrev S_ : Shape := ⟨0, ![]⟩
abbrev S20480 : Shape := ⟨1, ![20480]⟩
abbrev S20480x1 : Shape := ⟨2, ![20480, 1]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S16384x1024, .bf16⟩
  | .hbm, ⟨2, _⟩ => ⟨S1x1024x1024, .f32⟩
  | .hbm, ⟨3, _⟩ => ⟨S4096x1024, .f32⟩
  | .hbm, ⟨4, _⟩ => ⟨S16384x1024, .f32⟩
  | .hbm, ⟨5, _⟩ => ⟨S8x1x1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S1024x16, .f32⟩
  | .hbm, ⟨10, _⟩ => ⟨S20480x1024, .bf16⟩
  | .hbm, ⟨11, _⟩ => ⟨S20480x1024, .f32⟩
  | .hbm, ⟨12, _⟩ => ⟨S20480x1024, .f32⟩
  | .hbm, ⟨13, _⟩ => ⟨S5x1x1024, .f32⟩
  | .hbm, ⟨14, _⟩ => ⟨S5x4096x1024, .f32⟩
  | .hbm, ⟨15, _⟩ => ⟨S20480x1024, .f32⟩
  | .hbm, ⟨16, _⟩ => ⟨S1024x1024, .f32⟩
  | .hbm, ⟨17, _⟩ => ⟨S20480x1024, .f32⟩
  | .hbm, ⟨18, _⟩ => ⟨S20480x1024, .f32⟩
  | .hbm, ⟨19, _⟩ => ⟨S20480x1024, .f32⟩
  | .hbm, ⟨20, _⟩ => ⟨S20480x1024, .f32⟩
  | .hbm, ⟨21, _⟩ => ⟨S_, .f32⟩
  | .hbm, ⟨22, _⟩ => ⟨S20480, .f32⟩
  | .hbm, ⟨23, _⟩ => ⟨S20480x1, .f32⟩
  | .hbm, ⟨24, _⟩ => ⟨S_, .f32⟩
  | .hbm, ⟨25, _⟩ => ⟨S20480x1, .f32⟩
  | .hbm, ⟨26, _⟩ => ⟨S20480x1, .f32⟩
  | .hbm, ⟨27, _⟩ => ⟨S_, .f32⟩
  | .hbm, ⟨28, _⟩ => ⟨S20480x1, .f32⟩
  | .hbm, ⟨29, _⟩ => ⟨S20480x1, .f32⟩
  | .hbm, ⟨30, _⟩ => ⟨S20480x1, .f32⟩
  | .hbm, ⟨31, _⟩ => ⟨S20480x1024, .f32⟩
  | .hbm, ⟨32, _⟩ => ⟨S20480x1024, .f32⟩
  | .hbm, ⟨33, _⟩ => ⟨S1x1024, .f32⟩
  | .hbm, ⟨34, _⟩ => ⟨S20480x1024, .f32⟩
  | .hbm, ⟨35, _⟩ => ⟨S20480x1024, .f32⟩
  | .hbm, ⟨36, _⟩ => ⟨S5x1x1024, .f32⟩
  | .hbm, ⟨37, _⟩ => ⟨S5x4096x1024, .f32⟩
  | .hbm, ⟨38, _⟩ => ⟨S20480x1024, .f32⟩
  | .hbm, ⟨39, _⟩ => ⟨S_, .f32⟩
  | .hbm, ⟨40, _⟩ => ⟨S20480x1024, .f32⟩
  | .hbm, ⟨41, _⟩ => ⟨S20480x1024, .f32⟩
  | .hbm, ⟨42, _⟩ => ⟨S20480x1024, .f32⟩
  | .hbm, ⟨43, _⟩ => ⟨S5x1x1024, .f32⟩
  | .hbm, ⟨44, _⟩ => ⟨S5x4096x1024, .f32⟩
  | .hbm, ⟨45, _⟩ => ⟨S20480x1024, .f32⟩
  | .hbm, ⟨46, _⟩ => ⟨S20480x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel11.lean ====
abbrev S20480x1024 : Shape := ⟨2, ![20480, 1024]⟩
abbrev S1x1024x3072 : Shape := ⟨3, ![1, 1024, 3072]⟩
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S20480x1024, .bf16⟩
  | .hbm, ⟨1, _⟩ => ⟨S1x1024x3072, .f32⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | _, _ => ⟨S20480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S20480x1024 : Shape := ⟨2, ![20480, 1024]⟩
abbrev S1x1024x3072 : Shape := ⟨3, ![1, 1024, 3072]⟩
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 9
  | .vmem => 0
  | .smem => 0
  | _ => 0

abbrev bufTy : (tb : Table) → Fin (tcTables nBuf tb) → BufTy
  | .hbm, ⟨0, _⟩ => ⟨S20480x1024, .bf16⟩
  | .hbm, ⟨1, _⟩ => ⟨S1x1024x3072, .f32⟩
  | .hbm, ⟨2, _⟩ => ⟨S4096x1024, .bf16⟩
  | .hbm, ⟨3, _⟩ => ⟨S4096x1024, .f32⟩
  | .hbm, ⟨4, _⟩ => ⟨S1024x3072, .f32⟩
  | .hbm, ⟨5, _⟩ => ⟨S4096x3072, .f32⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S20480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Proof.PreFacts.lean ====
module

public import proofs.«01_k».proof.Pre_finite

@[expose] public section

namespace Cert.Attn

open Idealize.ShloMosaic

/-- The facts the precondition states over its shapes. -/
theorem preFacts : Cert.Pre_finite.Facts where
  slices_S4x4096x3072_S4x4096x2048_0_0_0 := by decide
  bitsLt_bf16_f32 := by decide
  bcast_S_S4x4096x2048 := by decide
  bcast_S_S4x1x256x16x64 := by decide
  bcast_S_S1x16x15x31 := by decide

end Cert.Attn

end
-- ==== Proof.Moe.Facts.lean ====
module

public import proofs.«01_k».proof.Kernel2
public import proofs.«01_k».proof.Proof.Gen.Kernel2Ideal

@[expose] public section

set_option maxRecDepth 16384

namespace Cert.Moe

open Idealize.ShloMosaic

/-- The facts the expert kernel states over its shapes: it is the text of its ideal reading, so they are that reading's facts. -/
theorem kernelFacts : Cert.Kernel2.Facts where
  shapeCasts_S16x2560_S16x1x2560 := @Cert.Kernel2Ideal.Gen.shapeCasts_S16x2560_S16x1x2560
  inb_S1x1x1024x512_S1x1x1024x512_0_0_0_0 := @Cert.Kernel2Ideal.Gen.inb_S1x1x1024x512_S1x1x1024x512_0_0_0_0
  h_S1x1x1024x512 := @Cert.Kernel2Ideal.Gen.h_S1x1x1024x512
  shapeCasts_S1x1x1024x512_S1024x512 := @Cert.Kernel2Ideal.Gen.shapeCasts_S1x1x1024x512_S1024x512
  bitsLt_bf16_f32 := @Cert.Kernel2Ideal.Gen.bitsLt_bf16_f32
  inb_S1x1x512x1024_S1x1x512x1024_0_0_0_0 := @Cert.Kernel2Ideal.Gen.inb_S1x1x512x1024_S1x1x512x1024_0_0_0_0
  h_S1x1x512x1024 := @Cert.Kernel2Ideal.Gen.h_S1x1x512x1024
  shapeCasts_S1x1x512x1024_S512x1024 := @Cert.Kernel2Ideal.Gen.shapeCasts_S1x1x512x1024_S512x1024
  inb_S1x2560x1024_S1x2560x1024_0_0_0 := @Cert.Kernel2Ideal.Gen.inb_S1x2560x1024_S1x2560x1024_0_0_0
  h_S1x2560x1024 := @Cert.Kernel2Ideal.Gen.h_S1x2560x1024
  inb_S1x2560x1024_S1x512x1024_0_0_0 := @Cert.Kernel2Ideal.Gen.inb_S1x2560x1024_S1x512x1024_0_0_0
  h_S1x512x1024 := @Cert.Kernel2Ideal.Gen.h_S1x512x1024
  shapeCasts_S1x512x1024_S512x1024 := @Cert.Kernel2Ideal.Gen.shapeCasts_S1x512x1024_S512x1024
  shapeCasts_S512x1024_S1x512x1024 := @Cert.Kernel2Ideal.Gen.shapeCasts_S512x1024_S1x512x1024
  inb_S1x2560x1024_S1x512x1024_0_512_0 := @Cert.Kernel2Ideal.Gen.inb_S1x2560x1024_S1x512x1024_0_512_0
  inb_S1x2560x1024_S1x512x1024_0_1024_0 := @Cert.Kernel2Ideal.Gen.inb_S1x2560x1024_S1x512x1024_0_1024_0
  inb_S1x2560x1024_S1x512x1024_0_1536_0 := @Cert.Kernel2Ideal.Gen.inb_S1x2560x1024_S1x512x1024_0_1536_0
  inb_S1x2560x1024_S1x512x1024_0_2048_0 := @Cert.Kernel2Ideal.Gen.inb_S1x2560x1024_S1x512x1024_0_2048_0
  inb_S1x1x2560_S1x1x128_0_0_0 := @Cert.Kernel2Ideal.Gen.inb_S1x1x2560_S1x1x128_0_0_0
  h_S1x1x128 := @Cert.Kernel2Ideal.Gen.h_S1x1x128
  shapeCasts_S1x1x128_S1x128 := @Cert.Kernel2Ideal.Gen.shapeCasts_S1x1x128_S1x128
  shapeCasts_S1x128_S1x128 := @Cert.Kernel2Ideal.Gen.shapeCasts_S1x128_S1x128
  broadcasts_S1x128_S128x128 := @Cert.Kernel2Ideal.Gen.broadcasts_S1x128_S128x128
  transposes_S128x128_p1_0_S128x128 := @Cert.Kernel2Ideal.Gen.transposes_S128x128_p1_0_S128x128
  inb_S1x2560x1024_S1x128x128_0_0_0 := @Cert.Kernel2Ideal.Gen.inb_S1x2560x1024_S1x128x128_0_0_0
  h_S1x128x128 := @Cert.Kernel2Ideal.Gen.h_S1x128x128
  shapeCasts_S1x128x128_S128x128 := @Cert.Kernel2Ideal.Gen.shapeCasts_S1x128x128_S128x128
  shapeCasts_S128x128_S1x128x128 := @Cert.Kernel2Ideal.Gen.shapeCasts_S128x128_S1x128x128
  inb_S1x2560x1024_S1x128x128_0_0_128 := @Cert.Kernel2Ideal.Gen.inb_S1x2560x1024_S1x128x128_0_0_128
  inb_S1x2560x1024_S1x128x128_0_0_256 := @Cert.Kernel2Ideal.Gen.inb_S1x2560x1024_S1x128x128_0_0_256
  inb_S1x2560x1024_S1x128x128_0_0_384 := @Cert.Kernel2Ideal.Gen.inb_S1x2560x1024_S1x128x128_0_0_384
  inb_S1x2560x1024_S1x128x128_0_0_512 := @Cert.Kernel2Ideal.Gen.inb_S1x2560x1024_S1x128x128_0_0_512
  inb_S1x2560x1024_S1x128x128_0_0_640 := @Cert.Kernel2Ideal.Gen.inb_S1x2560x1024_S1x128x128_0_0_640
  inb_S1x2560x1024_S1x128x128_0_0_768 := @Cert.Kernel2Ideal.Gen.inb_S1x2560x1024_S1x128x128_0_0_768
  inb_S1x2560x1024_S1x128x128_0_0_896 := @Cert.Kernel2Ideal.Gen.inb_S1x2560x1024_S1x128x128_0_0_896
  inb_S1x1x2560_S1x1x128_0_0_128 := @Cert.Kernel2Ideal.Gen.inb_S1x1x2560_S1x1x128_0_0_128
  inb_S1x2560x1024_S1x128x128_0_128_0 := @Cert.Kernel2Ideal.Gen.inb_S1x2560x1024_S1x128x128_0_128_0
  inb_S1x2560x1024_S1x128x128_0_128_128 := @Cert.Kernel2Ideal.Gen.inb_S1x2560x1024_S1x128x128_0_128_128
  inb_S1x2560x1024_S1x128x128_0_128_256 := @Cert.Kernel2Ideal.Gen.inb_S1x2560x1024_S1x128x128_0_128_256
  inb_S1x2560x1024_S1x128x128_0_128_384 := @Cert.Kernel2Ideal.Gen.inb_S1x2560x1024_S1x128x128_0_128_384
  inb_S1x2560x1024_S1x128x128_0_128_512 := @Cert.Kernel2Ideal.Gen.inb_S1x2560x1024_S1x128x128_0_128_512
  inb_S1x2560x1024_S1x128x128_0_128_640 := @Cert.Kernel2Ideal.Gen.inb_S1x2560x1024_S1x128x128_0_128_640
  inb_S1x2560x1024_S1x128x128_0_128_768 := @Cert.Kernel2Ideal.Gen.inb_S1x2560x1024_S1x128x128_0_128_768
  inb_S1x2560x1024_S1x128x128_0_128_896 := @Cert.Kernel2Ideal.Gen.inb_S1x2560x1024_S1x128x128_0_128_896
  inb_S1x1x2560_S1x1x128_0_0_256 := @Cert.Kernel2Ideal.Gen.inb_S1x1x2560_S1x1x128_0_0_256
  inb_S1x2560x1024_S1x128x128_0_256_0 := @Cert.Kernel2Ideal.Gen.inb_S1x2560x1024_S1x128x128_0_256_0
  inb_S1x2560x1024_S1x128x128_0_256_128 := @Cert.Kernel2Ideal.Gen.inb_S1x2560x1024_S1x128x128_0_256_128
  inb_S1x2560x1024_S1x128x128_0_256_256 := @Cert.Kernel2Ideal.Gen.inb_S1x2560x1024_S1x128x128_0_256_256
  inb_S1x2560x1024_S1x128x128_0_256_384 := @Cert.Kernel2Ideal.Gen.inb_S1x2560x1024_S1x128x128_0_256_384
  inb_S1x2560x1024_S1x128x128_0_256_512 := @Cert.Kernel2Ideal.Gen.inb_S1x2560x1024_S1x128x128_0_256_512
  inb_S1x2560x1024_S1x128x128_0_256_640 := @Cert.Kernel2Ideal.Gen.inb_S1x2560x1024_S1x128x128_0_256_640
  inb_S1x2560x1024_S1x128x128_0_256_768 := @Cert.Kernel2Ideal.Gen.inb_S1x2560x1024_S1x128x128_0_256_768
  inb_S1x2560x1024_S1x128x128_0_256_896 := @Cert.Kernel2Ideal.Gen.inb_S1x2560x1024_S1x128x128_0_256_896
  inb_S1x1x2560_S1x1x128_0_0_384 := @Cert.Kernel2Ideal.Gen.inb_S1x1x2560_S1x1x128_0_0_384
  inb_S1x2560x1024_S1x128x128_0_384_0 := @Cert.Kernel2Ideal.Gen.inb_S1x2560x1024_S1x128x128_0_384_0
  inb_S1x2560x1024_S1x128x128_0_384_128 := @Cert.Kernel2Ideal.Gen.inb_S1x2560x1024_S1x128x128_0_384_128
  inb_S1x2560x1024_S1x128x128_0_384_256 := @Cert.Kernel2Ideal.Gen.inb_S1x2560x1024_S1x128x128_0_384_256
  inb_S1x2560x1024_S1x128x128_0_384_384 := @Cert.Kernel2Ideal.Gen.inb_S1x2560x1024_S1x128x128_0_384_384
  inb_S1x2560x1024_S1x128x128_0_384_512 := @Cert.Kernel2Ideal.Gen.inb_S1x2560x1024_S1x128x128_0_384_512
  inb_S1x2560x1024_S1x128x128_0_384_640 := @Cert.Kernel2Ideal.Gen.inb_S1x2560x1024_S1x128x128_0_384_640
  inb_S1x2560x1024_S1x128x128_0_384_768 := @Cert.Kernel2Ideal.Gen.inb_S1x2560x1024_S1x128x128_0_384_768
  inb_S1x2560x1024_S1x128x128_0_384_896 := @Cert.Kernel2Ideal.Gen.inb_S1x2560x1024_S1x128x128_0_384_896
  inb_S1x1x2560_S1x1x128_0_0_512 := @Cert.Kernel2Ideal.Gen.inb_S1x1x2560_S1x1x128_0_0_512
  inb_S1x2560x1024_S1x128x128_0_512_0 := @Cert.Kernel2Ideal.Gen.inb_S1x2560x1024_S1x128x128_0_512_0
  inb_S1x2560x1024_S1x128x128_0_512_128 := @Cert.Kernel2Ideal.Gen.inb_S1x2560x1024_S1x128x128_0_512_128
  inb_S1x2560x1024_S1x128x128_0_512_256 := @Cert.Kernel2Ideal.Gen.inb_S1x2560x1024_S1x128x128_0_512_256
  inb_S1x2560x1024_S1x128x128_0_512_384 := @Cert.Kernel2Ideal.Gen.inb_S1x2560x1024_S1x128x128_0_512_384
  inb_S1x2560x1024_S1x128x128_0_512_512 := @Cert.Kernel2Ideal.Gen.inb_S1x2560x1024_S1x128x128_0_512_512
  inb_S1x2560x1024_S1x128x128_0_512_640 := @Cert.Kernel2Ideal.Gen.inb_S1x2560x1024_S1x128x128_0_512_640
  inb_S1x2560x1024_S1x128x128_0_512_768 := @Cert.Kernel2Ideal.Gen.inb_S1x2560x1024_S1x128x128_0_512_768
  inb_S1x2560x1024_S1x128x128_0_512_896 := @Cert.Kernel2Ideal.Gen.inb_S1x2560x1024_S1x128x128_0_512_896
  inb_S1x1x2560_S1x1x128_0_0_640 := @Cert.Kernel2Ideal.Gen.inb_S1x1x2560_S1x1x128_0_0_640
  inb_S1x2560x1024_S1x128x128_0_640_0 := @Cert.Kernel2Ideal.Gen.inb_S1x2560x1024_S1x128x128_0_640_0
  inb_S1x2560x1024_S1x128x128_0_640_128 := @Cert.Kernel2Ideal.Gen.inb_S1x2560x1024_S1x128x128_0_640_128
  inb_S1x2560x1024_S1x128x128_0_640_256 := @Cert.Kernel2Ideal.Gen.inb_S1x2560x1024_S1x128x128_0_640_256
  inb_S1x2560x1024_S1x128x128_0_640_384 := @Cert.Kernel2Ideal.Gen.inb_S1x2560x1024_S1x128x128_0_640_384
  inb_S1x2560x1024_S1x128x128_0_640_512 := @Cert.Kernel2Ideal.Gen.inb_S1x2560x1024_S1x128x128_0_640_512
  inb_S1x2560x1024_S1x128x128_0_640_640 := @Cert.Kernel2Ideal.Gen.inb_S1x2560x1024_S1x128x128_0_640_640
  inb_S1x2560x1024_S1x128x128_0_640_768 := @Cert.Kernel2Ideal.Gen.inb_S1x2560x1024_S1x128x128_0_640_768
  inb_S1x2560x1024_S1x128x128_0_640_896 := @Cert.Kernel2Ideal.Gen.inb_S1x2560x1024_S1x128x128_0_640_896
  inb_S1x1x2560_S1x1x128_0_0_768 := @Cert.Kernel2Ideal.Gen.inb_S1x1x2560_S1x1x128_0_0_768
  inb_S1x2560x1024_S1x128x128_0_768_0 := @Cert.Kernel2Ideal.Gen.inb_S1x2560x1024_S1x128x128_0_768_0
  inb_S1x2560x1024_S1x128x128_0_768_128 := @Cert.Kernel2Ideal.Gen.inb_S1x2560x1024_S1x128x128_0_768_128
  inb_S1x2560x1024_S1x128x128_0_768_256 := @Cert.Kernel2Ideal.Gen.inb_S1x2560x1024_S1x128x128_0_768_256
  inb_S1x2560x1024_S1x128x128_0_768_384 := @Cert.Kernel2Ideal.Gen.inb_S1x2560x1024_S1x128x128_0_768_384
  inb_S1x2560x1024_S1x128x128_0_768_512 := @Cert.Kernel2Ideal.Gen.inb_S1x2560x1024_S1x128x128_0_768_512
  inb_S1x2560x1024_S1x128x128_0_768_640 := @Cert.Kernel2Ideal.Gen.inb_S1x2560x1024_S1x128x128_0_768_640
  inb_S1x2560x1024_S1x128x128_0_768_768 := @Cert.Kernel2Ideal.Gen.inb_S1x2560x1024_S1x128x128_0_768_768
  inb_S1x2560x1024_S1x128x128_0_768_896 := @Cert.Kernel2Ideal.Gen.inb_S1x2560x1024_S1x128x128_0_768_896
  inb_S1x1x2560_S1x1x128_0_0_896 := @Cert.Kernel2Ideal.Gen.inb_S1x1x2560_S1x1x128_0_0_896
  inb_S1x2560x1024_S1x128x128_0_896_0 := @Cert.Kernel2Ideal.Gen.inb_S1x2560x1024_S1x128x128_0_896_0
  inb_S1x2560x1024_S1x128x128_0_896_128 := @Cert.Kernel2Ideal.Gen.inb_S1x2560x1024_S1x128x128_0_896_128
  inb_S1x2560x1024_S1x128x128_0_896_256 := @Cert.Kernel2Ideal.Gen.inb_S1x2560x1024_S1x128x128_0_896_256
  inb_S1x2560x1024_S1x128x128_0_896_384 := @Cert.Kernel2Ideal.Gen.inb_S1x2560x1024_S1x128x128_0_896_384
  inb_S1x2560x1024_S1x128x128_0_896_512 := @Cert.Kernel2Ideal.Gen.inb_S1x2560x1024_S1x128x128_0_896_512
  inb_S1x2560x1024_S1x128x128_0_896_640 := @Cert.Kernel2Ideal.Gen.inb_S1x2560x1024_S1x128x128_0_896_640
  inb_S1x2560x1024_S1x128x128_0_896_768 := @Cert.Kernel2Ideal.Gen.inb_S1x2560x1024_S1x128x128_0_896_768
  inb_S1x2560x1024_S1x128x128_0_896_896 := @Cert.Kernel2Ideal.Gen.inb_S1x2560x1024_S1x128x128_0_896_896
  inb_S1x1x2560_S1x1x128_0_0_1024 := @Cert.Kernel2Ideal.Gen.inb_S1x1x2560_S1x1x128_0_0_1024
  inb_S1x2560x1024_S1x128x128_0_1024_0 := @Cert.Kernel2Ideal.Gen.inb_S1x2560x1024_S1x128x128_0_1024_0
  inb_S1x2560x1024_S1x128x128_0_1024_128 := @Cert.Kernel2Ideal.Gen.inb_S1x2560x1024_S1x128x128_0_1024_128
  inb_S1x2560x1024_S1x128x128_0_1024_256 := @Cert.Kernel2Ideal.Gen.inb_S1x2560x1024_S1x128x128_0_1024_256
  inb_S1x2560x1024_S1x128x128_0_1024_384 := @Cert.Kernel2Ideal.Gen.inb_S1x2560x1024_S1x128x128_0_1024_384
  inb_S1x2560x1024_S1x128x128_0_1024_512 := @Cert.Kernel2Ideal.Gen.inb_S1x2560x1024_S1x128x128_0_1024_512
  inb_S1x2560x1024_S1x128x128_0_1024_640 := @Cert.Kernel2Ideal.Gen.inb_S1x2560x1024_S1x128x128_0_1024_640
  inb_S1x2560x1024_S1x128x128_0_1024_768 := @Cert.Kernel2Ideal.Gen.inb_S1x2560x1024_S1x128x128_0_1024_768
  inb_S1x2560x1024_S1x128x128_0_1024_896 := @Cert.Kernel2Ideal.Gen.inb_S1x2560x1024_S1x128x128_0_1024_896
  inb_S1x1x2560_S1x1x128_0_0_1152 := @Cert.Kernel2Ideal.Gen.inb_S1x1x2560_S1x1x128_0_0_1152
  inb_S1x2560x1024_S1x128x128_0_1152_0 := @Cert.Kernel2Ideal.Gen.inb_S1x2560x1024_S1x128x128_0_1152_0
  inb_S1x2560x1024_S1x128x128_0_1152_128 := @Cert.Kernel2Ideal.Gen.inb_S1x2560x1024_S1x128x128_0_1152_128
  inb_S1x2560x1024_S1x128x128_0_1152_256 := @Cert.Kernel2Ideal.Gen.inb_S1x2560x1024_S1x128x128_0_1152_256
  inb_S1x2560x1024_S1x128x128_0_1152_384 := @Cert.Kernel2Ideal.Gen.inb_S1x2560x1024_S1x128x128_0_1152_384
  inb_S1x2560x1024_S1x128x128_0_1152_512 := @Cert.Kernel2Ideal.Gen.inb_S1x2560x1024_S1x128x128_0_1152_512
  inb_S1x2560x1024_S1x128x128_0_1152_640 := @Cert.Kernel2Ideal.Gen.inb_S1x2560x1024_S1x128x128_0_1152_640
  inb_S1x2560x1024_S1x128x128_0_1152_768 := @Cert.Kernel2Ideal.Gen.inb_S1x2560x1024_S1x128x128_0_1152_768
  inb_S1x2560x1024_S1x128x128_0_1152_896 := @Cert.Kernel2Ideal.Gen.inb_S1x2560x1024_S1x128x128_0_1152_896
  inb_S1x1x2560_S1x1x128_0_0_1280 := @Cert.Kernel2Ideal.Gen.inb_S1x1x2560_S1x1x128_0_0_1280
  inb_S1x2560x1024_S1x128x128_0_1280_0 := @Cert.Kernel2Ideal.Gen.inb_S1x2560x1024_S1x128x128_0_1280_0
  inb_S1x2560x1024_S1x128x128_0_1280_128 := @Cert.Kernel2Ideal.Gen.inb_S1x2560x1024_S1x128x128_0_1280_128
  inb_S1x2560x1024_S1x128x128_0_1280_256 := @Cert.Kernel2Ideal.Gen.inb_S1x2560x1024_S1x128x128_0_1280_256
  inb_S1x2560x1024_S1x128x128_0_1280_384 := @Cert.Kernel2Ideal.Gen.inb_S1x2560x1024_S1x128x128_0_1280_384
  inb_S1x2560x1024_S1x128x128_0_1280_512 := @Cert.Kernel2Ideal.Gen.inb_S1x2560x1024_S1x128x128_0_1280_512
  inb_S1x2560x1024_S1x128x128_0_1280_640 := @Cert.Kernel2Ideal.Gen.inb_S1x2560x1024_S1x128x128_0_1280_640
  inb_S1x2560x1024_S1x128x128_0_1280_768 := @Cert.Kernel2Ideal.Gen.inb_S1x2560x1024_S1x128x128_0_1280_768
  inb_S1x2560x1024_S1x128x128_0_1280_896 := @Cert.Kernel2Ideal.Gen.inb_S1x2560x1024_S1x128x128_0_1280_896
  inb_S1x1x2560_S1x1x128_0_0_1408 := @Cert.Kernel2Ideal.Gen.inb_S1x1x2560_S1x1x128_0_0_1408
  inb_S1x2560x1024_S1x128x128_0_1408_0 := @Cert.Kernel2Ideal.Gen.inb_S1x2560x1024_S1x128x128_0_1408_0
  inb_S1x2560x1024_S1x128x128_0_1408_128 := @Cert.Kernel2Ideal.Gen.inb_S1x2560x1024_S1x128x128_0_1408_128
  inb_S1x2560x1024_S1x128x128_0_1408_256 := @Cert.Kernel2Ideal.Gen.inb_S1x2560x1024_S1x128x128_0_1408_256
  inb_S1x2560x1024_S1x128x128_0_1408_384 := @Cert.Kernel2Ideal.Gen.inb_S1x2560x1024_S1x128x128_0_1408_384
  inb_S1x2560x1024_S1x128x128_0_1408_512 := @Cert.Kernel2Ideal.Gen.inb_S1x2560x1024_S1x128x128_0_1408_512
  inb_S1x2560x1024_S1x128x128_0_1408_640 := @Cert.Kernel2Ideal.Gen.inb_S1x2560x1024_S1x128x128_0_1408_640
  inb_S1x2560x1024_S1x128x128_0_1408_768 := @Cert.Kernel2Ideal.Gen.inb_S1x2560x1024_S1x128x128_0_1408_768
  inb_S1x2560x1024_S1x128x128_0_1408_896 := @Cert.Kernel2Ideal.Gen.inb_S1x2560x1024_S1x128x128_0_1408_896
  inb_S1x1x2560_S1x1x128_0_0_1536 := @Cert.Kernel2Ideal.Gen.inb_S1x1x2560_S1x1x128_0_0_1536
  inb_S1x2560x1024_S1x128x128_0_1536_0 := @Cert.Kernel2Ideal.Gen.inb_S1x2560x1024_S1x128x128_0_1536_0
  inb_S1x2560x1024_S1x128x128_0_1536_128 := @Cert.Kernel2Ideal.Gen.inb_S1x2560x1024_S1x128x128_0_1536_128
  inb_S1x2560x1024_S1x128x128_0_1536_256 := @Cert.Kernel2Ideal.Gen.inb_S1x2560x1024_S1x128x128_0_1536_256
  inb_S1x2560x1024_S1x128x128_0_1536_384 := @Cert.Kernel2Ideal.Gen.inb_S1x2560x1024_S1x128x128_0_1536_384
  inb_S1x2560x1024_S1x128x128_0_1536_512 := @Cert.Kernel2Ideal.Gen.inb_S1x2560x1024_S1x128x128_0_1536_512
  inb_S1x2560x1024_S1x128x128_0_1536_640 := @Cert.Kernel2Ideal.Gen.inb_S1x2560x1024_S1x128x128_0_1536_640
  inb_S1x2560x1024_S1x128x128_0_1536_768 := @Cert.Kernel2Ideal.Gen.inb_S1x2560x1024_S1x128x128_0_1536_768
  inb_S1x2560x1024_S1x128x128_0_1536_896 := @Cert.Kernel2Ideal.Gen.inb_S1x2560x1024_S1x128x128_0_1536_896
  inb_S1x1x2560_S1x1x128_0_0_1664 := @Cert.Kernel2Ideal.Gen.inb_S1x1x2560_S1x1x128_0_0_1664
  inb_S1x2560x1024_S1x128x128_0_1664_0 := @Cert.Kernel2Ideal.Gen.inb_S1x2560x1024_S1x128x128_0_1664_0
  inb_S1x2560x1024_S1x128x128_0_1664_128 := @Cert.Kernel2Ideal.Gen.inb_S1x2560x1024_S1x128x128_0_1664_128
  inb_S1x2560x1024_S1x128x128_0_1664_256 := @Cert.Kernel2Ideal.Gen.inb_S1x2560x1024_S1x128x128_0_1664_256
  inb_S1x2560x1024_S1x128x128_0_1664_384 := @Cert.Kernel2Ideal.Gen.inb_S1x2560x1024_S1x128x128_0_1664_384
  inb_S1x2560x1024_S1x128x128_0_1664_512 := @Cert.Kernel2Ideal.Gen.inb_S1x2560x1024_S1x128x128_0_1664_512
  inb_S1x2560x1024_S1x128x128_0_1664_640 := @Cert.Kernel2Ideal.Gen.inb_S1x2560x1024_S1x128x128_0_1664_640
  inb_S1x2560x1024_S1x128x128_0_1664_768 := @Cert.Kernel2Ideal.Gen.inb_S1x2560x1024_S1x128x128_0_1664_768
  inb_S1x2560x1024_S1x128x128_0_1664_896 := @Cert.Kernel2Ideal.Gen.inb_S1x2560x1024_S1x128x128_0_1664_896
  inb_S1x1x2560_S1x1x128_0_0_1792 := @Cert.Kernel2Ideal.Gen.inb_S1x1x2560_S1x1x128_0_0_1792
  inb_S1x2560x1024_S1x128x128_0_1792_0 := @Cert.Kernel2Ideal.Gen.inb_S1x2560x1024_S1x128x128_0_1792_0
  inb_S1x2560x1024_S1x128x128_0_1792_128 := @Cert.Kernel2Ideal.Gen.inb_S1x2560x1024_S1x128x128_0_1792_128
  inb_S1x2560x1024_S1x128x128_0_1792_256 := @Cert.Kernel2Ideal.Gen.inb_S1x2560x1024_S1x128x128_0_1792_256
  inb_S1x2560x1024_S1x128x128_0_1792_384 := @Cert.Kernel2Ideal.Gen.inb_S1x2560x1024_S1x128x128_0_1792_384
  inb_S1x2560x1024_S1x128x128_0_1792_512 := @Cert.Kernel2Ideal.Gen.inb_S1x2560x1024_S1x128x128_0_1792_512
  inb_S1x2560x1024_S1x128x128_0_1792_640 := @Cert.Kernel2Ideal.Gen.inb_S1x2560x1024_S1x128x128_0_1792_640
  inb_S1x2560x1024_S1x128x128_0_1792_768 := @Cert.Kernel2Ideal.Gen.inb_S1x2560x1024_S1x128x128_0_1792_768
  inb_S1x2560x1024_S1x128x128_0_1792_896 := @Cert.Kernel2Ideal.Gen.inb_S1x2560x1024_S1x128x128_0_1792_896
  inb_S1x1x2560_S1x1x128_0_0_1920 := @Cert.Kernel2Ideal.Gen.inb_S1x1x2560_S1x1x128_0_0_1920
  inb_S1x2560x1024_S1x128x128_0_1920_0 := @Cert.Kernel2Ideal.Gen.inb_S1x2560x1024_S1x128x128_0_1920_0
  inb_S1x2560x1024_S1x128x128_0_1920_128 := @Cert.Kernel2Ideal.Gen.inb_S1x2560x1024_S1x128x128_0_1920_128
  inb_S1x2560x1024_S1x128x128_0_1920_256 := @Cert.Kernel2Ideal.Gen.inb_S1x2560x1024_S1x128x128_0_1920_256
  inb_S1x2560x1024_S1x128x128_0_1920_384 := @Cert.Kernel2Ideal.Gen.inb_S1x2560x1024_S1x128x128_0_1920_384
  inb_S1x2560x1024_S1x128x128_0_1920_512 := @Cert.Kernel2Ideal.Gen.inb_S1x2560x1024_S1x128x128_0_1920_512
  inb_S1x2560x1024_S1x128x128_0_1920_640 := @Cert.Kernel2Ideal.Gen.inb_S1x2560x1024_S1x128x128_0_1920_640
  inb_S1x2560x1024_S1x128x128_0_1920_768 := @Cert.Kernel2Ideal.Gen.inb_S1x2560x1024_S1x128x128_0_1920_768
  inb_S1x2560x1024_S1x128x128_0_1920_896 := @Cert.Kernel2Ideal.Gen.inb_S1x2560x1024_S1x128x128_0_1920_896
  inb_S1x1x2560_S1x1x128_0_0_2048 := @Cert.Kernel2Ideal.Gen.inb_S1x1x2560_S1x1x128_0_0_2048
  inb_S1x2560x1024_S1x128x128_0_2048_0 := @Cert.Kernel2Ideal.Gen.inb_S1x2560x1024_S1x128x128_0_2048_0
  inb_S1x2560x1024_S1x128x128_0_2048_128 := @Cert.Kernel2Ideal.Gen.inb_S1x2560x1024_S1x128x128_0_2048_128
  inb_S1x2560x1024_S1x128x128_0_2048_256 := @Cert.Kernel2Ideal.Gen.inb_S1x2560x1024_S1x128x128_0_2048_256
  inb_S1x2560x1024_S1x128x128_0_2048_384 := @Cert.Kernel2Ideal.Gen.inb_S1x2560x1024_S1x128x128_0_2048_384
  inb_S1x2560x1024_S1x128x128_0_2048_512 := @Cert.Kernel2Ideal.Gen.inb_S1x2560x1024_S1x128x128_0_2048_512
  inb_S1x2560x1024_S1x128x128_0_2048_640 := @Cert.Kernel2Ideal.Gen.inb_S1x2560x1024_S1x128x128_0_2048_640
  inb_S1x2560x1024_S1x128x128_0_2048_768 := @Cert.Kernel2Ideal.Gen.inb_S1x2560x1024_S1x128x128_0_2048_768
  inb_S1x2560x1024_S1x128x128_0_2048_896 := @Cert.Kernel2Ideal.Gen.inb_S1x2560x1024_S1x128x128_0_2048_896
  inb_S1x1x2560_S1x1x128_0_0_2176 := @Cert.Kernel2Ideal.Gen.inb_S1x1x2560_S1x1x128_0_0_2176
  inb_S1x2560x1024_S1x128x128_0_2176_0 := @Cert.Kernel2Ideal.Gen.inb_S1x2560x1024_S1x128x128_0_2176_0
  inb_S1x2560x1024_S1x128x128_0_2176_128 := @Cert.Kernel2Ideal.Gen.inb_S1x2560x1024_S1x128x128_0_2176_128
  inb_S1x2560x1024_S1x128x128_0_2176_256 := @Cert.Kernel2Ideal.Gen.inb_S1x2560x1024_S1x128x128_0_2176_256
  inb_S1x2560x1024_S1x128x128_0_2176_384 := @Cert.Kernel2Ideal.Gen.inb_S1x2560x1024_S1x128x128_0_2176_384
  inb_S1x2560x1024_S1x128x128_0_2176_512 := @Cert.Kernel2Ideal.Gen.inb_S1x2560x1024_S1x128x128_0_2176_512
  inb_S1x2560x1024_S1x128x128_0_2176_640 := @Cert.Kernel2Ideal.Gen.inb_S1x2560x1024_S1x128x128_0_2176_640
  inb_S1x2560x1024_S1x128x128_0_2176_768 := @Cert.Kernel2Ideal.Gen.inb_S1x2560x1024_S1x128x128_0_2176_768
  inb_S1x2560x1024_S1x128x128_0_2176_896 := @Cert.Kernel2Ideal.Gen.inb_S1x2560x1024_S1x128x128_0_2176_896
  inb_S1x1x2560_S1x1x128_0_0_2304 := @Cert.Kernel2Ideal.Gen.inb_S1x1x2560_S1x1x128_0_0_2304
  inb_S1x2560x1024_S1x128x128_0_2304_0 := @Cert.Kernel2Ideal.Gen.inb_S1x2560x1024_S1x128x128_0_2304_0
  inb_S1x2560x1024_S1x128x128_0_2304_128 := @Cert.Kernel2Ideal.Gen.inb_S1x2560x1024_S1x128x128_0_2304_128
  inb_S1x2560x1024_S1x128x128_0_2304_256 := @Cert.Kernel2Ideal.Gen.inb_S1x2560x1024_S1x128x128_0_2304_256
  inb_S1x2560x1024_S1x128x128_0_2304_384 := @Cert.Kernel2Ideal.Gen.inb_S1x2560x1024_S1x128x128_0_2304_384
  inb_S1x2560x1024_S1x128x128_0_2304_512 := @Cert.Kernel2Ideal.Gen.inb_S1x2560x1024_S1x128x128_0_2304_512
  inb_S1x2560x1024_S1x128x128_0_2304_640 := @Cert.Kernel2Ideal.Gen.inb_S1x2560x1024_S1x128x128_0_2304_640
  inb_S1x2560x1024_S1x128x128_0_2304_768 := @Cert.Kernel2Ideal.Gen.inb_S1x2560x1024_S1x128x128_0_2304_768
  inb_S1x2560x1024_S1x128x128_0_2304_896 := @Cert.Kernel2Ideal.Gen.inb_S1x2560x1024_S1x128x128_0_2304_896
  inb_S1x1x2560_S1x1x128_0_0_2432 := @Cert.Kernel2Ideal.Gen.inb_S1x1x2560_S1x1x128_0_0_2432
  inb_S1x2560x1024_S1x128x128_0_2432_0 := @Cert.Kernel2Ideal.Gen.inb_S1x2560x1024_S1x128x128_0_2432_0
  inb_S1x2560x1024_S1x128x128_0_2432_128 := @Cert.Kernel2Ideal.Gen.inb_S1x2560x1024_S1x128x128_0_2432_128
  inb_S1x2560x1024_S1x128x128_0_2432_256 := @Cert.Kernel2Ideal.Gen.inb_S1x2560x1024_S1x128x128_0_2432_256
  inb_S1x2560x1024_S1x128x128_0_2432_384 := @Cert.Kernel2Ideal.Gen.inb_S1x2560x1024_S1x128x128_0_2432_384
  inb_S1x2560x1024_S1x128x128_0_2432_512 := @Cert.Kernel2Ideal.Gen.inb_S1x2560x1024_S1x128x128_0_2432_512
  inb_S1x2560x1024_S1x128x128_0_2432_640 := @Cert.Kernel2Ideal.Gen.inb_S1x2560x1024_S1x128x128_0_2432_640
  inb_S1x2560x1024_S1x128x128_0_2432_768 := @Cert.Kernel2Ideal.Gen.inb_S1x2560x1024_S1x128x128_0_2432_768
  inb_S1x2560x1024_S1x128x128_0_2432_896 := @Cert.Kernel2Ideal.Gen.inb_S1x2560x1024_S1x128x128_0_2432_896
  dot_S512x1024_S1024x512_S512x512_1_0_0_1_n_n_wf := @Cert.Kernel2Ideal.Gen.dot_S512x1024_S1024x512_S512x512_1_0_0_1_n_n_wf
  dot_S512x512_S512x1024_S512x1024_1_0_0_1_n_n_wf := @Cert.Kernel2Ideal.Gen.dot_S512x512_S512x1024_S512x1024_1_0_0_1_n_n_wf
  hrank0 := @Cert.Kernel2Ideal.Gen.hrank0
  hstage0_0 := @Cert.Kernel2Ideal.Gen.hstage0_0
  nbuf0_0 := @Cert.Kernel2Ideal.Gen.nbuf0_0
  hreads0_0 := @Cert.Kernel2Ideal.Gen.hreads0_0
  hinb0_0 := @Cert.Kernel2Ideal.Gen.hinb0_0
  hwx0_0 := @Cert.Kernel2Ideal.Gen.hwx0_0
  hstage0_1 := @Cert.Kernel2Ideal.Gen.hstage0_1
  nbuf0_1 := @Cert.Kernel2Ideal.Gen.nbuf0_1
  hreads0_1 := @Cert.Kernel2Ideal.Gen.hreads0_1
  hinb0_1 := @Cert.Kernel2Ideal.Gen.hinb0_1
  hwx0_1 := @Cert.Kernel2Ideal.Gen.hwx0_1
  hstage0_2 := @Cert.Kernel2Ideal.Gen.hstage0_2
  nbuf0_2 := @Cert.Kernel2Ideal.Gen.nbuf0_2
  hreads0_2 := @Cert.Kernel2Ideal.Gen.hreads0_2
  hinb0_2 := @Cert.Kernel2Ideal.Gen.hinb0_2
  hwx0_2 := @Cert.Kernel2Ideal.Gen.hwx0_2
  hstage0_3 := @Cert.Kernel2Ideal.Gen.hstage0_3
  nbuf0_3 := @Cert.Kernel2Ideal.Gen.nbuf0_3
  hreads0_3 := @Cert.Kernel2Ideal.Gen.hreads0_3
  hinb0_3 := @Cert.Kernel2Ideal.Gen.hinb0_3
  hwx0_3 := @Cert.Kernel2Ideal.Gen.hwx0_3
  hstage0_4 := @Cert.Kernel2Ideal.Gen.hstage0_4
  nbuf0_4 := @Cert.Kernel2Ideal.Gen.nbuf0_4
  hreads0_4 := @Cert.Kernel2Ideal.Gen.hreads0_4
  hinb0_4 := @Cert.Kernel2Ideal.Gen.hinb0_4
  hwx0_4 := @Cert.Kernel2Ideal.Gen.hwx0_4
  hstage0_5 := @Cert.Kernel2Ideal.Gen.hstage0_5
  nbuf0_5 := @Cert.Kernel2Ideal.Gen.nbuf0_5
  hreads0_5 := @Cert.Kernel2Ideal.Gen.hreads0_5
  hinb0_5 := @Cert.Kernel2Ideal.Gen.hinb0_5
  hwx0_5 := @Cert.Kernel2Ideal.Gen.hwx0_5

end Cert.Moe

end
-- ==== Proof.Moe.FrameBits.lean ====
module

public import proofs.«01_k».proof.Defs
public import proofs.«01_k».proof.Proof.Moe.Facts
public import proofs.«01_k».proof.Proof.Gen.Kernel2Ideal.Frame

@[expose] public section

set_option maxRecDepth 65536
set_option maxHeartbeats 4000000

namespace Cert.Moe

open Idealize.ShloMosaic Idealize.SL.Sem

/-- The side conditions of the experts' kernel. -/
instance : Cert.Kernel2.Facts := kernelFacts

/-- The expert kernel's body table is its ideal reading's: the two programs have one text. -/
theorem bodies_eq : Cert.Kernel2.defs₀ (F := Bits) = Cert.Kernel2Ideal.defs₀ (F := Bits) := by
  unfold Cert.Kernel2.defs₀ Cert.Kernel2Ideal.defs₀
  refine congrArg Defs.onTc ?_
  funext ℓ x
  match ℓ, x with
  | ⟨0, _⟩, (t, s) => rfl

/-- The same of the table with the pipeline's own bodies. -/
theorem tables_eq : Cert.Kernel2.defs (F := Bits) = Cert.Kernel2Ideal.defs (F := Bits) := congrArg (Pipeline.defs _) bodies_eq

/-- The expert kernel's frame: its text is that of its ideal reading, whose run holds of every float type. -/
theorem frameBits : Cert.quiescent_Kernel2 (hKernel2 := kernelFacts) := fun m g _ =>
  Eq.mpr (congrArg (fun d => θ_run d (onTc (τ := Cert.Kernel2.τ) (Cert.Kernel2.main (F := Bits))) ⟨m, fun _ => 0, g⟩ _) tables_eq)
    (Cert.Kernel2Ideal.Gen.frame (F := Bits) m g)

end Cert.Moe

end
-- ==== Proof.Moe.Expert.lean ====
module

public import proofs.«01_k».proof.Proof.Gen.Kernel2Ideal.Value
public import Idealize.ShloMosaic.Lib.Pipeline.ValueKit

@[expose] public section

set_option maxRecDepth 16384

noncomputable section

namespace Cert.Moe

open Cert.Kernel2Ideal Cert.Kernel2Ideal.Gen Idealize.ShloMosaic Idealize.ShloMosaic.TcCoe Idealize.SL.Sem

/-- The hidden layer of one tile of 512 rows and 512 hidden units: `silu (x·Wg) ⊙ (x·Wu)`, as vectors. -/
def hidTile (x : FVec Ideal S1x512x1024 .bf16) (wg wu : FVec Ideal S1x1x1024x512 .f32) : FVec Ideal S512x512 .f32 :=
  let xr := shapeCast S512x1024 x shapeCasts_S1x512x1024_S512x1024
  let g := matmul dot_S512x1024_S1024x512_S512x512_1_0_0_1_n_n none xr (k0_pay201 wg) (constant S512x512 .f32 0x00000000#32)
  mulf (divf g (addf (broadcast S512x512 (Scalar.ofBits .f32 0x3F800000#32)) (exp (subf (broadcast S512x512 (Scalar.ofBits .f32 0x00000000#32)) g))))
    (matmul dot_S512x1024_S1024x512_S512x512_1_0_0_1_n_n none xr (k0_pay202 wu) (constant S512x512 .f32 0x00000000#32))

/-- One tile's update of the output: what it held plus the hidden tile times its slice of the down projection. -/
def accTile (x : FVec Ideal S1x512x1024 .bf16) (wg wu : FVec Ideal S1x1x1024x512 .f32) (wd : FVec Ideal S1x1x512x1024 .f32)
    (o : FVec Ideal S1x512x1024 .f32) : FVec Ideal S1x512x1024 .f32 :=
  shapeCast S1x512x1024 (addf (shapeCast S512x1024 o shapeCasts_S1x512x1024_S512x1024)
    (matmul dot_S512x512_S512x1024_S512x1024_1_0_0_1_n_n none (truncf .bf16 (hidTile x wg wu) bitsLt_bf16_f32) (k0_pay203 wd)
      (constant S512x1024 .f32 0x00000000#32))) shapeCasts_S512x1024_S1x512x1024

/-- One 128-by-128 block times the gates of its rows. -/
def gateTile (g : FVec Ideal S1x1x128 .f32) (o : FVec Ideal S1x128x128 .f32) : FVec Ideal S1x128x128 .f32 :=
  shapeCast S1x128x128 (mulf (shapeCast S128x128 o shapeCasts_S1x128x128_S128x128) (k0_pay4 g)) shapeCasts_S128x128_S1x128x128

/-- The gated activation `x / (1 + exp (-x))` of the extended reals. -/
def swish (x : EReal) : EReal := Ideal.div x (1 + Ideal.exp (0 - x))

/-- Hidden unit `k` of row `r`: the activation of the gate projection times the up projection. -/
theorem hidTile_apply (x : FVec Ideal S1x512x1024 .bf16) (wg wu : FVec Ideal S1x1x1024x512 .f32) (r k : Fin 512) :
    hidTile x wg wu (ix2 r k) = swish (∑ e : Fin 1024, x (ix3 0 r e) * wg (ix4 0 0 e k))
      * ∑ e : Fin 1024, x (ix3 0 r e) * wu (ix4 0 0 e k) := by
  unfold hidTile swish
  pointwise [k0_pay201, k0_pay202]

/-- A tile's update at an index: what was there plus a sum over the 512 hidden units. -/
theorem accTile_apply (x : FVec Ideal S1x512x1024 .bf16) (wg wu : FVec Ideal S1x1x1024x512 .f32) (wd : FVec Ideal S1x1x512x1024 .f32)
    (o : FVec Ideal S1x512x1024 .f32) (z : Fin 1) (r : Fin 512) (d : Fin 1024) :
    accTile x wg wu wd o (ix3 z r d) = o (ix3 0 r d) + ∑ k : Fin 512, hidTile x wg wu (ix2 r k) * wd (ix4 0 0 k d) := by
  unfold accTile
  pointwise [k0_pay203]

/-- A gated block at an index: the element times its row's gate. -/
theorem gateTile_apply (g : FVec Ideal S1x1x128 .f32) (o : FVec Ideal S1x128x128 .f32) (z : Fin 1) (r d : Fin 128) :
    gateTile g o (ix3 z r d) = o (ix3 0 r d) * g (ix3 0 0 r) := by
  unfold gateTile
  pointwise [k0_pay4]

/-- What one slice of 512 hidden units adds to the element `y` of an expert's output block. -/
def part (x : FVec Ideal S1x2560x1024 .bf16) (wg wu : FVec Ideal S1x1x1024x512 .f32) (wd : FVec Ideal S1x1x512x1024 .f32)
    (y : S1x2560x1024.Idx) : EReal :=
  ∑ k : Fin 512, swish (∑ e : Fin 1024, x (ix3 0 (y 1) e) * wg (ix4 0 0 e k)) * (∑ e : Fin 1024, x (ix3 0 (y 1) e) * wu (ix4 0 0 e k))
    * wd (ix4 0 0 k (y 2))

/-- The update of the tile of rows `off ≤ r < off + 512`, read at an index of the whole block. -/
theorem accTile_eq (x : FVec Ideal S1x2560x1024 .bf16) (wg wu : FVec Ideal S1x1x1024x512 .f32) (wd : FVec Ideal S1x1x512x1024 .f32)
    (o : FVec Ideal S1x512x1024 .f32) (off : Nat) (inb : ∀ a, (![0, off, 0] : Fin 3 → Nat) a + S1x512x1024.size a ≤ S1x2560x1024.size a)
    (j : S1x512x1024.Idx) :
    accTile (View.ld (Val := Elt Ideal) (e' := .bf16) x (Rect.unit (s := S1x2560x1024) ![0, off, 0] S1x512x1024.size inb)) wg wu wd o j
      = o j + part x wg wu wd ((Rect.unit (s := S1x2560x1024) ![0, off, 0] S1x512x1024.size inb).emb j) := by
  have hx : ∀ e : Fin 1024, View.ld (Val := Elt Ideal) (e' := .bf16) x (Rect.unit (s := S1x2560x1024) ![0, off, 0] S1x512x1024.size inb) (ix3 0 (j 1) e)
      = x (ix3 0 ((Rect.unit (s := S1x2560x1024) ![0, off, 0] S1x512x1024.size inb).emb j 1) e) := fun e => by
    refine congrArg x (funext fun a => ?_)
    fin_cases a <;> apply Fin.ext <;> simp [ValueKit.rect_emb_unit_val]
  have h2 : ((Rect.unit (s := S1x2560x1024) ![0, off, 0] S1x512x1024.size inb).emb j 2) = j 2 := by
    apply Fin.ext; simp [ValueKit.rect_emb_unit_val]
  obtain ⟨z, r, d, rfl⟩ : ∃ z r d, j = ix3 z r d := ⟨_, _, _, eq_ix3 j⟩
  rw [accTile_apply]
  unfold part
  rw [h2]
  simp only [hidTile_apply]
  refine congrArg₂ (fun a b : EReal => a + b) (by rw [Subsingleton.elim z 0]) ?_
  refine Finset.sum_congr rfl fun k _ => ?_
  simp only [← hx]
  rfl

end Cert.Moe

end
-- ==== Proof.Moe.Body.lean ====
module

public import proofs.«01_k».proof.Proof.Moe.Expert

@[expose] public section

set_option maxRecDepth 16384

noncomputable section

namespace Cert.Moe

open Cert.Kernel2Ideal Cert.Kernel2Ideal.Gen Idealize.ShloMosaic Idealize.ShloMosaic.TcCoe Idealize.SL.Sem

/-- One more store onto a list of stores that has brought the elements `done` from `G` to `H`. -/
theorem canon_step {S : Shape} {e : EltTy} (H G : S.Idx → Elt Ideal e) (r : Rect S) (w : r.shape.Idx → Elt Ideal e)
    (L : List (View.Piece (Elt Ideal) S e)) (τ : S.Idx → Nat) (n : Nat)
    (hL : ∀ y, View.canon L y = if τ y < n then H y else G y)
    (hr : ∀ y, y ∈ r.set ↔ τ y = n) (hw : ∀ x, w x = H (r.emb x)) (y : S.Idx) :
    View.canon ((⟨r, w⟩ : View.Piece (Elt Ideal) S e) :: L) y = if τ y < n + 1 then H y else G y := by
  by_cases hm : y ∈ r.set
  · obtain ⟨x, rfl⟩ : ∃ x, r.emb x = y := r.exists_idx_of_mem hm
    rw [View.canon_cons_emb, hw, if_pos (by have := (hr _).mp hm; omega)]
  · rw [View.canon_cons_of_not_mem _ _ hm, hL]
    have : τ y ≠ n := fun h => hm ((hr y).mpr h)
    by_cases h : τ y < n
    · rw [if_pos h, if_pos (by omega)]
    · rw [if_neg h, if_neg (by omega)]

/-- One more store onto a list of stores that has filled the tiles before the `n`-th with `H`. -/
theorem tile_step {S : Shape} {e : EltTy} (H : S.Idx → Elt Ideal e) (r : Rect S) (w : r.shape.Idx → Elt Ideal e)
    (L : List (View.Piece (Elt Ideal) S e)) (τ : S.Idx → Nat) (n : Nat)
    (hL : ∀ y, τ y < n → View.canon L y = H y)
    (hr : ∀ y, y ∈ r.set ↔ τ y = n) (hw : ∀ x, w x = H (r.emb x)) (y : S.Idx) (hy : τ y < n + 1) :
    View.canon ((⟨r, w⟩ : View.Piece (Elt Ideal) S e) :: L) y = H y := by
  by_cases hm : y ∈ r.set
  · obtain ⟨x, rfl⟩ : ∃ x, r.emb x = y := r.exists_idx_of_mem hm
    rw [View.canon_cons_emb, hw]
  · rw [View.canon_cons_of_not_mem _ _ hm]
    exact hL y (by have := mt (hr y).mpr hm; omega)

/-- The place of an element's 128-by-128 block in the order the gates are applied. -/
def blockNo (y : S1x2560x1024.Idx) : Nat := (y 1 : Nat) / 128 * 8 + (y 2 : Nat) / 128

/-- The place of an element's tile of 512 rows. -/
def tileNo (y : S1x2560x1024.Idx) : Nat := (y 1 : Nat) / 512

/-- The first `n` blocks gated, the others as `G` has them. -/
def Gated (G : FVec Ideal S1x2560x1024 .f32) (g : FVec Ideal S1x1x2560 .f32)
    (L : List (View.Piece (Elt Ideal) S1x2560x1024 .f32)) (n : Nat) : Prop :=
  ∀ y, View.canon L y = if blockNo y < n then G y * g (ix3 0 0 (y 1)) else G y

/-- Gating the next block: it is read as `G` has it and stored times its rows' gates. -/
theorem gated_step {G : FVec Ideal S1x2560x1024 .f32} {g : FVec Ideal S1x1x2560 .f32}
    {L : List (View.Piece (Elt Ideal) S1x2560x1024 .f32)} {n : Nat} (h : Gated G g L n) (hn : n < 160)
    {v6 : Memref sig .tc .vmem S1x1x2560 .f32} (h6 : v6.IsWhole) (v7 : Memref sig .tc .vmem S1x2560x1024 .f32)
    {a b : Nat} (ha : a = n / 8 * 128) (hb : b = n % 8 * 128)
    (inb : ∀ i, (![0, a, b] : Fin 3 → Nat) i + S1x128x128.size i ≤ S1x2560x1024.size i)
    (inb' : ∀ i, (![0, 0, a] : Fin 3 → Nat) i + S1x1x128.size i ≤ S1x1x2560.size i) :
    Gated G g (⟨Rect.unit (s := S1x2560x1024) ![0, a, b] S1x128x128.size inb,
      gateTile (View.readAt (Elt Ideal) v6.view (Rect.unit (s := S1x1x2560) ![0, 0, a] S1x1x128.size inb').toLoadRect (h6.unread g))
        (v7.view.readCov L (Rect.unit (s := S1x2560x1024) ![0, a, b] S1x128x128.size inb).toLoadRect)⟩ :: L) (n + 1) := by
  have hr : ∀ y, y ∈ (Rect.unit (s := S1x2560x1024) ![0, a, b] S1x128x128.size inb).set ↔ blockNo y = n := fun y => by
    have h0 : (y 0 : Nat) < 1 := (y 0).isLt
    have h1 : (y 1 : Nat) < 2560 := (y 1).isLt
    have h2 : (y 2 : Nat) < 1024 := (y 2).isLt
    rw [Rect.mem_set_unit]
    have hs : ∀ P : Fin 3 → Prop, (∀ i, P i) ↔ P 0 ∧ P 1 ∧ P 2 := fun P => by
      simp [Fin.forall_fin_succ]
    rw [hs]
    simp only [blockNo, Matrix.cons_val_zero, Matrix.cons_val_one, Matrix.cons_val]
    subst ha hb
    omega
  refine canon_step (fun y => G y * g (ix3 0 0 (y 1))) G _ _ L blockNo n (fun y => h y) hr fun x => ?_
  have hx : blockNo ((Rect.unit (s := S1x2560x1024) ![0, a, b] S1x128x128.size inb).emb x) = n := (hr _).mp (LoadRect.idx_mem _ x)
  obtain ⟨z, r, d, rfl⟩ : ∃ z r d, x = ix3 z r d := ⟨_, _, _, eq_ix3 x⟩
  have hx' := h ((Rect.unit (s := S1x2560x1024) ![0, a, b] S1x128x128.size inb).emb (ix3 z r d))
  rw [hx, if_neg (lt_irrefl _)] at hx'
  rw [gateTile_apply, View.readAt_eq_ld, h6.read_unread, View.readCov_eq_canon']
  rw [← hx', Subsingleton.elim z 0]
  refine congrArg₂ (fun a b : EReal => a * b) rfl (congrArg g (funext fun i => ?_))
  fin_cases i <;> apply Fin.ext <;> simp [ValueKit.rect_emb_unit_val]

/-- The elements of one tile of 512 rows. -/
theorem mem_tile {n a : Nat} (ha : a = n * 512) (inb : ∀ i, (![0, a, 0] : Fin 3 → Nat) i + S1x512x1024.size i ≤ S1x2560x1024.size i)
    (y : S1x2560x1024.Idx) : y ∈ (Rect.unit (s := S1x2560x1024) ![0, a, 0] S1x512x1024.size inb).set ↔ tileNo y = n := by
  have h0 : (y 0 : Nat) < 1 := (y 0).isLt
  have h1 : (y 1 : Nat) < 2560 := (y 1).isLt
  have h2 : (y 2 : Nat) < 1024 := (y 2).isLt
  rw [Rect.mem_set_unit]
  have hs : ∀ P : Fin 3 → Prop, (∀ i, P i) ↔ P 0 ∧ P 1 ∧ P 2 := fun P => by
    simp [Fin.forall_fin_succ]
  rw [hs]
  simp only [tileNo, Matrix.cons_val_zero, Matrix.cons_val_one, Matrix.cons_val]
  subst ha
  omega

/-- The first `n` tiles hold what `G` has plus this slice's part. -/
def Tiled (G : FVec Ideal S1x2560x1024 .f32) (P : S1x2560x1024.Idx → EReal) (L : List (View.Piece (Elt Ideal) S1x2560x1024 .f32)) (n : Nat) : Prop :=
  ∀ y, tileNo y < n → View.canon L y = G y + P y

/-- The next tile, where the block's old contents are read from before the body. -/
theorem tiled_step {x : FVec Ideal S1x2560x1024 .bf16} {wg wu : FVec Ideal S1x1x1024x512 .f32} {wd : FVec Ideal S1x1x512x1024 .f32}
    {G : FVec Ideal S1x2560x1024 .f32} {L : List (View.Piece (Elt Ideal) S1x2560x1024 .f32)} {n : Nat}
    (h : Tiled G (part x wg wu wd) L n) {v2 : Memref sig .tc .vmem S1x2560x1024 .bf16} (h2 : v2.IsWhole)
    {v7 : Memref sig .tc .vmem S1x2560x1024 .f32} (h7 : v7.IsWhole) {a : Nat} (ha : a = n * 512)
    (inb : ∀ i, (![0, a, 0] : Fin 3 → Nat) i + S1x512x1024.size i ≤ S1x2560x1024.size i) :
    Tiled G (part x wg wu wd) (⟨Rect.unit (s := S1x2560x1024) ![0, a, 0] S1x512x1024.size inb,
      accTile (View.readAt (Elt Ideal) v2.view (Rect.unit (s := S1x2560x1024) ![0, a, 0] S1x512x1024.size inb).toLoadRect (h2.unread x))
        wg wu wd
        (View.readAt (Elt Ideal) v7.view (Rect.unit (s := S1x2560x1024) ![0, a, 0] S1x512x1024.size inb).toLoadRect (h7.unread G))⟩ :: L) (n + 1) := by
  refine tile_step (fun y => G y + part x wg wu wd y) _ _ L tileNo n (fun y => h y) (mem_tile ha inb) fun j => ?_
  rw [View.readAt_eq_ld, h2.read_unread, accTile_eq, View.readAt_eq_ld, h7.read_unread]
  rfl

/-- The first `n` tiles hold what `G` has plus this slice's part, the others what `G` has. -/
def TiledOn (G : FVec Ideal S1x2560x1024 .f32) (P : S1x2560x1024.Idx → EReal) (L : List (View.Piece (Elt Ideal) S1x2560x1024 .f32)) (n : Nat) : Prop :=
  ∀ y, View.canon L y = if tileNo y < n then G y + P y else G y

/-- The next tile, where the block's old contents are read from what the body has stored. -/
theorem tiledOn_step {x : FVec Ideal S1x2560x1024 .bf16} {wg wu : FVec Ideal S1x1x1024x512 .f32} {wd : FVec Ideal S1x1x512x1024 .f32}
    {G : FVec Ideal S1x2560x1024 .f32} {L : List (View.Piece (Elt Ideal) S1x2560x1024 .f32)} {n : Nat}
    (h : TiledOn G (part x wg wu wd) L n) {v2 : Memref sig .tc .vmem S1x2560x1024 .bf16} (h2 : v2.IsWhole)
    (v7 : Memref sig .tc .vmem S1x2560x1024 .f32) {a : Nat} (ha : a = n * 512)
    (inb : ∀ i, (![0, a, 0] : Fin 3 → Nat) i + S1x512x1024.size i ≤ S1x2560x1024.size i) :
    TiledOn G (part x wg wu wd) (⟨Rect.unit (s := S1x2560x1024) ![0, a, 0] S1x512x1024.size inb,
      accTile (View.readAt (Elt Ideal) v2.view (Rect.unit (s := S1x2560x1024) ![0, a, 0] S1x512x1024.size inb).toLoadRect (h2.unread x))
        wg wu wd (v7.view.readCov L (Rect.unit (s := S1x2560x1024) ![0, a, 0] S1x512x1024.size inb).toLoadRect)⟩ :: L) (n + 1) := by
  refine canon_step (fun y => G y + part x wg wu wd y) G _ _ L tileNo n (fun y => h y) (mem_tile ha inb) fun j => ?_
  have hx := h ((Rect.unit (s := S1x2560x1024) ![0, a, 0] S1x512x1024.size inb).emb j)
  have hj : tileNo ((Rect.unit (s := S1x2560x1024) ![0, a, 0] S1x512x1024.size inb).emb j) = n := (mem_tile ha inb _).mp (LoadRect.idx_mem _ j)
  rw [hj, if_neg (lt_irrefl _)] at hx
  rw [View.readAt_eq_ld, h2.read_unread, accTile_eq, View.readCov_eq_canon']
  exact congrArg₂ (fun a b : EReal => a + b) hx rfl

/-- Before any gate is applied: the five tiles. -/
theorem gated_start {G : FVec Ideal S1x2560x1024 .f32} {P : S1x2560x1024.Idx → EReal} {g : FVec Ideal S1x1x2560 .f32}
    {L : List (View.Piece (Elt Ideal) S1x2560x1024 .f32)} (h : Tiled G P L 5) : Gated (fun y => G y + P y) g L 0 := fun y => by
  rw [if_neg (Nat.not_lt_zero _)]
  exact h y (by have h1 : (y 1 : Nat) < 2560 := (y 1).isLt; unfold tileNo; omega)

/-- The whole of a slice of the gate or up projection, read from its buffer. -/
abbrev readW {v : Memref sig .tc .vmem S1x1x1024x512 .f32} (hv : v.IsWhole) (x : FVec Ideal S1x1x1024x512 .f32) :
    FVec Ideal S1x1x1024x512 .f32 :=
  View.readAt (Elt Ideal) v.view (Rect.unit (s := S1x1x1024x512) ![0, 0, 0, 0] S1x1x1024x512.size inb_S1x1x1024x512_S1x1x1024x512_0_0_0_0).toLoadRect
    (hv.unread x)

/-- A load of a whole block of gate or up weights is the block. -/
theorem readW_eq {v : Memref sig .tc .vmem S1x1x1024x512 .f32} (hv : v.IsWhole) (x : FVec Ideal S1x1x1024x512 .f32) : readW hv x = x := by
  unfold readW
  rw [View.readAt_eq_ld, hv.read_unread]
  funext j
  refine congrArg x (funext fun a => Fin.ext ?_)
  fin_cases a <;> exact (Nat.zero_add _).trans (Nat.one_mul _)

/-- The whole of a slice of the down projection, read from its buffer. -/
abbrev readD {v : Memref sig .tc .vmem S1x1x512x1024 .f32} (hv : v.IsWhole) (x : FVec Ideal S1x1x512x1024 .f32) :
    FVec Ideal S1x1x512x1024 .f32 :=
  View.readAt (Elt Ideal) v.view (Rect.unit (s := S1x1x512x1024) ![0, 0, 0, 0] S1x1x512x1024.size inb_S1x1x512x1024_S1x1x512x1024_0_0_0_0).toLoadRect
    (hv.unread x)

/-- A load of a whole block of down weights is the block. -/
theorem readD_eq {v : Memref sig .tc .vmem S1x1x512x1024 .f32} (hv : v.IsWhole) (x : FVec Ideal S1x1x512x1024 .f32) : readD hv x = x := by
  unfold readD
  rw [View.readAt_eq_ld, hv.read_unread]
  funext j
  refine congrArg x (funext fun a => Fin.ext ?_)
  fin_cases a <;> exact (Nat.zero_add _).trans (Nat.one_mul _)

/-- The first slice begins by filling the whole block with zeros. -/
theorem zero_start (y : S1x2560x1024.Idx) :
    View.canon ([⟨Rect.unit (s := S1x2560x1024) ![0, 0, 0] S1x2560x1024.size inb_S1x2560x1024_S1x2560x1024_0_0_0, k0_pay204 (F := Ideal)⟩] :
      List (View.Piece (Elt Ideal) S1x2560x1024 .f32)) y = (0 : EReal) := by
  have hy : (Rect.unit (s := S1x2560x1024) ![0, 0, 0] S1x2560x1024.size inb_S1x2560x1024_S1x2560x1024_0_0_0).emb y = y := by
    refine funext fun a => Fin.ext ?_
    fin_cases a <;> exact (Nat.zero_add _).trans (Nat.one_mul _)
  have hc := View.canon_cons_emb (Val := Elt Ideal) (e := .f32)
    (Rect.unit (s := S1x2560x1024) ![0, 0, 0] S1x2560x1024.size inb_S1x2560x1024_S1x2560x1024_0_0_0) (k0_pay204 (F := Ideal)) [] y
  rw [hy] at hc
  refine hc.trans ?_
  obtain ⟨z, r, d, rfl⟩ : ∃ z r d, y = ix3 z r d := ⟨_, _, _, eq_ix3 y⟩
  pointwise [k0_pay204]

end Cert.Moe

end
-- ==== Proof.Moe.CaseA.lean ====
module

public import proofs.«01_k».proof.Proof.Moe.Body

@[expose] public section

set_option maxRecDepth 16384

noncomputable section

namespace Cert.Moe

open Cert.Kernel2Ideal Cert.Kernel2Ideal.Gen Idealize.ShloMosaic Idealize.ShloMosaic.TcCoe Idealize.SL.Sem

variable (c : Dev nD) (i : grid0.Coords) (arg2 : Memref sig .tc .vmem S1x2560x1024 .bf16) (harg2 : arg2.IsWhole) (arg3 : Memref sig .tc .vmem S1x1x1024x512 .f32) (harg3 : arg3.IsWhole) (arg4 : Memref sig .tc .vmem S1x1x1024x512 .f32) (harg4 : arg4.IsWhole) (arg5 : Memref sig .tc .vmem S1x1x512x1024 .f32) (harg5 : arg5.IsWhole) (arg6 : Memref sig .tc .vmem S1x1x2560 .f32) (harg6 : arg6.IsWhole) (arg7 : Memref sig .tc .vmem S1x2560x1024 .f32) (harg7 : arg7.IsWhole)
    (x0 : FVec Ideal S1x2560x1024 .bf16) (x1 x2 : FVec Ideal S1x1x1024x512 .f32) (x3 : FVec Ideal S1x1x512x1024 .f32)
    (x4 : FVec Ideal S1x1x2560 .f32)

/-- The first slice: the block is its part alone, since it starts from zero. -/
theorem outA (hc0 : cond0_0 i) (hc1 : ¬cond0_1 i) (y : S1x2560x1024.Idx) :
    out0_A_5 (F := Ideal) c i arg2 harg2 arg3 harg3 arg4 harg4 arg5 harg5 arg6 harg6 arg7 harg7 hc0 hc1 x0 x1 x2 x3 x4 y = part x0 x1 x2 x3 y := by
  have e1 := readW_eq harg3 x1
  have e2 := readW_eq harg4 x2
  have e3 := readD_eq harg5 x3
  unfold out0_A_5
  rw [View.read_writes_junk_eq_canon]
  suffices h : TiledOn (fun _ => (0 : EReal)) (part x0 (readW harg3 x1) (readW harg4 x2) (readD harg5 x3)) (kernelRun0_A (F := Ideal) c i arg2 harg2 arg3 harg3 arg4 harg4 arg5 harg5 arg6 harg6 arg7 harg7 hc0 hc1 x0 x1 x2 x3 x4).1 5 by
    rw [e1, e2, e3] at h
    rw [h y, if_pos (by have h1 : (y 1 : Nat) < 2560 := (y 1).isLt; unfold tileNo; omega), zero_add]
  refine tiledOn_step (n := 4) ?_ harg2 arg7 (by rfl) _
  refine tiledOn_step (n := 3) ?_ harg2 arg7 (by rfl) _
  refine tiledOn_step (n := 2) ?_ harg2 arg7 (by rfl) _
  refine tiledOn_step (n := 1) ?_ harg2 arg7 (by rfl) _
  refine tiledOn_step (n := 0) ?_ harg2 arg7 (by rfl) _

  intro y
  rw [if_neg (Nat.not_lt_zero _)]
  exact zero_start y

end Cert.Moe

end
-- ==== Proof.Moe.CaseB.lean ====
module

public import proofs.«01_k».proof.Proof.Moe.Body

@[expose] public section

set_option maxRecDepth 16384

noncomputable section

namespace Cert.Moe

open Cert.Kernel2Ideal Cert.Kernel2Ideal.Gen Idealize.ShloMosaic Idealize.ShloMosaic.TcCoe Idealize.SL.Sem

variable (c : Dev nD) (i : grid0.Coords) (arg2 : Memref sig .tc .vmem S1x2560x1024 .bf16) (harg2 : arg2.IsWhole) (arg3 : Memref sig .tc .vmem S1x1x1024x512 .f32) (harg3 : arg3.IsWhole) (arg4 : Memref sig .tc .vmem S1x1x1024x512 .f32) (harg4 : arg4.IsWhole) (arg5 : Memref sig .tc .vmem S1x1x512x1024 .f32) (harg5 : arg5.IsWhole) (arg6 : Memref sig .tc .vmem S1x1x2560 .f32) (harg6 : arg6.IsWhole) (arg7 : Memref sig .tc .vmem S1x2560x1024 .f32) (harg7 : arg7.IsWhole)
    (x0 : FVec Ideal S1x2560x1024 .bf16) (x1 x2 : FVec Ideal S1x1x1024x512 .f32) (x3 : FVec Ideal S1x1x512x1024 .f32)
    (x4 : FVec Ideal S1x1x2560 .f32) (xo5 : FVec Ideal S1x2560x1024 .f32)

/-- A slice in the middle: it adds its part to what the block held. -/
theorem outB (hc0 : ¬cond0_0 i) (hc1 : ¬cond0_1 i) (y : S1x2560x1024.Idx) :
    out0_B_5 (F := Ideal) c i arg2 harg2 arg3 harg3 arg4 harg4 arg5 harg5 arg6 harg6 arg7 harg7 hc0 hc1 x0 x1 x2 x3 x4 xo5 y = xo5 y + part x0 x1 x2 x3 y := by
  have e1 := readW_eq harg3 x1
  have e2 := readW_eq harg4 x2
  have e3 := readD_eq harg5 x3
  unfold out0_B_5
  rw [View.read_writes_junk_eq_canon]
  suffices h : Tiled xo5 (part x0 (readW harg3 x1) (readW harg4 x2) (readD harg5 x3)) (kernelRun0_B (F := Ideal) c i arg2 harg2 arg3 harg3 arg4 harg4 arg5 harg5 arg6 harg6 arg7 harg7 hc0 hc1 x0 x1 x2 x3 x4 xo5).1 5 by
    rw [e1, e2, e3] at h
    exact h y (by have h1 : (y 1 : Nat) < 2560 := (y 1).isLt; unfold tileNo; omega)
  refine tiled_step (n := 4) ?_ harg2 harg7 (by rfl) _
  refine tiled_step (n := 3) ?_ harg2 harg7 (by rfl) _
  refine tiled_step (n := 2) ?_ harg2 harg7 (by rfl) _
  refine tiled_step (n := 1) ?_ harg2 harg7 (by rfl) _
  refine tiled_step (n := 0) ?_ harg2 harg7 (by rfl) _
  exact fun y hy => absurd hy (Nat.not_lt_zero _)

end Cert.Moe

end
-- ==== Proof.Moe.CaseC.lean ====
module

public import proofs.«01_k».proof.Proof.Moe.Body

@[expose] public section

set_option maxRecDepth 16384

noncomputable section

namespace Cert.Moe

open Cert.Kernel2Ideal Cert.Kernel2Ideal.Gen Idealize.ShloMosaic Idealize.ShloMosaic.TcCoe Idealize.SL.Sem

variable (c : Dev nD) (i : grid0.Coords) (arg2 : Memref sig .tc .vmem S1x2560x1024 .bf16) (harg2 : arg2.IsWhole) (arg3 : Memref sig .tc .vmem S1x1x1024x512 .f32) (harg3 : arg3.IsWhole) (arg4 : Memref sig .tc .vmem S1x1x1024x512 .f32) (harg4 : arg4.IsWhole) (arg5 : Memref sig .tc .vmem S1x1x512x1024 .f32) (harg5 : arg5.IsWhole) (arg6 : Memref sig .tc .vmem S1x1x2560 .f32) (harg6 : arg6.IsWhole) (arg7 : Memref sig .tc .vmem S1x2560x1024 .f32) (harg7 : arg7.IsWhole)
    (x0 : FVec Ideal S1x2560x1024 .bf16) (x1 x2 : FVec Ideal S1x1x1024x512 .f32) (x3 : FVec Ideal S1x1x512x1024 .f32)
    (x4 : FVec Ideal S1x1x2560 .f32) (xo5 : FVec Ideal S1x2560x1024 .f32)

/-- The last slice: it adds its part and then multiplies each row by the row's gate. -/
theorem outC (hc0 : ¬cond0_0 i) (hc1 : cond0_1 i) (y : S1x2560x1024.Idx) :
    out0_C_5 (F := Ideal) c i arg2 harg2 arg3 harg3 arg4 harg4 arg5 harg5 arg6 harg6 arg7 harg7 hc0 hc1 x0 x1 x2 x3 x4 xo5 y = (xo5 y + part x0 x1 x2 x3 y) * x4 (ix3 0 0 (y 1)) := by
  have e1 := readW_eq harg3 x1
  have e2 := readW_eq harg4 x2
  have e3 := readD_eq harg5 x3
  unfold out0_C_5
  rw [View.read_writes_junk_eq_canon]
  have h1 : (y 1 : Nat) < 2560 := (y 1).isLt
  have h2 : (y 2 : Nat) < 1024 := (y 2).isLt
  suffices h : Gated (fun y => xo5 y + part x0 (readW harg3 x1) (readW harg4 x2) (readD harg5 x3) y) x4
      (kernelRun0_C (F := Ideal) c i arg2 harg2 arg3 harg3 arg4 harg4 arg5 harg5 arg6 harg6 arg7 harg7 hc0 hc1 x0 x1 x2 x3 x4 xo5).1 160 by
    rw [e1, e2, e3] at h
    rw [h y, if_pos (by unfold blockNo; omega)]
  iterate 160 refine gated_step ?_ (by decide) harg6 arg7 (by rfl) (by rfl) _ _
  refine gated_start ?_
  refine tiled_step (n := 4) ?_ harg2 harg7 (by rfl) _
  refine tiled_step (n := 3) ?_ harg2 harg7 (by rfl) _
  refine tiled_step (n := 2) ?_ harg2 harg7 (by rfl) _
  refine tiled_step (n := 1) ?_ harg2 harg7 (by rfl) _
  refine tiled_step (n := 0) ?_ harg2 harg7 (by rfl) _
  exact fun y hy => absurd hy (Nat.not_lt_zero _)

end Cert.Moe

end
-- ==== Proof.Moe.Blocks.lean ====
module

public import proofs.«01_k».proof.Proof.Moe.CaseA
public import proofs.«01_k».proof.Proof.Moe.CaseB
public import proofs.«01_k».proof.Proof.Moe.CaseC

@[expose] public section

set_option maxRecDepth 16384

noncomputable section

namespace Cert.Moe

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The blocks point `t` works on: expert `t / 4` and slice `t % 4` of its hidden units. -/
theorem idx : ∀ t : Fin cfg0.N, win0_0.index t = ![t.val / 4, 0, 0] ∧ win0_1.index t = ![0, t.val / 4, 0, t.val % 4]
    ∧ win0_2.index t = ![0, t.val / 4, 0, t.val % 4] ∧ win0_3.index t = ![0, t.val / 4, t.val % 4, 0]
    ∧ win0_4.index t = ![t.val / 4, 0, 0] ∧ win0_5.index t = ![t.val / 4, 0, 0] :=
  (by decide +kernel : ∀ t : Fin grid0.N, _)

/-- The expert of a point. -/
def expert (t : Fin cfg0.N) : Fin 16 := ⟨t.val / 4, by have h : t.val < 64 := lt_of_lt_of_eq t.isLt N_0; omega⟩

/-- Hidden unit `k` of a point's slice. -/
def hidden (t : Fin cfg0.N) (k : Fin 512) : Fin 2048 := ⟨512 * (t.val % 4) + k.val, by omega⟩

/-- The tokens of a point. -/
theorem read_x (c : Dev nD) (t : Fin cfg0.N) (r : Fin 2560) (e : Fin 1024) :
    (iblk m c 0 t : FVec Ideal S1x2560x1024 .bf16) (ix3 0 r e) = (m ((c : Thread nD τ).loc main_arg0) : FVec Ideal S16x2560x1024 .bf16) (ix3 (expert t) r e) := by
  unfold expert
  blk_point [iblk, V, idx t]

/-- The gate weights of a point. -/
theorem read_wg (c : Dev nD) (t : Fin cfg0.N) (e : Fin 1024) (k : Fin 512) :
    (iblk m c 1 t : FVec Ideal S1x1x1024x512 .f32) (ix4 0 0 e k)
      = (m ((c : Thread nD τ).loc main_arg1) : FVec Ideal S2x16x1024x2048 .f32) (ix4 0 (expert t) e (hidden t k)) := by
  unfold expert hidden
  blk_point [iblk, V, idx t]

/-- The up weights of a point. -/
theorem read_wu (c : Dev nD) (t : Fin cfg0.N) (e : Fin 1024) (k : Fin 512) :
    (iblk m c 2 t : FVec Ideal S1x1x1024x512 .f32) (ix4 0 0 e k)
      = (m ((c : Thread nD τ).loc main_arg2) : FVec Ideal S2x16x1024x2048 .f32) (ix4 0 (expert t) e (hidden t k)) := by
  unfold expert hidden
  blk_point [iblk, V, idx t]

/-- The down weights of a point. -/
theorem read_wd (c : Dev nD) (t : Fin cfg0.N) (k : Fin 512) (d : Fin 1024) :
    (iblk m c 3 t : FVec Ideal S1x1x512x1024 .f32) (ix4 0 0 k d)
      = (m ((c : Thread nD τ).loc main_arg3) : FVec Ideal S2x16x2048x1024 .f32) (ix4 0 (expert t) (hidden t k) d) := by
  unfold expert hidden
  blk_point [iblk, V, idx t]

/-- The routing gates of a point's tokens. -/
theorem read_g (c : Dev nD) (t : Fin cfg0.N) (r : Fin 2560) :
    (iblk m c 4 t : FVec Ideal S1x1x2560 .f32) (ix3 0 0 r)
      = (m ((c : Thread nD τ).loc main_arg4) : FVec Ideal S16x2560 .f32) (ix2 (expert t) r) := by
  unfold expert
  blk_point [iblk, V, idx t]

/-- What hidden unit `h` of expert `e` adds to element `(r, d)` of the expert's output. -/
def unitPart (x : FVec Ideal S16x2560x1024 .bf16) (wg wu : FVec Ideal S2x16x1024x2048 .f32) (wd : FVec Ideal S2x16x2048x1024 .f32)
    (e : Fin 16) (r : Fin 2560) (d : Fin 1024) (h : Fin 2048) : EReal :=
  swish (∑ i : Fin 1024, x (ix3 e r i) * wg (ix4 0 e i h)) * (∑ i : Fin 1024, x (ix3 e r i) * wu (ix4 0 e i h)) * wd (ix4 0 e h d)

/-- The gated expert outputs: each row's sum over the hidden units, times the row's gate. -/
def moe (x : FVec Ideal S16x2560x1024 .bf16) (wg wu : FVec Ideal S2x16x1024x2048 .f32) (wd : FVec Ideal S2x16x2048x1024 .f32)
    (g : FVec Ideal S16x2560 .f32) : FVec Ideal S16x2560x1024 .f32 := fun y =>
  (∑ h : Fin 2048, unitPart x wg wu wd (y 0) (y 1) (y 2) h) * g (ix2 (y 0) (y 1))

/-- A part, from what its four operands hold along its row and column. -/
theorem part_of_reads {x : FVec Ideal S1x2560x1024 .bf16} {wg wu : FVec Ideal S1x1x1024x512 .f32} {wd : FVec Ideal S1x1x512x1024 .f32}
    {y : S1x2560x1024.Idx} {X : Fin 1024 → EReal} {G U : Fin 1024 → Fin 512 → EReal} {D : Fin 512 → EReal}
    (hx : ∀ e, x (ix3 0 (y 1) e) = X e) (hg : ∀ e k, wg (ix4 0 0 e k) = G e k) (hu : ∀ e k, wu (ix4 0 0 e k) = U e k)
    (hd : ∀ k, wd (ix4 0 0 k (y 2)) = D k) :
    part x wg wu wd y = ∑ k : Fin 512, swish (∑ e, X e * G e k) * (∑ e, X e * U e k) * D k := by
  unfold part
  simp only [hx, hg, hu, hd]

/-- A point's part as a sum over its slice of the hidden units. -/
theorem part_eq (c : Dev nD) (t : Fin cfg0.N) (y : S1x2560x1024.Idx) :
    part (iblk m c 0 t) (iblk m c 1 t) (iblk m c 2 t) (iblk m c 3 t) y
      = ∑ k : Fin 512, unitPart (m ((c : Thread nD τ).loc main_arg0)) (m ((c : Thread nD τ).loc main_arg1)) (m ((c : Thread nD τ).loc main_arg2))
          (m ((c : Thread nD τ).loc main_arg3)) (expert t) (y 1) (y 2) (hidden t k) := by
  unfold unitPart
  exact part_of_reads (fun e => read_x m c t (y 1) e) (fun e k => read_wg m c t e k) (fun e k => read_wu m c t e k)
    (fun k => read_wd m c t k (y 2))

end Cert.Moe

end
-- ==== Proof.Moe.Value.lean ====
module

public import proofs.«01_k».proof.Proof.Moe.Blocks

@[expose] public section

set_option maxRecDepth 16384

noncomputable section

namespace Cert.Moe

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- What point `t` adds to element `y` of its expert's block. -/
def partAt (c : Dev nD) (t : Fin cfg0.N) (y : S1x2560x1024.Idx) : EReal :=
  part (iblk m c 0 t) (iblk m c 1 t) (iblk m c 2 t) (iblk m c 3 t) y

/-- The output block after an expert's first slice. -/
theorem at_first (c : Dev nD) (t : Fin cfg0.N) (h : t.val % 4 = 0) (y : S1x2560x1024.Idx) :
    outsAt0 m c t.val t.isLt y = partAt m c t y := by
  rw [outsAt0_A m c t h (by omega)]
  exact outA c (grid0.coords t) _ _ _ _ _ _ _ _ _ _ _ _ _ _ _ _ _ _ _ y

/-- The output block after a middle slice. -/
theorem at_middle (c : Dev nD) (t : Fin cfg0.N) (h0 : ¬t.val % 4 = 0) (h1 : ¬t.val % 4 = 3) (y : S1x2560x1024.Idx) :
    outsAt0 m c t.val t.isLt y = outsAt0 m c (t.val - 1) (lt_of_le_of_lt (Nat.sub_le _ _) t.isLt) y + partAt m c t y := by
  rw [outsAt0_B m c t h0 h1]
  exact outB c (grid0.coords t) _ _ _ _ _ _ _ _ _ _ _ _ _ _ _ _ _ _ _ _ y

/-- The output block after an expert's last slice. -/
theorem at_last (c : Dev nD) (t : Fin cfg0.N) (h1 : t.val % 4 = 3) (y : S1x2560x1024.Idx) :
    outsAt0 m c t.val t.isLt y = (outsAt0 m c (t.val - 1) (lt_of_le_of_lt (Nat.sub_le _ _) t.isLt) y + partAt m c t y)
      * (iblk m c 4 t : FVec Ideal S1x1x2560 .f32) (ix3 0 0 (y 1)) := by
  rw [outsAt0_C m c t (by omega) h1]
  exact outC c (grid0.coords t) _ _ _ _ _ _ _ _ _ _ _ _ _ _ _ _ _ _ _ _ y

/-- A sum over the 2048 hidden units, slice by slice. -/
theorem sum_slices (u : Fin 2048 → EReal) (s : Fin 4 → Fin 512 → Fin 2048) (hs : ∀ f k, (s f k).val = 512 * f.val + k.val) :
    ∑ h, u h = ((∑ k, u (s 0 k) + ∑ k, u (s 1 k)) + ∑ k, u (s 2 k)) + ∑ k, u (s 3 k) := by
  rw [← Fin.sum_univ_four (fun f => ∑ k, u (s f k)), ← Fintype.sum_prod_type']
  refine (Fintype.sum_equiv (finProdFinEquiv (m := 4) (n := 512)) _ _ fun p => ?_).symm
  exact congrArg u (Fin.ext (by rw [hs]; simp [finProdFinEquiv]; omega))

/-- After an expert's last slice its block holds the gated expert output. -/
theorem block_eq (c : Dev nD) (t : Fin cfg0.N) (h : t.val % 4 = 3) (y : S1x2560x1024.Idx) :
    outsAt0 m c t.val t.isLt y = moe (m ((c : Thread nD τ).loc main_arg0)) (m ((c : Thread nD τ).loc main_arg1)) (m ((c : Thread nD τ).loc main_arg2))
      (m ((c : Thread nD τ).loc main_arg3)) (m ((c : Thread nD τ).loc main_arg4)) (ix3 (expert t) (y 1) (y 2)) := by
  have hN : t.val < 64 := lt_of_lt_of_eq t.isLt N_0
  have hlt : ∀ i, t.val - i < cfg0.N := fun i => lt_of_le_of_lt (Nat.sub_le _ _) t.isLt
  have e2 := at_middle m c ⟨t.val - 1, hlt 1⟩ (by simp only; omega) (by simp only; omega) y
  have e1 := at_middle m c ⟨t.val - 1 - 1, by have := hlt 2; rwa [show t.val - 1 - 1 = t.val - 2 by omega]⟩ (by simp only; omega) (by simp only; omega) y
  have e0 := at_first m c ⟨t.val - 1 - 1 - 1, by have := hlt 3; rwa [show t.val - 1 - 1 - 1 = t.val - 3 by omega]⟩ (by simp only; omega) y
  rw [at_last m c t h y]
  dsimp only at e0 e1 e2
  rw [e2, e1, e0, read_g m c t (y 1)]
  unfold partAt
  rw [part_eq, part_eq, part_eq, part_eq]
  unfold moe
  refine congrArg₂ (fun a b : EReal => a * b) ?_ rfl
  refine Eq.trans ?_ (sum_slices _ (fun f k => ⟨512 * f.val + k.val, by omega⟩) (fun f k => rfl)).symm
  refine congrArg₂ (fun a b : EReal => a + b) (congrArg₂ (fun a b : EReal => a + b) (congrArg₂ (fun a b : EReal => a + b) ?_ ?_) ?_) ?_ <;>
    refine Finset.sum_congr rfl fun k _ => ?_ <;>
    refine congrArg₂ (fun e k => unitPart _ _ _ _ e (y 1) (y 2) k) (Fin.ext ?_) (Fin.ext ?_) <;>
    simp only [expert, hidden] <;> (try simp) <;> omega

/-- The kernel's result: the gated expert outputs of its arguments. -/
theorem final (c : Dev nD) : (dats m 0 c).arrAt 5 (cfgs 0).N
    = moe (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  refine (block_eq m c t ((flush0_5 t).mp hf) y).trans ?_
  unfold expert
  blk_ext [idx t]

end Cert.Moe

end
-- ==== Proof.Moe.Reference.lean ====
module

public import proofs.«01_k».proof.Proof.Moe.Value
public import proofs.«01_k».proof.Proof.Gen.Reference2Ideal.Run
public import proofs.«01_k».proof.Proof.Gen.Reference2Ideal.Read

@[expose] public section

set_option maxRecDepth 16384

noncomputable section

namespace Cert.Moe

open Cert.Reference2Ideal Cert.Reference2Ideal.Gen Cert.Reference2Ideal.Read Idealize.ShloMosaic Idealize.ShloMosaic.TcCoe Idealize.SL.Sem

variable (x : FVec Ideal S16x2560x1024 .bf16) (wg wu : FVec Ideal S2x16x1024x2048 .f32) (wd : FVec Ideal S2x16x2048x1024 .f32) (g : FVec Ideal S16x2560 .f32)

/-- A product with the reciprocal of `1 + exp (-x)` is the quotient by it: it is never zero. -/
theorem swish_eq (x : EReal) : x * Ideal.div 1 (1 + Ideal.exp (-x)) = swish x := by
  have h : (1 : EReal) + Ideal.exp (-x) ≠ 0 := by
    have h0 : (0 : EReal) ≤ Ideal.exp (-x) := by
      induction x using EReal.rec with
      | bot => simp
      | top => simp
      | coe r => rw [← EReal.coe_neg, Ideal.exp_coe]; exact EReal.coe_nonneg.mpr (Real.exp_pos _).le
    exact (lt_of_lt_of_le zero_lt_one (le_add_of_nonneg_right h0)).ne'
  unfold swish Ideal.div
  rw [zero_sub, if_neg h, if_neg h, one_mul]

/-- The gate projection of the reference. -/
theorem ref_gate (e : Fin 16) (r : Fin 2560) (h : Fin 2048) :
    val_main_v3 (F := Ideal) x wg (ix3 e r h) = ∑ i : Fin 1024, x (ix3 e r i) * wg (ix4 0 e i h) := by
  rw [val_main_v3_apply]
  refine Finset.sum_congr rfl fun i _ => ?_
  rw [val_main_v2_apply, val_main_v1_apply, val_main_v0_apply]
  refine congrArg₂ (fun a b : EReal => a * b) (congrArg x (funext fun a => Fin.ext ?_)) (congrArg wg (funext fun a => Fin.ext ?_))
  · fin_cases a <;> rfl
  · have he := e.isLt; have hh := h.isLt; have hi := i.isLt
    fin_cases a
    · rfl
    · show ((e.val * 1024 + i.val) * 2048 + h.val) / 2097152 % 16 = e.val; omega
    · show ((e.val * 1024 + i.val) * 2048 + h.val) / 2048 % 1024 = i.val; omega
    · show ((e.val * 1024 + i.val) * 2048 + h.val) % 2048 = h.val; omega

/-- The up projection of the reference. -/
theorem ref_up (e : Fin 16) (r : Fin 2560) (h : Fin 2048) :
    val_main_v7 (F := Ideal) x wu (ix3 e r h) = ∑ i : Fin 1024, x (ix3 e r i) * wu (ix4 0 e i h) := by
  rw [val_main_v7_apply]
  refine Finset.sum_congr rfl fun i _ => ?_
  rw [val_main_v6_apply, val_main_v5_apply, val_main_v0_apply]
  refine congrArg₂ (fun a b : EReal => a * b) (congrArg x (funext fun a => Fin.ext ?_)) (congrArg wu (funext fun a => Fin.ext ?_))
  · fin_cases a <;> rfl
  · have he := e.isLt; have hh := h.isLt; have hi := i.isLt
    fin_cases a
    · rfl
    · show ((e.val * 1024 + i.val) * 2048 + h.val) / 2097152 % 16 = e.val; omega
    · show ((e.val * 1024 + i.val) * 2048 + h.val) / 2048 % 1024 = i.val; omega
    · show ((e.val * 1024 + i.val) * 2048 + h.val) % 2048 = h.val; omega

/-- The hidden layer of the reference. -/
theorem ref_hidden (e : Fin 16) (r : Fin 2560) (h : Fin 2048) :
    val_main_v8 (F := Ideal) x wg wu (ix3 e r h)
      = swish (∑ i : Fin 1024, x (ix3 e r i) * wg (ix4 0 e i h)) * ∑ i : Fin 1024, x (ix3 e r i) * wu (ix4 0 e i h) := by
  rw [val_main_v8_apply, val_main_v4_apply, val_main_call0_v5_apply, val_main_call0_v3_apply, val_main_call0_v1_apply, val_main_call0_v0_apply,
    val_main_call0_v4_apply, val_main_call0_v2_apply, val_main_call0_cst_apply, val_main_call0_cst_0_apply, ref_gate, ref_up, ← swish_eq]
  have h1 : (FloatOps.ofBits .f32 0x3F800000#32 : Ideal .f32) = (1 : EReal) := Ideal.ofBits_one_f32
  rw [h1]
  rfl

/-- The reference's result: the gated expert outputs of its arguments. -/
theorem ref_eq : val_main_v14 (F := Ideal) x wg wu wd g = moe x wg wu wd g := by
  funext y
  obtain ⟨e, r, d, rfl⟩ : ∃ e r d, y = ix3 e r d := ⟨_, _, _, eq_ix3 y⟩
  rw [val_main_v14_apply, val_main_v13_apply, val_main_v12_apply, val_main_v11_apply]
  refine congrArg₂ (fun a b : EReal => a * b) (Finset.sum_congr rfl fun h _ => ?_) (congrArg g (funext fun a => Fin.ext ?_))
  · have hl : lidx_main_v11 (ix3 e r d) h = ix3 e r h := funext fun a => Fin.ext (by fin_cases a <;> rfl)
    rw [hl, ref_hidden, val_main_v10_apply, val_main_v9_apply]
    refine congrArg₂ (fun a b : EReal => a * b) rfl (congrArg wd (funext fun a => Fin.ext ?_))
    have he := e.isLt; have hh := h.isLt; have hi := d.isLt
    fin_cases a
    · rfl
    · show ((e.val * 2048 + h.val) * 1024 + d.val) / 2097152 % 16 = e.val; omega
    · show ((e.val * 2048 + h.val) * 1024 + d.val) / 1024 % 2048 = h.val; omega
    · show ((e.val * 2048 + h.val) * 1024 + d.val) % 1024 = d.val; omega
  · fin_cases a <;> rfl

end Cert.Moe

end
-- ==== Proof.Moe.Claims.lean ====
module

public import proofs.«01_k».proof.Defs
public import proofs.«01_k».proof.Proof.Moe.FrameBits
public import proofs.«01_k».proof.Proof.Moe.Reference

@[expose] public section

set_option maxRecDepth 16384

namespace Cert.Moe

open Idealize.ShloMosaic Idealize.SL.Sem

/-- The frame of the expert kernel's ideal reading. -/
theorem frameIdeal : Cert.quiescent_Kernel2Ideal := fun m g _ => Cert.Kernel2Ideal.Gen.frame m g

/-- The frame of the experts' reference. -/
theorem frameReference : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- Over the extended reals the expert kernel and its reference end with equal results. -/
theorem algebraic : Cert.algebraic_Kernel2Ideal_Reference2Ideal := by
  intro m g m' g' _ hagree
  refine ⟨fun c => moe (m ((c.tc : Thread _ _).loc Cert.Kernel2Ideal.main_arg0)) (m ((c.tc : Thread _ _).loc Cert.Kernel2Ideal.main_arg1))
    (m ((c.tc : Thread _ _).loc Cert.Kernel2Ideal.main_arg2)) (m ((c.tc : Thread _ _).loc Cert.Kernel2Ideal.main_arg3))
    (m ((c.tc : Thread _ _).loc Cert.Kernel2Ideal.main_arg4)), ?_, ?_⟩
  · refine (θ_run _ _ _).mono (fun r h c => ?_) (Cert.Kernel2Ideal.Value.run_blocks m g)
    exact ⟨(h c).1.trans (final m c), (h c).2⟩
  · refine (θ_run _ _ _).mono (fun r h c => ?_) (Cert.Reference2Ideal.Value.run m' g')
    obtain ⟨h0, h1, h2, h3, h4⟩ := hagree c
    refine ⟨(h c).1.trans ?_, (h c).2⟩
    refine (Cert.Reference2Ideal.Read.val_main_v14_eq _ _ _ _ _).trans ((ref_eq _ _ _ _ _).trans ?_)
    dsimp only
    rw [h0, h1, h2, h3, h4]

end Cert.Moe

end
-- ==== Proof.Attn.Softmax.lean ====
module

public import Idealize.ShloMosaic.Lib.Pipeline.ValueKit

@[expose] public section

noncomputable section

namespace Cert.Attn

open Idealize.ShloMosaic

/-- The pattern of minus infinity. -/
theorem ofBits_neg_inf : Ideal.ofBits .f32 0xFF800000#32 = ⊥ := by simp [Ideal.ofBits, Ideal.ieee]

/-- The window's logits followed by the context's. -/
def cat {a b : ℕ} (s : Fin a → EReal) (t : Fin b → EReal) (k : Fin (a + b)) : EReal := Fin.append s t k

/-- The maximum of finitely many extended reals. -/
def top {n : ℕ} (f : Fin n → EReal) : EReal := Finset.univ.fold max ⊥ f

/-- The kernel's attention of one query: unnormalised weights as powers of two, one division at the end. -/
def late {a b : ℕ} (s : Fin a → EReal) (t : Fin b → EReal) (v : Fin a → EReal) (u : Fin b → EReal) : EReal :=
  Ideal.div ((∑ n, Ideal.exp2 (s n - top (cat s t)) * v n) + ∑ c, Ideal.exp2 (t c - top (cat s t)) * u c)
    (∑ k, Ideal.exp2 (cat s t k - top (cat s t)))

/-- The reference's attention of one query: softmax weights, each divided, then the weighted values. -/
def early {a b : ℕ} (s : Fin a → EReal) (t : Fin b → EReal) (v : Fin a → EReal) (u : Fin b → EReal) : EReal :=
  (∑ n, Ideal.div (Ideal.exp (s n - top (cat s t))) (∑ k, Ideal.exp (cat s t k - top (cat s t))) * v n)
    + ∑ c, Ideal.div (Ideal.exp (t c - top (cat s t))) (∑ k, Ideal.exp (cat s t k - top (cat s t))) * u c

/-- Nonnegative finite numbers come out of a sum. -/
theorem sum_mul_real {n : ℕ} (f : Fin n → EReal) (r : ℝ) (hr : 0 ≤ r) : (∑ i, f i) * (r : EReal) = ∑ i, f i * (r : EReal) := by
  have h : ∀ S : Finset (Fin n), (∑ i ∈ S, f i) * (r : EReal) = ∑ i ∈ S, f i * (r : EReal) := fun S => by
    induction S using Finset.induction_on with
    | empty => simp
    | insert i S hi ih =>
      rw [Finset.sum_insert hi, Finset.sum_insert hi, ← ih]
      exact EReal.right_distrib_of_nonneg_of_ne_top (EReal.coe_nonneg.mpr hr) (EReal.coe_ne_top r) _ _
  exact h _

/-- A maximum over finite numbers and minus infinities, one of them finite, is finite. -/
theorem top_real {n : ℕ} (f : Fin n → EReal) (hf : ∀ k, f k ≠ ⊤) (k : Fin n) (hk : f k ≠ ⊥) : ∃ m : ℝ, top f = (m : EReal) := by
  have h1 : top f ≠ ⊤ := by
    refine ne_of_lt ?_
    unfold top
    rw [Finset.fold_max_lt]
    exact ⟨bot_lt_top, fun x _ => lt_top_iff_ne_top.mpr (hf x)⟩
  have h2 : top f ≠ ⊥ := by
    intro h
    have : f k ≤ top f := by
      unfold top
      rw [Finset.le_fold_max]
      exact Or.inr ⟨k, Finset.mem_univ k, le_refl _⟩
    rw [h] at this
    exact hk (le_bot_iff.mp this)
  exact ⟨(top f).toReal, (EReal.coe_toReal h1 h2).symm⟩

/-- A sum of finite numbers is the finite sum. -/
theorem coe_sum {n : ℕ} (f : Fin n → ℝ) : ∑ i, (f i : EReal) = ((∑ i, f i : ℝ) : EReal) := by
  exact (map_sum (⟨⟨Real.toEReal, EReal.coe_zero⟩, EReal.coe_add⟩ : ℝ →+ EReal) f Finset.univ).symm

/-- A sum over a joined row is the sum over its two parts. -/
theorem sum_cat {a b : ℕ} (s : Fin a → EReal) (t : Fin b → EReal) (g : EReal → EReal) :
    ∑ k, g (cat s t k) = (∑ n, g (s n)) + ∑ c, g (t c) := by
  rw [Fin.sum_univ_add]
  simp [cat]

/-- The weight common to both forms. -/
def weight {a b : ℕ} (x : Fin a → ℝ) (y : Fin b → ℝ) (z : ℝ) : ℝ := Real.exp z / ((∑ g, Real.exp (x g)) + ∑ c, Real.exp (y c))

/-- A softmax weight does not change when one number is subtracted from all logits. -/
theorem exp_div {a b : ℕ} (x : Fin a → ℝ) (y : Fin b → ℝ) (m z : ℝ) :
    Real.exp (z - m) / ((∑ g, Real.exp (x g - m)) + ∑ c, Real.exp (y c - m)) = weight x y z := by
  unfold weight
  simp only [Real.exp_sub, ← Finset.sum_div]
  rw [← add_div, div_div_div_cancel_right₀ (Real.exp_ne_zero m)]

/-- The total of the exponentials is positive. -/
theorem total_pos {a b : ℕ} (x : Fin a → ℝ) (y : Fin b → ℝ) (c : Fin b) : 0 < (∑ g, Real.exp (x g)) + ∑ c, Real.exp (y c) :=
  add_pos_of_nonneg_of_pos (Finset.sum_nonneg fun g _ => (Real.exp_pos _).le)
    (Finset.sum_pos (fun c _ => Real.exp_pos _) ⟨c, Finset.mem_univ c⟩)

/-- The reference's form, by the common weights. -/
theorem early_eq {a b : ℕ} (x : Fin a → ℝ) (y : Fin b → ℝ) (c0 : Fin b) (v : Fin a → EReal) (u : Fin b → EReal) :
    early (fun g => (x g : EReal)) (fun c => (y c : EReal)) v u
      = (∑ g, ((weight x y (x g) : ℝ) : EReal) * v g) + ∑ c, ((weight x y (y c) : ℝ) : EReal) * u c := by
  obtain ⟨m, hm⟩ : ∃ m : ℝ, top (cat (fun g => (x g : EReal)) (fun c => (y c : EReal))) = (m : EReal) := by
    refine top_real _ (fun k => ?_) (Fin.natAdd a c0) ?_
    · refine Fin.addCases (fun i => ?_) (fun i => ?_) k <;> simp [cat]
    · simp [cat]
  unfold early
  have hD : ∑ k, Ideal.exp (cat (fun g => (x g : EReal)) (fun c => (y c : EReal)) k - (m : EReal))
      = (((∑ g, Real.exp (x g - m)) + ∑ c, Real.exp (y c - m) : ℝ) : EReal) := by
    rw [sum_cat _ _ fun e => Ideal.exp (e - (m : EReal))]
    simp only [← EReal.coe_sub, Ideal.exp_coe, coe_sum, ← EReal.coe_add]
  have hw : ∀ z : ℝ, Ideal.div (Ideal.exp ((z : EReal) - (m : EReal))) (((∑ g, Real.exp (x g - m)) + ∑ c, Real.exp (y c - m) : ℝ) : EReal)
      = ((weight x y z : ℝ) : EReal) := fun z => by
    rw [← EReal.coe_sub, Ideal.exp_coe, Ideal.div_coe (ne_of_gt (total_pos (fun g => x g - m) (fun c => y c - m) c0)), one_div, ← exp_div x y m z, ← EReal.coe_mul, div_eq_mul_inv]
  rw [hm, hD]
  simp only [hw]

/-- The kernel's form, by the common weights of the keys within range (at `φ g`), the others weighing nothing. -/
theorem late_eq {a a' b : ℕ} (x : Fin a → ℝ) (y : Fin b → ℝ) (c0 : Fin b) (φ : Fin a → Fin a') (hφ : Function.Injective φ)
    (s : Fin a' → EReal) (t : Fin b → EReal) (v : Fin a' → EReal) (u : Fin b → EReal)
    (hs : ∀ g, s (φ g) = ((x g * (Real.log 2)⁻¹ : ℝ) : EReal)) (hs' : ∀ n, (∀ g, φ g ≠ n) → s n = ⊥)
    (ht : ∀ c, t c = ((y c * (Real.log 2)⁻¹ : ℝ) : EReal)) :
    late s t v u = (∑ g, ((weight x y (x g) : ℝ) : EReal) * v (φ g)) + ∑ c, ((weight x y (y c) : ℝ) : EReal) * u c := by
  have hn : ∀ n, s n ≠ ⊤ := fun n => by
    by_cases h : ∃ g, φ g = n
    · obtain ⟨g, rfl⟩ := h
      rw [hs]; exact EReal.coe_ne_top _
    · rw [hs' n (fun g hg => h ⟨g, hg⟩)]; exact bot_ne_top
  obtain ⟨m, hm⟩ : ∃ m : ℝ, top (cat s t) = (m : EReal) := by
    refine top_real _ (fun k => ?_) (Fin.natAdd a' c0) ?_
    · refine Fin.addCases (fun i => ?_) (fun i => ?_) k
      · simpa [cat] using hn i
      · simpa [cat, ht] using EReal.coe_ne_top (y i * (Real.log 2)⁻¹)
    · simpa [cat, ht] using EReal.coe_ne_bot (y c0 * (Real.log 2)⁻¹)
  have hl : Real.log 2 ≠ 0 := ne_of_gt (Real.log_pos (by norm_num))
  have he : ∀ z : ℝ, Ideal.exp2 (((z * (Real.log 2)⁻¹ : ℝ) : EReal) - (m : EReal)) = ((Real.exp (z - m * Real.log 2) : ℝ) : EReal) := fun z => by
    rw [← EReal.coe_sub, Ideal.exp2_coe]
    congr 1
    show (2 : ℝ) ^ (z * (Real.log 2)⁻¹ - m) = _
    rw [Real.rpow_def_of_pos (by norm_num)]
    congr 1
    field_simp
  have hb : Ideal.exp2 ((⊥ : EReal) - (m : EReal)) = 0 := by
    rw [EReal.bot_sub]; rfl
  have hsum : ∀ f : Fin a' → EReal, ∑ n, Ideal.exp2 (s n - (m : EReal)) * f n = ∑ g, ((Real.exp (x g - m * Real.log 2) : ℝ) : EReal) * f (φ g) := fun f => by
    rw [← Finset.sum_subset (Finset.subset_univ (Finset.univ.image φ)) (fun n _ hn => ?_), Finset.sum_image (fun _ _ _ _ h => hφ h)]
    · exact Finset.sum_congr rfl fun g _ => by rw [hs, he]
    · rw [hs' n (fun g hg => hn (Finset.mem_image.mpr ⟨g, Finset.mem_univ g, hg⟩)), hb, zero_mul]
  have hD : ∑ k, Ideal.exp2 (cat s t k - (m : EReal))
      = (((∑ g, Real.exp (x g - m * Real.log 2)) + ∑ c, Real.exp (y c - m * Real.log 2) : ℝ) : EReal) := by
    rw [sum_cat _ _ fun e => Ideal.exp2 (e - (m : EReal))]
    have h1 := hsum fun _ => 1
    simp only [mul_one] at h1
    rw [h1]
    simp only [ht, he, coe_sum, ← EReal.coe_add]
  unfold late
  rw [hm, hD, Ideal.div_coe (ne_of_gt (total_pos (fun g => x g - m * Real.log 2) (fun c => y c - m * Real.log 2) c0)), one_div, hsum v]
  have hpos : 0 ≤ ((∑ g, Real.exp (x g - m * Real.log 2)) + ∑ c, Real.exp (y c - m * Real.log 2))⁻¹ := (inv_pos.mpr (total_pos _ _ c0)).le
  rw [EReal.right_distrib_of_nonneg_of_ne_top (EReal.coe_nonneg.mpr hpos) (EReal.coe_ne_top _), sum_mul_real _ _ hpos, sum_mul_real _ _ hpos]
  have hw : ∀ (z : ℝ) (e : EReal), ((Real.exp (z - m * Real.log 2) : ℝ) : EReal) * e
      * ((((∑ g, Real.exp (x g - m * Real.log 2)) + ∑ c, Real.exp (y c - m * Real.log 2))⁻¹ : ℝ) : EReal) = ((weight x y z : ℝ) : EReal) * e := fun z e => by
    rw [mul_right_comm, ← EReal.coe_mul, ← exp_div x y (m * Real.log 2) z, div_eq_mul_inv]
  simp only [ht, he, hw]

/-- The two forms agree. -/
theorem late_eq_early {a a' b : ℕ} (x : Fin a → ℝ) (y : Fin b → ℝ) (c0 : Fin b) (φ : Fin a → Fin a') (hφ : Function.Injective φ)
    (s : Fin a' → EReal) (t : Fin b → EReal) (v : Fin a' → EReal) (u : Fin b → EReal)
    (hs : ∀ g, s (φ g) = ((x g * (Real.log 2)⁻¹ : ℝ) : EReal)) (hs' : ∀ n, (∀ g, φ g ≠ n) → s n = ⊥)
    (ht : ∀ c, t c = ((y c * (Real.log 2)⁻¹ : ℝ) : EReal)) :
    late s t v u = early (fun g => (x g : EReal)) (fun c => (y c : EReal)) (fun g => v (φ g)) u :=
  (late_eq x y c0 φ hφ s t v u hs hs' ht).trans (early_eq x y c0 _ u).symm

end Cert.Attn

end
-- ==== Proof.Attn.Finite.lean ====
module

public import proofs.«01_k».proof.Proof.PreFacts
public import proofs.«01_k».proof.Proof.Attn.Softmax

/-!
# What the precondition says

Every query, key, cached key and bias is a real number.
-/

@[expose] public section

set_option maxRecDepth 16384

noncomputable section

namespace Cert.Attn

open Idealize.ShloMosaic Cert.Pre_finite

attribute [local instance] preFacts

/-- A number whose absolute value is less than infinity is real. -/
theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => exact absurd h (by simp [Ideal.cmp])
  | coe r => exact ⟨r, rfl⟩
  | top => exact absurd h (by simp [Ideal.cmp])

variable {x0 : FVec Ideal S4x4096x3072 .bf16} {x1 x2 : FVec Ideal S4x1x256x16x64 .f32} {x3 : FVec Ideal S1x16x15x31 .f32}

/-- The queries and keys are real. -/
theorem real_packed (h : (fn (F := Ideal) x0 x1 x2 x3).1 = fun _ => 1#1) (b : Fin 4) (p : Fin 4096) (e : Fin 2048) :
    ∃ r : ℝ, x0 (ix3 b p ⟨e, by omega⟩) = (r : EReal) := by
  refine real_of_lt _ (Eq.trans (Eq.symm ?_) (congrFun h (ix3 b p e)))
  pointwise [fn]
  rfl

/-- The cached keys are real. -/
theorem real_cached (h : (fn (F := Ideal) x0 x1 x2 x3).2.1 = fun _ => 1#1) (i : S4x1x256x16x64.Idx) :
    ∃ r : ℝ, x1 i = (r : EReal) :=
  real_of_lt _ (congrFun h i)

/-- The biases are real. -/
theorem real_bias (h : (fn (F := Ideal) x0 x1 x2 x3).2.2 = fun _ => 1#1) (i : S1x16x15x31.Idx) :
    ∃ r : ℝ, x3 i = (r : EReal) :=
  real_of_lt _ (congrFun h i)

end Cert.Attn

end
-- ==== Proof.Attn.Tables.lean ====
module

public import proofs.«01_k».proof.Proof.Attn.Softmax
public import proofs.«01_k».proof.Proof.Gen.ReferenceIdeal.Run
public import proofs.«01_k».proof.Proof.Gen.ReferenceIdeal.Read

@[expose] public section

set_option maxRecDepth 16384

noncomputable section

namespace Cert.Attn

open Cert.ReferenceIdeal Cert.ReferenceIdeal.Gen Cert.ReferenceIdeal.Read Idealize.ShloMosaic Idealize.ShloMosaic.TcCoe Idealize.SL.Sem

/-- The first key row of a query row's window. -/
def rowStart (r : Fin 64) : ℕ := min 56 (r - 4)

/-- The first key column of a query column's window. -/
def colStart (c : Fin 64) : ℕ := min 48 (c - 8)

/-- The row of the table the keys are gathered by. -/
theorem keyTable_row (r c : Fin 64) (i : Fin 8) (j : Fin 16) :
    val_main_v58 (F := Ideal) (ix5 r c i j 0) = BitVec.ofNat 32 (rowStart r + i) := by
  pointwise [val_main_v58, val_main_v57, val_main_v55, val_main_v53, val_main_v43, val_main_v36, val_main_v35, val_main_v33, val_main_v32, val_main_v34, val_main_v31, val_main_v30, val_main_call1_v2, val_main_v29, val_main_v28, val_main_c_3, val_main_v27, val_main_call1_v1, val_main_call1_v0, val_main_c_4, val_main_call1_v4, val_main_call1_v3, val_main_c_5, val_main_v52, val_main_v51, val_main_c_10, val_main_v50, val_main_v49, val_main_c_9, val_main_v56, val_main_v54, val_main_v48, val_main_v42, val_main_v21, val_main_v20, val_main_v18, val_main_v17, val_main_v19, val_main_v16, val_main_v15, val_main_call0_v2, val_main_v14, val_main_v13, val_main_c, val_main_v12, val_main_call0_v1, val_main_call0_v0, val_main_c_0, val_main_call0_v4, val_main_call0_v3, val_main_c_1, val_main_v47, val_main_v46, val_main_c_8, val_main_v45, val_main_v44, val_main_c_7]
  clear c j
  revert r i
  decide +kernel

/-- The column of the table the keys are gathered by. -/
theorem keyTable_col (r c : Fin 64) (i : Fin 8) (j : Fin 16) :
    val_main_v58 (F := Ideal) (ix5 r c i j 1) = BitVec.ofNat 32 (colStart c + j) := by
  pointwise [val_main_v58, val_main_v57, val_main_v55, val_main_v53, val_main_v43, val_main_v36, val_main_v35, val_main_v33, val_main_v32, val_main_v34, val_main_v31, val_main_v30, val_main_call1_v2, val_main_v29, val_main_v28, val_main_c_3, val_main_v27, val_main_call1_v1, val_main_call1_v0, val_main_c_4, val_main_call1_v4, val_main_call1_v3, val_main_c_5, val_main_v52, val_main_v51, val_main_c_10, val_main_v50, val_main_v49, val_main_c_9, val_main_v56, val_main_v54, val_main_v48, val_main_v42, val_main_v21, val_main_v20, val_main_v18, val_main_v17, val_main_v19, val_main_v16, val_main_v15, val_main_call0_v2, val_main_v14, val_main_v13, val_main_c, val_main_v12, val_main_call0_v1, val_main_call0_v0, val_main_c_0, val_main_call0_v4, val_main_call0_v3, val_main_c_1, val_main_v47, val_main_v46, val_main_c_8, val_main_v45, val_main_v44, val_main_c_7]
  clear r i
  revert c j
  decide +kernel

/-- The row of the table the values are gathered by. -/
theorem valTable_row (r c : Fin 64) (i : Fin 8) (j : Fin 16) :
    val_main_v74 (F := Ideal) (ix5 r c i j 0) = BitVec.ofNat 32 (rowStart r + i) := by
  pointwise [val_main_v74, val_main_v73, val_main_v71, val_main_v69, val_main_v43, val_main_v36, val_main_v35, val_main_v33, val_main_v32, val_main_v34, val_main_v31, val_main_v30, val_main_call1_v2, val_main_v29, val_main_v28, val_main_c_3, val_main_v27, val_main_call1_v1, val_main_call1_v0, val_main_c_4, val_main_call1_v4, val_main_call1_v3, val_main_c_5, val_main_v68, val_main_v67, val_main_c_14, val_main_v66, val_main_v65, val_main_c_13, val_main_v72, val_main_v70, val_main_v64, val_main_v42, val_main_v21, val_main_v20, val_main_v18, val_main_v17, val_main_v19, val_main_v16, val_main_v15, val_main_call0_v2, val_main_v14, val_main_v13, val_main_c, val_main_v12, val_main_call0_v1, val_main_call0_v0, val_main_c_0, val_main_call0_v4, val_main_call0_v3, val_main_c_1, val_main_v63, val_main_v62, val_main_c_12, val_main_v61, val_main_v60, val_main_c_11]
  clear c j
  revert r i
  decide +kernel

/-- The column of the table the values are gathered by. -/
theorem valTable_col (r c : Fin 64) (i : Fin 8) (j : Fin 16) :
    val_main_v74 (F := Ideal) (ix5 r c i j 1) = BitVec.ofNat 32 (colStart c + j) := by
  pointwise [val_main_v74, val_main_v73, val_main_v71, val_main_v69, val_main_v43, val_main_v36, val_main_v35, val_main_v33, val_main_v32, val_main_v34, val_main_v31, val_main_v30, val_main_call1_v2, val_main_v29, val_main_v28, val_main_c_3, val_main_v27, val_main_call1_v1, val_main_call1_v0, val_main_c_4, val_main_call1_v4, val_main_call1_v3, val_main_c_5, val_main_v68, val_main_v67, val_main_c_14, val_main_v66, val_main_v65, val_main_c_13, val_main_v72, val_main_v70, val_main_v64, val_main_v42, val_main_v21, val_main_v20, val_main_v18, val_main_v17, val_main_v19, val_main_v16, val_main_v15, val_main_call0_v2, val_main_v14, val_main_v13, val_main_c, val_main_v12, val_main_call0_v1, val_main_call0_v0, val_main_c_0, val_main_call0_v4, val_main_call0_v3, val_main_c_1, val_main_v63, val_main_v62, val_main_c_12, val_main_v61, val_main_v60, val_main_c_11]
  clear r i
  revert c j
  decide +kernel

/-- The row of the table the biases are gathered by. -/
theorem biasTable_row (r c : Fin 64) (i : Fin 8) (j : Fin 16) :
    val_main_v92 (F := Ideal) (ix5 r c i j 0) = BitVec.ofNat 32 (rowStart r + i + 7 - r) := by
  pointwise [val_main_v92, val_main_v91, val_main_v89, val_main_v87, val_main_v77, val_main_v41, val_main_v40, val_main_c_6, val_main_v39, val_main_v38, val_main_v37, val_main_v27, val_main_v36, val_main_v35, val_main_v33, val_main_v32, val_main_v34, val_main_v31, val_main_v30, val_main_call1_v2, val_main_v29, val_main_v28, val_main_c_3, val_main_call1_v1, val_main_call1_v0, val_main_c_4, val_main_call1_v4, val_main_call1_v3, val_main_c_5, val_main_v86, val_main_v85, val_main_c_18, val_main_v84, val_main_v83, val_main_c_17, val_main_v90, val_main_v88, val_main_v82, val_main_v76, val_main_v26, val_main_v25, val_main_c_2, val_main_v24, val_main_v23, val_main_v22, val_main_v12, val_main_v21, val_main_v20, val_main_v18, val_main_v17, val_main_v19, val_main_v16, val_main_v15, val_main_call0_v2, val_main_v14, val_main_v13, val_main_c, val_main_call0_v1, val_main_call0_v0, val_main_c_0, val_main_call0_v4, val_main_call0_v3, val_main_c_1, val_main_v81, val_main_v80, val_main_c_16, val_main_v79, val_main_v78, val_main_c_15]
  clear c j
  revert r i
  decide +kernel

/-- The column of the table the biases are gathered by. -/
theorem biasTable_col (r c : Fin 64) (i : Fin 8) (j : Fin 16) :
    val_main_v92 (F := Ideal) (ix5 r c i j 1) = BitVec.ofNat 32 (colStart c + j + 15 - c) := by
  pointwise [val_main_v92, val_main_v91, val_main_v89, val_main_v87, val_main_v77, val_main_v41, val_main_v40, val_main_c_6, val_main_v39, val_main_v38, val_main_v37, val_main_v27, val_main_v36, val_main_v35, val_main_v33, val_main_v32, val_main_v34, val_main_v31, val_main_v30, val_main_call1_v2, val_main_v29, val_main_v28, val_main_c_3, val_main_call1_v1, val_main_call1_v0, val_main_c_4, val_main_call1_v4, val_main_call1_v3, val_main_c_5, val_main_v86, val_main_v85, val_main_c_18, val_main_v84, val_main_v83, val_main_c_17, val_main_v90, val_main_v88, val_main_v82, val_main_v76, val_main_v26, val_main_v25, val_main_c_2, val_main_v24, val_main_v23, val_main_v22, val_main_v12, val_main_v21, val_main_v20, val_main_v18, val_main_v17, val_main_v19, val_main_v16, val_main_v15, val_main_call0_v2, val_main_v14, val_main_v13, val_main_c, val_main_call0_v1, val_main_call0_v0, val_main_c_0, val_main_call0_v4, val_main_call0_v3, val_main_c_1, val_main_v81, val_main_v80, val_main_c_16, val_main_v79, val_main_v78, val_main_c_15]
  clear r i
  revert c j
  decide +kernel

/-- A small number read back from its 32-bit word. -/
theorem word_nat (n : ℕ) (h : n < 64) : (BitVec.ofNat 32 n).toInt.toNat = n := by
  interval_cases n <;> rfl

/-- The gather of keys (or values), read at an index whose table entries are known. -/
theorem gatherKey (x : FVec Ideal S4x64x64x16x64 .f32) (idx : IVec S64x64x8x16x2 32) (b : Fin 4) (r c : Fin 64) (i : Fin 8) (j : Fin 16)
    (h : Fin 16) (d : Fin 64) (p q : Fin 64) (hp : idx (ix5 r c i j 0) = BitVec.ofNat 32 p) (hq : idx (ix5 r c i j 1) = BitVec.ofNat 32 q) :
    Host.gather gather_S4x64x64x16x64_S64x64x8x16x2_S4x64x64x8x16x16x64_056_12_n_n_12_4_4111664 x idx (ix7 b r c i j h d) = x (ix5 b p q h d) := by
  have h1 : GatherDims.siIdx gather_S4x64x64x16x64_S64x64x8x16x2_S4x64x64x8x16x16x64_056_12_n_n_12_4_4111664 (ix7 b r c i j h d)
      ⟨0, by decide⟩ = ix5 r c i j 0 := funext fun a => by fin_cases a <;> rfl
  have h2 : GatherDims.siIdx gather_S4x64x64x16x64_S64x64x8x16x2_S4x64x64x8x16x16x64_056_12_n_n_12_4_4111664 (ix7 b r c i j h d)
      ⟨1, by decide⟩ = ix5 r c i j 1 := funext fun a => by fin_cases a <;> rfl
  unfold Host.gather
  refine congrArg x (funext fun a => Fin.ext ?_)
  unfold GatherDims.operandIdx
  fin_cases a <;> show GatherDims.start _ _ _ _ + GatherDims.batchCoord _ _ _ + GatherDims.offCoord _ _ _ = _ <;>
    rw [GatherDims.batchCoord_eq_zero _ _ _ (by decide), Nat.add_zero]
  · rw [GatherDims.start, dif_neg (by decide), GatherDims.offCoord, dif_pos (by decide), Nat.zero_add]
    rfl
  · rw [GatherDims.start, dif_pos (by decide), GatherDims.offCoord, dif_neg (by decide), Nat.add_zero]
    refine (congrArg (fun e : BitVec 32 => min e.toInt.toNat 63) ((congrArg idx h1).trans hp)).trans ?_
    rw [word_nat _ p.isLt]
    exact min_eq_left (by omega)
  · rw [GatherDims.start, dif_pos (by decide), GatherDims.offCoord, dif_neg (by decide), Nat.add_zero]
    refine (congrArg (fun e : BitVec 32 => min e.toInt.toNat 63) ((congrArg idx h2).trans hq)).trans ?_
    rw [word_nat _ q.isLt]
    exact min_eq_left (by omega)
  · rw [GatherDims.start, dif_neg (by decide), GatherDims.offCoord, dif_pos (by decide), Nat.zero_add]
    rfl
  · rw [GatherDims.start, dif_neg (by decide), GatherDims.offCoord, dif_pos (by decide), Nat.zero_add]
    rfl

/-- The gather of biases, read at an index whose table entries are known. -/
theorem gatherBias (x : FVec Ideal S16x15x31 .f32) (idx : IVec S64x64x8x16x2 32) (r c : Fin 64) (i : Fin 8) (j : Fin 16)
    (h : Fin 16) (p : Fin 15) (q : Fin 31) (hp : idx (ix5 r c i j 0) = BitVec.ofNat 32 p) (hq : idx (ix5 r c i j 1) = BitVec.ofNat 32 q) :
    Host.gather gather_S16x15x31_S64x64x8x16x2_S16x64x64x8x16_0_12_n_n_12_4_1611 x idx (ix5 h r c i j) = x (ix3 h p q) := by
  have h1 : GatherDims.siIdx gather_S16x15x31_S64x64x8x16x2_S16x64x64x8x16_0_12_n_n_12_4_1611 (ix5 h r c i j)
      ⟨0, by decide⟩ = ix5 r c i j 0 := funext fun a => by fin_cases a <;> rfl
  have h2 : GatherDims.siIdx gather_S16x15x31_S64x64x8x16x2_S16x64x64x8x16_0_12_n_n_12_4_1611 (ix5 h r c i j)
      ⟨1, by decide⟩ = ix5 r c i j 1 := funext fun a => by fin_cases a <;> rfl
  unfold Host.gather
  refine congrArg x (funext fun a => Fin.ext ?_)
  unfold GatherDims.operandIdx
  fin_cases a <;> show GatherDims.start _ _ _ _ + GatherDims.batchCoord _ _ _ + GatherDims.offCoord _ _ _ = _ <;>
    rw [GatherDims.batchCoord_eq_zero _ _ _ (by decide), Nat.add_zero]
  · rw [GatherDims.start, dif_neg (by decide), GatherDims.offCoord, dif_pos (by decide), Nat.zero_add]
    rfl
  · rw [GatherDims.start, dif_pos (by decide), GatherDims.offCoord, dif_neg (by decide), Nat.add_zero]
    refine (congrArg (fun e : BitVec 32 => min e.toInt.toNat 14) ((congrArg idx h1).trans hp)).trans ?_
    rw [word_nat _ (by omega)]
    exact min_eq_left (by omega)
  · rw [GatherDims.start, dif_pos (by decide), GatherDims.offCoord, dif_neg (by decide), Nat.add_zero]
    refine (congrArg (fun e : BitVec 32 => min e.toInt.toNat 30) ((congrArg idx h2).trans hq)).trans ?_
    rw [word_nat _ (by omega)]
    exact min_eq_left (by omega)

end Cert.Attn

end
-- ==== Proof.Attn.Base.lean ====
module

public import proofs.«01_k».proof.Proof.Attn.Tables
public import proofs.«01_k».proof.Proof.Attn.Softmax
public import proofs.«01_k».proof.Proof.Gen.KernelIdeal.Frame.Runs
public import Idealize.ShloMosaic.Lib.StableHlo.RunRead

/-!
# The table of relative position biases the kernel reads

The host side of the kernel's program makes, from the 16 × 15 × 31 table of biases, one plane of 64 × 64 columns for
each head and each of the 15 row distances (`base`): entry (q, k) is the bias of column distance k − q + 15 over log 2 when
key column k lies in the window of query column q, and −∞ otherwise.  Eight windows of eight consecutive row distances
are then laid side by side (`slab`) and stacked (`stack`).  The module reads every entry of the finished table.
-/

@[expose] public section

set_option maxRecDepth 16384

noncomputable section

namespace Cert.Attn

open Cert.KernelIdeal Cert.KernelIdeal.Gen Idealize.ShloMosaic Idealize.ShloMosaic.TcCoe Idealize.ShloMosaic.StableHlo Idealize.SL.Sem

/-- The first key column of each query column's window. -/
def starts : IVec S64 32 :=
  minsi (broadcastInDim S64 ![] bcast_S_S64 (constantI S_ 32 48#32))
    (maxsi (broadcastInDim S64 ![] bcast_S_S64 (constantI S_ 32 0#32))
      (subi (iotaInDim S64 32 0) (broadcastInDim S64 ![] bcast_S_S64 (constantI S_ 32 8#32))))

/-- Whether a key column lies in a query column's window. -/
def inWindow : IVec S64x64 1 :=
  andi
    (cmpi .sge
      (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 starts)))
    (cmpi .slt
      (broadcastInDim S64x64 ![0, 1] bcast_S1x64_S64x64_0_1 (broadcastInDim S1x64 ![1] bcast_S64_S1x64_1 (iotaInDim S64 32 0)))
      (broadcastInDim S64x64 ![0, 1] bcast_S64x1_S64x64_0_1
        (addi (broadcastInDim S64x1 ![0] bcast_S64_S64x1_0 starts) (broadcastInDim S64x1 ![] bcast_S_S64x1 (constantI S_ 32 16#32)))))

/-- Whether a query and a key column are a given column distance apart. -/
def apart : IVec S31x64x64 1 :=
  cmpi .eq
    (broadcastInDim S31x64x64 ![0, 1, 2] bcast_S1x64x64_S31x64x64_0_1_2
      (broadcastInDim S1x64x64 ![1, 2] bcast_S64x64_S1x64x64_1_2
        (addi
          (subi
            (broadcastInDim S64x64 ![0, 1] bcast_S1x64_S64x64_0_1 (broadcastInDim S1x64 ![1] bcast_S64_S1x64_1 (iotaInDim S64 32 0)))
            (broadcastInDim S64x64 ![0, 1] bcast_S64x1_S64x64_0_1 (broadcastInDim S64x1 ![0] bcast_S64_S64x1_0 (iotaInDim S64 32 0))))
          (broadcastInDim S64x64 ![] bcast_S_S64x64 (constantI S_ 32 15#32)))))
    (broadcastInDim S31x64x64 ![0, 1, 2] bcast_S31x1x1_S31x64x64_0_1_2
      (broadcastInDim S31x1x1 ![0] bcast_S31_S31x1x1_0 (iotaInDim S31 32 0)))

/-- The base table from the biases. -/
def baseTable (x3 : FVec Ideal S1x16x15x31 .f32) : FVec Ideal S16x15x64x64 .f32 :=
  select
    (broadcastInDim S16x15x64x64 ![0, 1, 2, 3] bcast_S1x1x64x64_S16x15x64x64_0_1_2_3
      (broadcastInDim S1x1x64x64 ![2, 3] bcast_S64x64_S1x1x64x64_2_3 inWindow))
    (mulf
      (Host.dotGeneral dot_S16x15x31_S31x64x64_S16x15x64x64_2_0_01_12_n_n (some .fp32)
        (shapeCast S16x15x31 x3 shapeCasts_S1x16x15x31_S16x15x31) (uitofp .f32 apart))
      (broadcastInDim S16x15x64x64 ![] bcast_S_S16x15x64x64
        (Host.divf (constant S_ .f32 0x3F800000#32) (Host.log (constant S_ .f32 0x40000000#32)))))
    (broadcastInDim S16x15x64x64 ![] bcast_S_S16x15x64x64 (constant S_ .f32 0xFF800000#32))

/-- Key column n lies in the window of query column q. -/
theorem inWindow_apply (q n : Fin 64) :
    inWindow (ix2 q n) = if colStart q ≤ n ∧ n < colStart q + 16 then 1#1 else 0#1 := by
  pointwise [inWindow, starts]
  unfold colStart
  revert q n
  decide +kernel

/-- Columns q and n are d − 15 apart. -/
theorem apart_apply (d : Fin 31) (q n : Fin 64) :
    apart (ix3 d q n) = if (n : ℕ) + 15 = d + q then 1#1 else 0#1 := by
  pointwise [apart]
  have e : BitVec.ofNat 32 n - BitVec.ofNat 32 q + 15#32 = BitVec.ofNat 32 d ↔ (n : ℕ) + 15 = d + q := by
    rw [← BitVec.toNat_inj]
    simp only [BitVec.toNat_add, BitVec.toNat_sub, BitVec.toNat_ofNat]
    omega
  show BitVec.ofBool (BitVec.ofNat 32 n - BitVec.ofNat 32 q + 15#32 == BitVec.ofNat 32 d) = _
  by_cases h : (n : ℕ) + 15 = d + q
  · rw [if_pos h, e.mpr h, beq_self_eq_true]
    rfl
  · rw [if_neg h, beq_false_of_ne fun h' => h (e.mp h')]
    rfl

/-- The number two. -/
theorem ofBits_two : Ideal.ofBits .f32 0x40000000#32 = ((2 : ℝ) : EReal) := by
  simp [Ideal.ofBits, Ideal.ieee, -EReal.coe_mul]; norm_num

/-- The factor the biases are multiplied by. -/
theorem inv_log_two : Ideal.div 1 (Ideal.log (Ideal.ofBits .f32 0x40000000#32)) = (((Real.log 2)⁻¹ : ℝ) : EReal) := by
  have h : Real.log 2 ≠ 0 := (Real.log_pos (by norm_num)).ne'
  rw [ofBits_two, Ideal.log_coe, if_neg (by norm_num), Ideal.div_coe h, one_mul, one_div]

/-- A yes-or-no entry as a number. -/
theorem uitofp_ite (p : Prop) [Decidable p] :
    (FloatOps.uitofp .f32 (if p then 1#1 else 0#1 : BitVec 1) : Ideal .f32) = ((if p then 1 else 0 : EReal)) := by
  split_ifs
  · show (((1#1 : BitVec 1).toNat : ℝ) : EReal) = 1
    simp
  · show (((0#1 : BitVec 1).toNat : ℝ) : EReal) = 0
    simp

/-- Each entry of the base table. -/
theorem baseTable_apply (x3 : FVec Ideal S1x16x15x31 .f32) (h : Fin 16) (k : Fin 15) (q n : Fin 64) :
    baseTable x3 (ix4 h k q n)
      = if w : colStart q ≤ n ∧ n < colStart q + 16 then
          x3 (ix4 0 h k ⟨n + 15 - q, by unfold colStart at w; omega⟩) * (((Real.log 2)⁻¹ : ℝ) : EReal)
        else ⊥ := by
  pointwise [baseTable]
  rw [inWindow_apply]
  by_cases w : colStart q ≤ n ∧ n < colStart q + 16
  · rw [if_pos w, dif_pos w, inv_log_two]
    have hb : (n : ℕ) + 15 - q < 31 := by unfold colStart at w; omega
    have e : (∑ x : Fin 31, x3 (ix4 0 h k x) * (FloatOps.uitofp .f32 (apart (ix3 x q n)) : Ideal .f32) : EReal)
        = x3 (ix4 0 h k ⟨n + 15 - q, hb⟩) := by
      rw [Finset.sum_eq_single (⟨n + 15 - q, hb⟩ : Fin 31)]
      · rw [apart_apply, uitofp_ite, if_pos (by unfold colStart at w; dsimp; omega)]
        exact mul_one _
      · intro d _ hd
        rw [apart_apply, uitofp_ite, if_neg fun e => hd (Fin.ext (by dsimp; omega))]
        exact mul_zero _
      · exact fun e => absurd (Finset.mem_univ _) e
    exact congrArg (fun a : EReal => a * (((Real.log 2)⁻¹ : ℝ) : EReal)) e
  · rw [if_neg w, dif_neg w]
    exact ofBits_neg_inf

/-- What the host operations leave as the base table. -/
theorem base (Z : Idealize.ShloMosaic.Valuation τ sig (Elt Ideal)) :
    (StableHlo.after hostOps0_3 (StableHlo.after hostOps0_2 (StableHlo.after hostOps0_1 (StableHlo.after hostOps0 Z))) main_v44)
      = baseTable (Z main_arg3) := by
  after_reads_simp
  rfl

end Cert.Attn
-- ==== Proof.Attn.Bias.lean ====
module

public import proofs.«01_k».proof.Proof.Attn.Tables
public import proofs.«01_k».proof.Proof.Attn.Softmax
public import proofs.«01_k».proof.Proof.Gen.KernelIdeal.Frame.Runs
public import Idealize.ShloMosaic.Lib.StableHlo.RunRead

/-!
# The table of relative position biases the kernel reads

The host side of the kernel's program makes, from the 16 × 15 × 31 table of biases, one plane of 64 × 64 columns for
each head and each of the 15 row distances (`base`): entry (q, k) is the bias of column distance k − q + 15 over log 2 when
key column k lies in the window of query column q, and −∞ otherwise.  Eight windows of eight consecutive row distances
are then laid side by side (`slab`) and stacked (`stack`).  The module reads every entry of the finished table.
-/

@[expose] public section

set_option maxRecDepth 16384

noncomputable section

namespace Cert.Attn

open Cert.KernelIdeal Cert.KernelIdeal.Gen Idealize.ShloMosaic Idealize.ShloMosaic.TcCoe Idealize.ShloMosaic.StableHlo Idealize.SL.Sem

/-- The plane of 64 × 64 columns of one row distance, for all heads. -/
def plane (T : FVec Ideal S16x15x64x64 .f32) : Fin 15 → FVec Ideal S16x64x64 .f32 :=
  ![shapeCast S16x64x64 (extractStridedSlice S16x1x64x64 ![0, 0, 0, 0] T slices_S16x15x64x64_S16x1x64x64_0_0_0_0) shapeCasts_S16x1x64x64_S16x64x64,
    shapeCast S16x64x64 (extractStridedSlice S16x1x64x64 ![0, 1, 0, 0] T slices_S16x15x64x64_S16x1x64x64_0_1_0_0) shapeCasts_S16x1x64x64_S16x64x64,
    shapeCast S16x64x64 (extractStridedSlice S16x1x64x64 ![0, 2, 0, 0] T slices_S16x15x64x64_S16x1x64x64_0_2_0_0) shapeCasts_S16x1x64x64_S16x64x64,
    shapeCast S16x64x64 (extractStridedSlice S16x1x64x64 ![0, 3, 0, 0] T slices_S16x15x64x64_S16x1x64x64_0_3_0_0) shapeCasts_S16x1x64x64_S16x64x64,
    shapeCast S16x64x64 (extractStridedSlice S16x1x64x64 ![0, 4, 0, 0] T slices_S16x15x64x64_S16x1x64x64_0_4_0_0) shapeCasts_S16x1x64x64_S16x64x64,
    shapeCast S16x64x64 (extractStridedSlice S16x1x64x64 ![0, 5, 0, 0] T slices_S16x15x64x64_S16x1x64x64_0_5_0_0) shapeCasts_S16x1x64x64_S16x64x64,
    shapeCast S16x64x64 (extractStridedSlice S16x1x64x64 ![0, 6, 0, 0] T slices_S16x15x64x64_S16x1x64x64_0_6_0_0) shapeCasts_S16x1x64x64_S16x64x64,
    shapeCast S16x64x64 (extractStridedSlice S16x1x64x64 ![0, 7, 0, 0] T slices_S16x15x64x64_S16x1x64x64_0_7_0_0) shapeCasts_S16x1x64x64_S16x64x64,
    shapeCast S16x64x64 (extractStridedSlice S16x1x64x64 ![0, 8, 0, 0] T slices_S16x15x64x64_S16x1x64x64_0_8_0_0) shapeCasts_S16x1x64x64_S16x64x64,
    shapeCast S16x64x64 (extractStridedSlice S16x1x64x64 ![0, 9, 0, 0] T slices_S16x15x64x64_S16x1x64x64_0_9_0_0) shapeCasts_S16x1x64x64_S16x64x64,
    shapeCast S16x64x64 (extractStridedSlice S16x1x64x64 ![0, 10, 0, 0] T slices_S16x15x64x64_S16x1x64x64_0_10_0_0) shapeCasts_S16x1x64x64_S16x64x64,
    shapeCast S16x64x64 (extractStridedSlice S16x1x64x64 ![0, 11, 0, 0] T slices_S16x15x64x64_S16x1x64x64_0_11_0_0) shapeCasts_S16x1x64x64_S16x64x64,
    shapeCast S16x64x64 (extractStridedSlice S16x1x64x64 ![0, 12, 0, 0] T slices_S16x15x64x64_S16x1x64x64_0_12_0_0) shapeCasts_S16x1x64x64_S16x64x64,
    shapeCast S16x64x64 (extractStridedSlice S16x1x64x64 ![0, 13, 0, 0] T slices_S16x15x64x64_S16x1x64x64_0_13_0_0) shapeCasts_S16x1x64x64_S16x64x64,
    shapeCast S16x64x64 (extractStridedSlice S16x1x64x64 ![0, 14, 0, 0] T slices_S16x15x64x64_S16x1x64x64_0_14_0_0) shapeCasts_S16x1x64x64_S16x64x64]

/-- Eight planes side by side. -/
def slab (X : Fin 8 → FVec Ideal S16x64x64 .f32) : FVec Ideal S16x64x512 .f32 :=
  concatenate S16x64x512 2 [⟨S16x64x64, X 0⟩, ⟨S16x64x64, X 1⟩, ⟨S16x64x64, X 2⟩, ⟨S16x64x64, X 3⟩, ⟨S16x64x64, X 4⟩, ⟨S16x64x64, X 5⟩, ⟨S16x64x64, X 6⟩, ⟨S16x64x64, X 7⟩]
    concatenates_S16x64x64_S16x64x64_S16x64x64_S16x64x64_S16x64x64_S16x64x64_S16x64x64_S16x64x64_S16x64x512_d2

/-- Eight such rows of planes stacked, two heads to a block. -/
def stack (Y : Fin 8 → FVec Ideal S16x64x512 .f32) : FVec Ideal S8x8x128x512 .f32 :=
  shapeCast S8x8x128x512 (concatenate S8x16x64x512 0 [⟨S1x16x64x512, broadcastInDim S1x16x64x512 ![1, 2, 3] bcast_S16x64x512_S1x16x64x512_1_2_3 (Y 0)⟩,
    ⟨S1x16x64x512, broadcastInDim S1x16x64x512 ![1, 2, 3] bcast_S16x64x512_S1x16x64x512_1_2_3 (Y 1)⟩,
    ⟨S1x16x64x512, broadcastInDim S1x16x64x512 ![1, 2, 3] bcast_S16x64x512_S1x16x64x512_1_2_3 (Y 2)⟩,
    ⟨S1x16x64x512, broadcastInDim S1x16x64x512 ![1, 2, 3] bcast_S16x64x512_S1x16x64x512_1_2_3 (Y 3)⟩,
    ⟨S1x16x64x512, broadcastInDim S1x16x64x512 ![1, 2, 3] bcast_S16x64x512_S1x16x64x512_1_2_3 (Y 4)⟩,
    ⟨S1x16x64x512, broadcastInDim S1x16x64x512 ![1, 2, 3] bcast_S16x64x512_S1x16x64x512_1_2_3 (Y 5)⟩,
    ⟨S1x16x64x512, broadcastInDim S1x16x64x512 ![1, 2, 3] bcast_S16x64x512_S1x16x64x512_1_2_3 (Y 6)⟩,
    ⟨S1x16x64x512, broadcastInDim S1x16x64x512 ![1, 2, 3] bcast_S16x64x512_S1x16x64x512_1_2_3 (Y 7)⟩]
    concatenates_S1x16x64x512_S1x16x64x512_S1x16x64x512_S1x16x64x512_S1x16x64x512_S1x16x64x512_S1x16x64x512_S1x16x64x512_S8x16x64x512_d0) shapeCasts_S8x16x64x512_S8x8x128x512

/-- A plane is a slice of the base table. -/
theorem plane_apply (T : FVec Ideal S16x15x64x64 .f32) (k : Fin 15) (h : Fin 16) (q n : Fin 64) :
    plane T k (ix3 h q n) = T (ix4 h k q n) := by
  fin_cases k <;> (dsimp only [plane, Matrix.cons_val]; pointwise)

/-- Entry n of a slab is column n mod 64 of plane n / 64. -/
theorem slab_apply (X : Fin 8 → FVec Ideal S16x64x64 .f32) (h : Fin 16) (q : Fin 64) (n : Fin 512) :
    slab X (ix3 h q n) = X ⟨n / 64, by omega⟩ (ix3 h q ⟨n % 64, by omega⟩) := by
  pointwise [slab]
  split_ifs <;>
    exact congrArg₂ (fun i k => X i (ix3 h q k)) (Fin.ext (by dsimp; omega)) (Fin.ext (by dsimp; omega))

/-- An entry of the stack. -/
theorem stack_apply (Y : Fin 8 → FVec Ideal S16x64x512 .f32) (o : Fin 8) (hp : Fin 8) (r : Fin 128) (n : Fin 512) :
    stack Y (ix4 o hp r n) = Y o (ix3 ⟨2 * hp + r / 64, by omega⟩ ⟨r % 64, by omega⟩ n) := by
  pointwise [stack]
  have e : ∀ i : Fin 8, i = o → Y i (ix3 ⟨hp * 2 + r / 64, by omega⟩ ⟨r % 64, by omega⟩ n)
      = Y o (ix3 ⟨2 * hp + r / 64, by omega⟩ ⟨r % 64, by omega⟩ n) := fun i hi =>
    congrArg₂ (fun i k => Y i (ix3 k ⟨r % 64, by omega⟩ n)) hi (Fin.ext (by dsimp; omega))
  split_ifs <;> exact e _ (Fin.ext (by dsimp; omega))

set_option maxHeartbeats 8000000 in
/-- The finished table, from the base table. -/
theorem finished (Z : Idealize.ShloMosaic.Valuation τ sig (Elt Ideal)) :
    StableHlo.after hostOps0_4 Z main_v190
      = stack fun o => slab fun j => plane (Z main_v44) ⟨o + j, by omega⟩ := by
  after_reads_simp
  rfl

end Cert.Attn
-- ==== Proof.Attn.Pair.lean ====
module

public import proofs.«01_k».proof.Proof.Gen.KernelIdeal.Value
public import proofs.«01_k».proof.Proof.Attn.Softmax
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe Idealize.SL.Sem

/-- A lane of the first head. -/
theorem cmp_lt (n : ℕ) (h : n < 64) : IntOp.cmpi CmpIPredicate.slt (BitVec.ofNat 32 n) 64#32 = 1#1 := by
  interval_cases n <;> rfl

/-- A lane of the second head. -/
theorem cmp_ge (n : Fin 128) (h : ¬ (n : ℕ) < 64) : IntOp.cmpi CmpIPredicate.slt (BitVec.ofNat 32 n) 64#32 = 0#1 := by
  revert n; decide

/-- The zeroing of the other head's lanes. -/
theorem pick (f : Fin 64 → EReal) (e : EReal) (he : e = 0) (r n : Fin 128) :
    (if h : (r : ℕ) < 64 then Scalar.select (IntOp.cmpi CmpIPredicate.slt (BitVec.ofNat 32 n) 64#32) (f ⟨r, h⟩) e
      else Scalar.select (IntOp.cmpi CmpIPredicate.slt (BitVec.ofNat 32 n) 64#32) e (f ⟨r - 64, by omega⟩))
      = if (r : ℕ) < 64 ↔ (n : ℕ) < 64 then f ⟨r % 64, Nat.mod_lt _ (by omega)⟩ else 0 := by
  subst he
  by_cases h : (r : ℕ) < 64 <;> by_cases h' : (n : ℕ) < 64
  · rw [dif_pos h, if_pos (by tauto), cmp_lt _ h']
    exact congrArg f (Fin.ext (Nat.mod_eq_of_lt h).symm)
  · rw [dif_pos h, if_neg (by tauto), cmp_ge _ h']
    rfl
  · rw [dif_neg h, if_neg (by tauto), cmp_lt _ h']
    rfl
  · rw [dif_neg h, if_pos (by tauto), cmp_ge _ h']
    exact congrArg f (Fin.ext (by simp only; omega))

/-- One row of 64 queries and one pair of heads, as vectors: queries, the window's keys, its biases, the context's keys, both values. -/
def pairOut (q : FVec Ideal S1x64x128 .bf16) (kw : FVec Ideal S1x512x128 .bf16) (b : FVec Ideal S1x1x128x512 .f32)
    (kc : FVec Ideal S1x256x128 .bf16) (vw : FVec Ideal S1x512x128 .bf16) (vc : FVec Ideal S1x256x128 .bf16) : FVec Ideal S1x64x128 .bf16 :=
  k0_pay1 k0_pay2 (k0_pay82 vw) (k0_pay83 vc) (k0_pay84 k0_pay2 q kw b kc)

/-- The queries of both heads of a pair, each with the other head's lanes zeroed. -/
def queries (q : FVec Ideal S1x64x128 .bf16) : FVec Ideal S128x128 .bf16 := k0_pay3 q

/-- The logits of a pair: the window's keys, then the context's. -/
def logits (q : FVec Ideal S1x64x128 .bf16) (kw : FVec Ideal S1x512x128 .bf16) (b : FVec Ideal S1x1x128x512 .f32)
    (kc : FVec Ideal S1x256x128 .bf16) : FVec Ideal S128x768 .f32 :=
  concatenate S128x768 1 [⟨S128x512, addf (mulf (matmul dot_S128x128_S512x128_S128x512_1_1_0_0_n_n none (queries q)
      (shapeCast S512x128 kw shapeCasts_S1x512x128_S512x128) (constant S128x512 .f32 0x00000000#32))
      (broadcast S128x512 (Named.named κ "scale" 0x3E38AA3B#32))) (shapeCast S128x512 b shapeCasts_S1x1x128x512_S128x512)⟩,
    ⟨S128x256, mulf (matmul dot_S128x128_S256x128_S128x256_1_1_0_0_n_n none (queries q)
      (shapeCast S256x128 kc shapeCasts_S1x256x128_S256x128) (constant S128x256 .f32 0x00000000#32))
      (broadcast S128x256 (Named.named κ "scale" 0x3E38AA3B#32))⟩] concatenates_S128x512_S128x256_S128x768_d1

/-- The unnormalised weights of a pair: powers of two of the logits below their row's maximum. -/
def weights (x : FVec Ideal S128x768 .f32) : FVec Ideal S128x768 .f32 :=
  exp2 (subf x (broadcastTo S128x768 (shapeCast S128x1 (multiReduction .maximumf [1] S128 x 0xFF800000#32 reduces_S128x768_S128 (.inl rfl) rfl)
    shapeCasts_S128_S128x1) broadcasts_S128x1_S128x768))

/-- The kernel's weights of a pair of heads are those of its logits. -/
theorem weights_eq (q : FVec Ideal S1x64x128 .bf16) (kw : FVec Ideal S1x512x128 .bf16) (b : FVec Ideal S1x1x128x512 .f32)
    (kc : FVec Ideal S1x256x128 .bf16) : k0_pay84 (F := Ideal) k0_pay2 q kw b kc = weights (logits q kw b kc) := rfl

/-- A weight: two to the power of the logit minus the row's maximum. -/
theorem weights_apply (x : FVec Ideal S128x768 .f32) (r : Fin 128) (n : Fin 768) :
    weights x (ix2 r n) = Ideal.exp2 (x (ix2 r n) - top fun k : Fin 768 => x (ix2 r k)) := by
  unfold weights top
  pointwise
  have h : Ideal.ofBits .f32 0xFF800000#32 = ⊥ := ofBits_neg_inf
  rw [h]
  rfl

/-- The factor of the logits. -/
def scale : EReal := Named.named (F := Ideal) κ "scale" (φ := .f32) 0x3E38AA3B#32

/-- A window logit: scaled product of query and key, plus the bias. -/
def winLogit (q : FVec Ideal S1x64x128 .bf16) (kw : FVec Ideal S1x512x128 .bf16) (b : FVec Ideal S1x1x128x512 .f32) (r : Fin 128) (n : Fin 512) : EReal :=
  (∑ x : Fin 128, queries q (ix2 r x) * kw (ix3 0 n x)) * scale + b (ix4 0 0 r n)

/-- A context logit: scaled product of query and key. -/
def ctxLogit (q : FVec Ideal S1x64x128 .bf16) (kc : FVec Ideal S1x256x128 .bf16) (r : Fin 128) (n : Fin 256) : EReal :=
  (∑ x : Fin 128, queries q (ix2 r x) * kc (ix3 0 n x)) * scale

/-- A row of logits is its window logits, then its context logits. -/
theorem logits_apply (q : FVec Ideal S1x64x128 .bf16) (kw : FVec Ideal S1x512x128 .bf16) (b : FVec Ideal S1x1x128x512 .f32)
    (kc : FVec Ideal S1x256x128 .bf16) (r : Fin 128) (n : Fin 768) :
    logits q kw b kc (ix2 r n) = cat (winLogit q kw b r) (ctxLogit q kc r) (n : Fin (512 + 256)) := by
  unfold logits
  pointwise
  by_cases h : (n : ℕ) < 512
  · rw [dif_pos h]
    obtain ⟨k, rfl⟩ : ∃ k : Fin 512, n = Fin.castAdd 256 k := ⟨⟨n, h⟩, rfl⟩
    unfold cat
    rw [Fin.append_left]
    rfl
  · rw [dif_neg h]
    obtain ⟨k, rfl⟩ : ∃ k : Fin 256, n = Fin.natAdd 512 k := ⟨⟨n - 512, by omega⟩, Fin.ext (by simp; omega)⟩
    unfold cat
    rw [Fin.append_right]
    unfold ctxLogit
    have hk : (⟨(Fin.natAdd 512 k : Fin (512 + 256)) - 512, by simp⟩ : Fin 256) = k := Fin.ext (by simp)
    simp only [hk]
    rfl

/-- The queries of the pair's first head stand in the first 64 rows, those of its second head in the last 64. -/
theorem queries_apply (q : FVec Ideal S1x64x128 .bf16) (r : Fin 128) (n : Fin 128) :
    queries q (ix2 r n) = if (r : ℕ) < 64 ↔ (n : ℕ) < 64 then q (ix3 0 ⟨r % 64, Nat.mod_lt _ (by omega)⟩ n) else 0 := by
  unfold queries
  pointwise [k0_pay3, k0_pay2]
  have hz : (((0#32 : BitVec 32).toInt : ℝ) : EReal) = 0 := by simp
  exact pick (fun k => q (ix3 0 k n)) _ hz r n

/-- The row of the pair's logits that belongs to query `w` and lane `l`. -/
def rowOf (w : Fin 64) (l : Fin 128) : Fin 128 := ⟨w + 64 * (l / 64), by omega⟩

/-- What the pair's code computes for one query and one lane. -/
theorem pairOut_apply (q : FVec Ideal S1x64x128 .bf16) (kw : FVec Ideal S1x512x128 .bf16) (b : FVec Ideal S1x1x128x512 .f32)
    (kc : FVec Ideal S1x256x128 .bf16) (vw : FVec Ideal S1x512x128 .bf16) (vc : FVec Ideal S1x256x128 .bf16) (z : Fin 1) (w : Fin 64) (l : Fin 128) :
    pairOut q kw b kc vw vc (ix3 z w l)
      = late (winLogit q kw b (rowOf w l)) (ctxLogit q kc (rowOf w l)) (fun n => vw (ix3 0 n l)) (fun c => vc (ix3 0 c l)) := by
  have key : ∀ r : Fin 128, Ideal.div ((∑ x : Fin 512, weights (logits q kw b kc) (ix2 r ⟨x, by omega⟩) * vw (ix3 0 x l))
      + ∑ x : Fin 256, weights (logits q kw b kc) (ix2 r ⟨512 + x, by omega⟩) * vc (ix3 0 x l)) (∑ x : Fin 768, weights (logits q kw b kc) (ix2 r x))
      = late (winLogit q kw b r) (ctxLogit q kc r) (fun n => vw (ix3 0 n l)) (fun c => vc (ix3 0 c l)) := fun r => by
    have ht : (fun k : Fin 768 => logits q kw b kc (ix2 r k)) = cat (winLogit q kw b r) (ctxLogit q kc r) := funext fun k => logits_apply q kw b kc r k
    simp only [weights_apply, ht]
    unfold late
    refine congrArg₂ Ideal.div (congrArg₂ (fun a b : EReal => a + b) (Finset.sum_congr rfl fun n _ => ?_) (Finset.sum_congr rfl fun n _ => ?_)) (Finset.sum_congr rfl fun n _ => ?_)
    · rw [logits_apply]
      refine congrArg (fun e => Ideal.exp2 (e - _) * _) ?_
      exact Fin.append_left _ _ n
    · rw [logits_apply]
      refine congrArg (fun e => Ideal.exp2 (e - _) * _) ?_
      exact Fin.append_right _ _ n
    · rw [logits_apply]
  unfold pairOut
  rw [weights_eq]
  generalize weights (logits q kw b kc) = P at *
  pointwise [k0_pay1, k0_pay2, k0_pay82, k0_pay83]
  by_cases h : (l : ℕ) < 64
  · rw [cmp_lt _ h]
    have hr : rowOf w l = ⟨w, by omega⟩ := Fin.ext (by simp [rowOf]; omega)
    rw [hr, ← key]
    rfl
  · rw [cmp_ge _ h]
    have hr : rowOf w l = ⟨64 + w, by omega⟩ := Fin.ext (by simp [rowOf]; omega)
    rw [hr, ← key]
    rfl

end Cert.Attn

end
-- ==== Proof.Attn.Body.lean ====
module

public import proofs.«01_k».proof.Proof.Attn.Pair
public import proofs.«01_k».proof.Proof.Moe.Body

@[expose] public section

set_option maxRecDepth 16384

noncomputable section

namespace Cert.Attn

open Cert.KernelIdeal Cert.KernelIdeal.Gen Idealize.ShloMosaic Idealize.ShloMosaic.TcCoe Idealize.SL.Sem

/-- A sum over a pair's lanes, the other head's queries zeroed, is the sum over the head's own lanes. -/
theorem lanes (f g : Fin 128 → EReal) (w : Fin 64) (l : Fin 128) :
    ∑ x : Fin 128, (if (rowOf w l : ℕ) < 64 ↔ (x : ℕ) < 64 then f x else 0) * g x
      = ∑ e : Fin 64, f ⟨64 * (l / 64) + e, by omega⟩ * g ⟨64 * (l / 64) + e, by omega⟩ := by
  have hsum := Fin.sum_univ_add (a := 64) (b := 64) (fun x : Fin (64 + 64) => (if (rowOf w l : ℕ) < 64 ↔ (x : ℕ) < 64 then f x else 0) * g x)
  refine hsum.trans ?_
  by_cases h : (l : ℕ) < 64
  · have hr : (rowOf w l : ℕ) < 64 := by simp only [rowOf]; omega
    have h2 : ∀ e : Fin 64, (if (rowOf w l : ℕ) < 64 ↔ ((Fin.natAdd 64 e : Fin (64 + 64)) : ℕ) < 64 then f (Fin.natAdd 64 e : Fin (64 + 64)) else 0) * g (Fin.natAdd 64 e : Fin (64 + 64)) = 0 := fun e => by
      rw [if_neg (by simp only [Fin.val_natAdd]; omega), zero_mul]
    rw [Finset.sum_congr rfl fun e _ => h2 e, Finset.sum_const_zero, add_zero]
    refine Finset.sum_congr rfl fun e _ => ?_
    rw [if_pos (by simp only [Fin.val_castAdd]; omega)]
    refine congrArg₂ (fun a b : EReal => a * b) (congrArg f (Fin.ext ?_)) (congrArg g (Fin.ext ?_)) <;> simp only [Fin.val_castAdd] <;> omega
  · have hr : ¬ (rowOf w l : ℕ) < 64 := by simp only [rowOf]; omega
    have h2 : ∀ e : Fin 64, (if (rowOf w l : ℕ) < 64 ↔ ((Fin.castAdd 64 e : Fin (64 + 64)) : ℕ) < 64 then f (Fin.castAdd 64 e : Fin (64 + 64)) else 0) * g (Fin.castAdd 64 e : Fin (64 + 64)) = 0 := fun e => by
      rw [if_neg (by simp only [Fin.val_castAdd]; omega), zero_mul]
    rw [Finset.sum_congr rfl fun e _ => h2 e, Finset.sum_const_zero, zero_add]
    refine Finset.sum_congr rfl fun e _ => ?_
    rw [if_pos (by simp only [Fin.val_natAdd]; omega)]
    refine congrArg₂ (fun a b : EReal => a * b) (congrArg f (Fin.ext ?_)) (congrArg g (Fin.ext ?_)) <;> simp only [Fin.val_natAdd] <;> omega

/-- Where the window of row `ρ` of a point's two rows starts in the packed keys. -/
def rowBase (i : grid0.Coords) (ρ : ℕ) : ℕ := 64 * min 56 (2 * (i 1 : ℕ) + ρ - 4)

/-- The offsets a point loads and stores its tiles at. -/
theorem offs : ∀ i : grid0.Coords,
    (k0_off1 i 0#32 = ![0, rowBase i 0, 0] ∧ k0_off2 i 0#32 = ![0, rowBase i 0, 128] ∧ k0_off3 i 0#32 = ![0, rowBase i 0, 256]
      ∧ k0_off4 i 0#32 = ![0, rowBase i 0, 384] ∧ k0_off5 i 0#32 = ![0, rowBase i 0, 512] ∧ k0_off6 i 0#32 = ![0, rowBase i 0, 640]
      ∧ k0_off7 i 0#32 = ![0, rowBase i 0, 768] ∧ k0_off8 i 0#32 = ![0, rowBase i 0, 896])
    ∧ (k0_off1 i 1#32 = ![0, rowBase i 1, 0] ∧ k0_off2 i 1#32 = ![0, rowBase i 1, 128] ∧ k0_off3 i 1#32 = ![0, rowBase i 1, 256]
      ∧ k0_off4 i 1#32 = ![0, rowBase i 1, 384] ∧ k0_off5 i 1#32 = ![0, rowBase i 1, 512] ∧ k0_off6 i 1#32 = ![0, rowBase i 1, 640]
      ∧ k0_off7 i 1#32 = ![0, rowBase i 1, 768] ∧ k0_off8 i 1#32 = ![0, rowBase i 1, 896]) := by
  decide +kernel

/-- A window logit of the query at row `p` and column `q` of a point's block. -/
def winAt (i : grid0.Coords) (x0 : FVec Ideal S1x128x1024 .bf16) (x1 : FVec Ideal S1x4096x1024 .bf16) (x5 x6 : FVec Ideal S1x8x128x512 .f32)
    (p : Fin 128) (q : Fin 1024) (n : Fin 512) : EReal :=
  (∑ e : Fin 64, x0 (ix3 0 p ⟨64 * (q / 64) + e, by omega⟩)
      * x1 (ix3 0 ⟨rowBase i (p / 64) + n, by unfold rowBase; omega⟩ ⟨64 * (q / 64) + e, by omega⟩)) * scale
    + (if (p : ℕ) < 64 then x5 else x6) (ix4 0 ⟨q / 128, by omega⟩ ⟨p % 64 + 64 * (q / 64 % 2), by omega⟩ n)

/-- A context logit of that query. -/
def ctxAt (x0 : FVec Ideal S1x128x1024 .bf16) (x3 : FVec Ideal S1x256x1024 .bf16) (p : Fin 128) (q : Fin 1024) (n : Fin 256) : EReal :=
  (∑ e : Fin 64, x0 (ix3 0 p ⟨64 * (q / 64) + e, by omega⟩) * x3 (ix3 0 n ⟨64 * (q / 64) + e, by omega⟩)) * scale

/-- What a point writes at row `p` and column `q` of its block. -/
def outAt (i : grid0.Coords) (x0 : FVec Ideal S1x128x1024 .bf16) (x1 x2 : FVec Ideal S1x4096x1024 .bf16) (x3 x4 : FVec Ideal S1x256x1024 .bf16)
    (x5 x6 : FVec Ideal S1x8x128x512 .f32) (p : Fin 128) (q : Fin 1024) : EReal :=
  late (winAt i x0 x1 x5 x6 p q) (ctxAt x0 x3 p q) (fun n => x2 (ix3 0 ⟨rowBase i (p / 64) + n, by unfold rowBase; omega⟩ q)) (fun n => x4 (ix3 0 n q))

/-- The place of an element's tile in the order the tiles are stored. -/
def pairNo (y : S1x128x1024.Idx) : Nat := (y 1 : Nat) / 64 * 8 + (y 2 : Nat) / 128

/-- The first `n` tiles hold the attention of their queries. -/
def Filled (i : grid0.Coords) (x0 : FVec Ideal S1x128x1024 .bf16) (x1 x2 : FVec Ideal S1x4096x1024 .bf16) (x3 x4 : FVec Ideal S1x256x1024 .bf16)
    (x5 x6 : FVec Ideal S1x8x128x512 .f32) (L : List (View.Piece (Elt Ideal) S1x128x1024 .bf16)) (n : Nat) : Prop :=
  ∀ y, pairNo y < n → View.canon L y = outAt i x0 x1 x2 x3 x4 x5 x6 (y 1) (y 2)

/-- A tile's element, from what its six operands hold. -/
theorem pair_of_reads {i : grid0.Coords} {x0 : FVec Ideal S1x128x1024 .bf16} {x1 x2 : FVec Ideal S1x4096x1024 .bf16}
    {x3 x4 : FVec Ideal S1x256x1024 .bf16} {x5 x6 : FVec Ideal S1x8x128x512 .f32}
    {qv : FVec Ideal S1x64x128 .bf16} {kw : FVec Ideal S1x512x128 .bf16} {bv : FVec Ideal S1x1x128x512 .f32}
    {kc : FVec Ideal S1x256x128 .bf16} {vw : FVec Ideal S1x512x128 .bf16} {vc : FVec Ideal S1x256x128 .bf16}
    {a b j : ℕ} (w : Fin 64) (l : Fin 128) (p : Fin 128) (q : Fin 1024) (hp : (p : ℕ) = a + w) (hq : (q : ℕ) = b + l)
    (ha : a % 64 = 0) (hb : b = j * 128)
    (rq : ∀ f : Fin 128, qv (ix3 0 w f) = x0 (ix3 0 p ⟨b + f, by omega⟩))
    (rk : ∀ (n : Fin 512) (f : Fin 128), kw (ix3 0 n f) = x1 (ix3 0 ⟨rowBase i (p / 64) + n, by unfold rowBase; omega⟩ ⟨b + f, by omega⟩))
    (rb : ∀ (r : Fin 128) (n : Fin 512), bv (ix4 0 0 r n) = (if (p : ℕ) < 64 then x5 else x6) (ix4 0 ⟨j, by omega⟩ r n))
    (rc : ∀ (n : Fin 256) (f : Fin 128), kc (ix3 0 n f) = x3 (ix3 0 n ⟨b + f, by omega⟩))
    (rv : ∀ n : Fin 512, vw (ix3 0 n l) = x2 (ix3 0 ⟨rowBase i (p / 64) + n, by unfold rowBase; omega⟩ q))
    (ru : ∀ n : Fin 256, vc (ix3 0 n l) = x4 (ix3 0 n q)) :
    late (winLogit qv kw bv (rowOf w l)) (ctxLogit qv kc (rowOf w l)) (fun n => vw (ix3 0 n l)) (fun n => vc (ix3 0 n l))
      = outAt i x0 x1 x2 x3 x4 x5 x6 p q := by
  have hr : ∀ h, (⟨(rowOf w l : ℕ) % 64, h⟩ : Fin 64) = w := fun h => Fin.ext (by simp only [rowOf]; omega)
  have hl : ∀ (e : Fin 64) h, (⟨b + (64 * ((l : ℕ) / 64) + e), h⟩ : Fin 1024) = ⟨64 * (q / 64) + e, by omega⟩ := fun e h => Fin.ext (by simp only; omega)
  have e1 : winLogit qv kw bv (rowOf w l) = winAt i x0 x1 x5 x6 p q := funext fun n => by
    unfold winLogit winAt
    refine congrArg₂ (fun a b : EReal => a * scale + b) ?_ ?_
    · simp only [queries_apply, hr]
      refine (lanes (fun f => qv (ix3 0 w f)) (fun f => kw (ix3 0 n f)) w l).trans ?_
      simp only [rq, rk, hl]
    · rw [rb]
      refine congrArg (if (p : ℕ) < 64 then x5 else x6) ?_
      refine congrArg₂ (fun s t => ix4 0 s t n) (Fin.ext ?_) (Fin.ext ?_)
      · simp only; omega
      · simp only [rowOf]; omega
  have e2 : ctxLogit qv kc (rowOf w l) = ctxAt x0 x3 p q := funext fun n => by
    unfold ctxLogit ctxAt
    refine congrArg (fun a : EReal => a * scale) ?_
    simp only [queries_apply, hr]
    refine (lanes (fun f => qv (ix3 0 w f)) (fun f => kc (ix3 0 n f)) w l).trans ?_
    simp only [rq, rc, hl]
  rw [e1, e2]
  simp only [rv, ru]
  rfl

/-- The next tile. -/
theorem pair_step {i : grid0.Coords} {x0 : FVec Ideal S1x128x1024 .bf16} {x1 x2 : FVec Ideal S1x4096x1024 .bf16}
    {x3 x4 : FVec Ideal S1x256x1024 .bf16} {x5 x6 : FVec Ideal S1x8x128x512 .f32} {L : List (View.Piece (Elt Ideal) S1x128x1024 .bf16)} {n : Nat}
    (hn : n < 16)
    {v2 : Memref sig .tc .vmem S1x128x1024 .bf16} (h2 : v2.IsWhole) {v3 v4 : Memref sig .tc .vmem S1x4096x1024 .bf16} (h3 : v3.IsWhole) (h4 : v4.IsWhole)
    {v5 v6 : Memref sig .tc .vmem S1x256x1024 .bf16} (h5 : v5.IsWhole) (h6 : v6.IsWhole) {v7 : Memref sig .tc .vmem S1x8x128x512 .f32} (h7 : v7.IsWhole)
    (xb : FVec Ideal S1x8x128x512 .f32) (a b j : Nat) (off : Fin 3 → Nat)
    (inb : ∀ i, (![0, a, b] : Fin 3 → Nat) i + S1x64x128.size i ≤ S1x128x1024.size i)
    (inbw : ∀ i, off i + S1x512x128.size i ≤ S1x4096x1024.size i)
    (inbb : ∀ i, (![0, j, 0, 0] : Fin 4 → Nat) i + S1x1x128x512.size i ≤ S1x8x128x512.size i)
    (inbc : ∀ i, (![0, 0, b] : Fin 3 → Nat) i + S1x256x128.size i ≤ S1x256x1024.size i)
    (ha : a = n / 8 * 64) (hb : b = n % 8 * 128) (hj : j = n % 8) (hoff : off = ![0, rowBase i (n / 8), b])
    (hxb : xb = if n < 8 then x5 else x6)
    (h : Filled i x0 x1 x2 x3 x4 x5 x6 L n) :
    Filled i x0 x1 x2 x3 x4 x5 x6 (⟨Rect.unit (s := S1x128x1024) ![0, a, b] S1x64x128.size inb,
      pairOut (View.readAt (Elt Ideal) v2.view (Rect.unit (s := S1x128x1024) ![0, a, b] S1x64x128.size inb).toLoadRect (h2.unread x0))
        (View.readAt (Elt Ideal) v3.view (Rect.unit (s := S1x4096x1024) off S1x512x128.size inbw).toLoadRect (h3.unread x1))
        (View.readAt (Elt Ideal) v7.view (Rect.unit (s := S1x8x128x512) ![0, j, 0, 0] S1x1x128x512.size inbb).toLoadRect (h7.unread xb))
        (View.readAt (Elt Ideal) v5.view (Rect.unit (s := S1x256x1024) ![0, 0, b] S1x256x128.size inbc).toLoadRect (h5.unread x3))
        (View.readAt (Elt Ideal) v4.view (Rect.unit (s := S1x4096x1024) off S1x512x128.size inbw).toLoadRect (h4.unread x2))
        (View.readAt (Elt Ideal) v6.view (Rect.unit (s := S1x256x1024) ![0, 0, b] S1x256x128.size inbc).toLoadRect (h6.unread x4))⟩ :: L) (n + 1) := by
  have hr : ∀ y, y ∈ (Rect.unit (s := S1x128x1024) ![0, a, b] S1x64x128.size inb).set ↔ pairNo y = n := fun y => by
    have h0 : (y 0 : Nat) < 1 := (y 0).isLt
    have h1 : (y 1 : Nat) < 128 := (y 1).isLt
    have h2 : (y 2 : Nat) < 1024 := (y 2).isLt
    rw [Rect.mem_set_unit]
    have hs : ∀ P : Fin 3 → Prop, (∀ i, P i) ↔ P 0 ∧ P 1 ∧ P 2 := fun P => by
      simp [Fin.forall_fin_succ]
    rw [hs]
    simp only [pairNo, Matrix.cons_val_zero, Matrix.cons_val_one, Matrix.cons_val]
    subst ha hb
    omega
  refine Cert.Moe.tile_step (fun y => outAt i x0 x1 x2 x3 x4 x5 x6 (y 1) (y 2)) _ _ L pairNo n (fun y => h y) hr fun x => ?_
  obtain ⟨z, w, l, rfl⟩ : ∃ z w l, x = ix3 z w l := ⟨_, _, _, eq_ix3 x⟩
  have hp : ((Rect.unit (s := S1x128x1024) ![0, a, b] S1x64x128.size inb).emb (ix3 z w l) 1 : ℕ) = a + w := ValueKit.rect_emb_unit_val _ _ _ _ _
  have hq : ((Rect.unit (s := S1x128x1024) ![0, a, b] S1x64x128.size inb).emb (ix3 z w l) 2 : ℕ) = b + l := ValueKit.rect_emb_unit_val _ _ _ _ _
  rw [pairOut_apply]
  simp only [View.readAt_eq_ld, h2.read_unread, h3.read_unread, h4.read_unread, h5.read_unread, h6.read_unread, h7.read_unread]
  revert hp hq
  generalize (Rect.unit (s := S1x128x1024) ![0, a, b] S1x64x128.size inb).emb (ix3 z w l) 1 = p
  generalize (Rect.unit (s := S1x128x1024) ![0, a, b] S1x64x128.size inb).emb (ix3 z w l) 2 = q
  intro hp hq
  have hl := l.isLt
  have hw := w.isLt
  have hρ : n / 8 = (p : ℕ) / 64 := by omega
  rw [hρ] at hoff
  refine pair_of_reads (a := a) (b := b) (j := j) w l p q hp hq (by omega) (by omega) ?_ ?_ ?_ ?_ ?_ ?_
  · intro f
    refine congrArg x0 (funext fun k => Fin.ext ?_)
    fin_cases k <;> simp [ValueKit.rect_emb_unit_val, View.ld] <;> omega
  · intro n' f
    refine congrArg x1 (funext fun k => Fin.ext ?_)
    fin_cases k <;> simp [ValueKit.rect_emb_unit_val, View.ld, hoff]
  · intro r n'
    have hx : (if (p : ℕ) < 64 then x5 else x6) = xb := by
      rw [hxb]
      by_cases h8 : n < 8
      · rw [if_pos h8, if_pos (by omega)]
      · rw [if_neg h8, if_neg (by omega)]
    rw [hx]
    refine congrArg xb (funext fun k => Fin.ext ?_)
    fin_cases k <;> simp [ValueKit.rect_emb_unit_val, View.ld]
  · intro n' f
    refine congrArg x3 (funext fun k => Fin.ext ?_)
    fin_cases k <;> simp [ValueKit.rect_emb_unit_val, View.ld]
  · intro n'
    refine congrArg x2 (funext fun k => Fin.ext ?_)
    fin_cases k <;> simp [ValueKit.rect_emb_unit_val, View.ld, hoff] <;> omega
  · intro n'
    refine congrArg x4 (funext fun k => Fin.ext ?_)
    fin_cases k <;> simp [ValueKit.rect_emb_unit_val, View.ld] <;> omega

end Cert.Attn

end
-- ==== Proof.Attn.Point.lean ====
module

public import proofs.«01_k».proof.Proof.Attn.Body

@[expose] public section

set_option maxRecDepth 16384

noncomputable section

namespace Cert.Attn

open Cert.KernelIdeal Cert.KernelIdeal.Gen Idealize.ShloMosaic Idealize.ShloMosaic.TcCoe Idealize.SL.Sem

variable (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x4096x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x8x128x512 .f32) (harg7 : arg7.IsWhole) (arg8 : Memref sig .tc .vmem S1x8x128x512 .f32) (harg8 : arg8.IsWhole) (arg9 : Memref sig .tc .vmem S1x128x1024 .bf16) (harg9 : arg9.IsWhole)
    (x0 : FVec Ideal S1x128x1024 .bf16) (x1 : FVec Ideal S1x4096x1024 .bf16) (x2 : FVec Ideal S1x4096x1024 .bf16) (x3 : FVec Ideal S1x256x1024 .bf16) (x4 : FVec Ideal S1x256x1024 .bf16) (x5 : FVec Ideal S1x8x128x512 .f32) (x6 : FVec Ideal S1x8x128x512 .f32)

/-- What a point leaves in its output block. -/
theorem out_eq (y : S1x128x1024.Idx) :
    out0_A_7 (F := Ideal) c i arg2 harg2 arg3 harg3 arg4 harg4 arg5 harg5 arg6 harg6 arg7 harg7 arg8 harg8 arg9 harg9 x0 x1 x2 x3 x4 x5 x6 y
      = outAt i x0 x1 x2 x3 x4 x5 x6 (y 1) (y 2) := by
  unfold out0_A_7
  rw [View.read_writes_junk_eq_canon]
  suffices h : Filled i x0 x1 x2 x3 x4 x5 x6 (kernelRun0_A (F := Ideal) c i arg2 harg2 arg3 harg3 arg4 harg4 arg5 harg5 arg6 harg6 arg7 harg7 arg8 harg8 arg9 harg9 x0 x1 x2 x3 x4 x5 x6).1 16 from
    h y (by have h1 : (y 1 : Nat) < 128 := (y 1).isLt; have h2 : (y 2 : Nat) < 1024 := (y 2).isLt; unfold pairNo; omega)
  refine pair_step (n := 15) (by omega) harg2 harg3 harg4 harg5 harg6 harg8 x6 64 896 7 (k0_off8 i 1#32)
    inb_S1x128x1024_S1x64x128_0_64_896 (k0_off8_inb i 1) inb_S1x8x128x512_S1x1x128x512_0_7_0_0 inb_S1x256x1024_S1x256x128_0_0_896
    rfl rfl rfl (offs i).2.2.2.2.2.2.2.2 rfl ?_
  refine pair_step (n := 14) (by omega) harg2 harg3 harg4 harg5 harg6 harg8 x6 64 768 6 (k0_off7 i 1#32)
    inb_S1x128x1024_S1x64x128_0_64_768 (k0_off7_inb i 1) inb_S1x8x128x512_S1x1x128x512_0_6_0_0 inb_S1x256x1024_S1x256x128_0_0_768
    rfl rfl rfl (offs i).2.2.2.2.2.2.2.1 rfl ?_
  refine pair_step (n := 13) (by omega) harg2 harg3 harg4 harg5 harg6 harg8 x6 64 640 5 (k0_off6 i 1#32)
    inb_S1x128x1024_S1x64x128_0_64_640 (k0_off6_inb i 1) inb_S1x8x128x512_S1x1x128x512_0_5_0_0 inb_S1x256x1024_S1x256x128_0_0_640
    rfl rfl rfl (offs i).2.2.2.2.2.2.1 rfl ?_
  refine pair_step (n := 12) (by omega) harg2 harg3 harg4 harg5 harg6 harg8 x6 64 512 4 (k0_off5 i 1#32)
    inb_S1x128x1024_S1x64x128_0_64_512 (k0_off5_inb i 1) inb_S1x8x128x512_S1x1x128x512_0_4_0_0 inb_S1x256x1024_S1x256x128_0_0_512
    rfl rfl rfl (offs i).2.2.2.2.2.1 rfl ?_
  refine pair_step (n := 11) (by omega) harg2 harg3 harg4 harg5 harg6 harg8 x6 64 384 3 (k0_off4 i 1#32)
    inb_S1x128x1024_S1x64x128_0_64_384 (k0_off4_inb i 1) inb_S1x8x128x512_S1x1x128x512_0_3_0_0 inb_S1x256x1024_S1x256x128_0_0_384
    rfl rfl rfl (offs i).2.2.2.2.1 rfl ?_
  refine pair_step (n := 10) (by omega) harg2 harg3 harg4 harg5 harg6 harg8 x6 64 256 2 (k0_off3 i 1#32)
    inb_S1x128x1024_S1x64x128_0_64_256 (k0_off3_inb i 1) inb_S1x8x128x512_S1x1x128x512_0_2_0_0 inb_S1x256x1024_S1x256x128_0_0_256
    rfl rfl rfl (offs i).2.2.2.1 rfl ?_
  refine pair_step (n := 9) (by omega) harg2 harg3 harg4 harg5 harg6 harg8 x6 64 128 1 (k0_off2 i 1#32)
    inb_S1x128x1024_S1x64x128_0_64_128 (k0_off2_inb i 1) inb_S1x8x128x512_S1x1x128x512_0_1_0_0 inb_S1x256x1024_S1x256x128_0_0_128
    rfl rfl rfl (offs i).2.2.1 rfl ?_
  refine pair_step (n := 8) (by omega) harg2 harg3 harg4 harg5 harg6 harg8 x6 64 0 0 (k0_off1 i 1#32)
    inb_S1x128x1024_S1x64x128_0_64_0 (k0_off1_inb i 1) inb_S1x8x128x512_S1x1x128x512_0_0_0_0 inb_S1x256x1024_S1x256x128_0_0_0
    rfl rfl rfl (offs i).2.1 rfl ?_
  refine pair_step (n := 7) (by omega) harg2 harg3 harg4 harg5 harg6 harg7 x5 0 896 7 (k0_off8 i 0#32)
    inb_S1x128x1024_S1x64x128_0_0_896 (k0_off8_inb i 0) inb_S1x8x128x512_S1x1x128x512_0_7_0_0 inb_S1x256x1024_S1x256x128_0_0_896
    rfl rfl rfl (offs i).1.2.2.2.2.2.2.2 rfl ?_
  refine pair_step (n := 6) (by omega) harg2 harg3 harg4 harg5 harg6 harg7 x5 0 768 6 (k0_off7 i 0#32)
    inb_S1x128x1024_S1x64x128_0_0_768 (k0_off7_inb i 0) inb_S1x8x128x512_S1x1x128x512_0_6_0_0 inb_S1x256x1024_S1x256x128_0_0_768
    rfl rfl rfl (offs i).1.2.2.2.2.2.2.1 rfl ?_
  refine pair_step (n := 5) (by omega) harg2 harg3 harg4 harg5 harg6 harg7 x5 0 640 5 (k0_off6 i 0#32)
    inb_S1x128x1024_S1x64x128_0_0_640 (k0_off6_inb i 0) inb_S1x8x128x512_S1x1x128x512_0_5_0_0 inb_S1x256x1024_S1x256x128_0_0_640
    rfl rfl rfl (offs i).1.2.2.2.2.2.1 rfl ?_
  refine pair_step (n := 4) (by omega) harg2 harg3 harg4 harg5 harg6 harg7 x5 0 512 4 (k0_off5 i 0#32)
    inb_S1x128x1024_S1x64x128_0_0_512 (k0_off5_inb i 0) inb_S1x8x128x512_S1x1x128x512_0_4_0_0 inb_S1x256x1024_S1x256x128_0_0_512
    rfl rfl rfl (offs i).1.2.2.2.2.1 rfl ?_
  refine pair_step (n := 3) (by omega) harg2 harg3 harg4 harg5 harg6 harg7 x5 0 384 3 (k0_off4 i 0#32)
    inb_S1x128x1024_S1x64x128_0_0_384 (k0_off4_inb i 0) inb_S1x8x128x512_S1x1x128x512_0_3_0_0 inb_S1x256x1024_S1x256x128_0_0_384
    rfl rfl rfl (offs i).1.2.2.2.1 rfl ?_
  refine pair_step (n := 2) (by omega) harg2 harg3 harg4 harg5 harg6 harg7 x5 0 256 2 (k0_off3 i 0#32)
    inb_S1x128x1024_S1x64x128_0_0_256 (k0_off3_inb i 0) inb_S1x8x128x512_S1x1x128x512_0_2_0_0 inb_S1x256x1024_S1x256x128_0_0_256
    rfl rfl rfl (offs i).1.2.2.1 rfl ?_
  refine pair_step (n := 1) (by omega) harg2 harg3 harg4 harg5 harg6 harg7 x5 0 128 1 (k0_off2 i 0#32)
    inb_S1x128x1024_S1x64x128_0_0_128 (k0_off2_inb i 0) inb_S1x8x128x512_S1x1x128x512_0_1_0_0 inb_S1x256x1024_S1x256x128_0_0_128
    rfl rfl rfl (offs i).1.2.1 rfl ?_
  refine pair_step (n := 0) (by omega) harg2 harg3 harg4 harg5 harg6 harg7 x5 0 0 0 (k0_off1 i 0#32)
    inb_S1x128x1024_S1x64x128_0_0_0 (k0_off1_inb i 0) inb_S1x8x128x512_S1x1x128x512_0_0_0_0 inb_S1x256x1024_S1x256x128_0_0_0
    rfl rfl rfl (offs i).1.1 rfl ?_
  exact fun y hy => absurd hy (Nat.not_lt_zero _)

end Cert.Attn

end
-- ==== Proof.Attn.Blocks.lean ====
module

public import proofs.«01_k».proof.Proof.Attn.Base
public import proofs.«01_k».proof.Proof.Attn.Bias
public import proofs.«01_k».proof.Proof.Attn.Point

/-!
# The blocks a point works on

Point t of the grid works on sequence t / 32 and on the pair of query rows 2 (t mod 32) and 2 (t mod 32) + 1.  Each of the
point's seven input blocks is read here as entries of the program's arguments.
-/

@[expose] public section

set_option maxRecDepth 16384

noncomputable section

namespace Cert.Attn

open Cert.KernelIdeal Cert.KernelIdeal.Gen Idealize.ShloMosaic Idealize.ShloMosaic.TcCoe Idealize.ShloMosaic.StableHlo Idealize.SL.Sem
open Idealize.ShloMosaic.Pipeline (Dat)

variable (m : (ℓ : Loc nD τ sig) → Buf (Elt Ideal) ℓ)

/-- The sequence of a point. -/
def seqOf (t : Fin cfg0.N) : Fin 4 := ⟨t.val / 32, by have h : t.val < 128 := lt_of_lt_of_eq t.isLt N_0; omega⟩

/-- The first row distance (plus seven) of query row `r`'s window. -/
def lead (r : ℕ) : ℕ := min 56 (r - 4) + 7 - r

/-- The blocks point `t` works on. -/
theorem idx : ∀ t : Fin cfg0.N, win0_0.index t = ![t.val / 32, t.val % 32, 0] ∧ win0_1.index t = ![t.val / 32, 0, 1]
    ∧ win0_2.index t = ![t.val / 32, 0, 2] ∧ win0_3.index t = ![t.val / 32, 0, 0] ∧ win0_4.index t = ![t.val / 32, 0, 0]
    ∧ win0_5.index t = ![lead (2 * (t.val % 32)), 0, 0, 0] ∧ win0_6.index t = ![lead (2 * (t.val % 32) + 1), 0, 0, 0]
    ∧ win0_7.index t = ![t.val / 32, t.val % 32, 0] :=
  (by decide +kernel : ∀ t : Fin grid0.N, _)

/-- The pair of query rows of a point. -/
theorem coord : ∀ t : Fin cfg0.N, (grid0.coords t 1 : ℕ) = t.val % 32 :=
  (by decide +kernel : ∀ t : Fin grid0.N, _)

/-- The rows of the kernel's cached keys or values, heads side by side. -/
def sideBySide (x : FVec Ideal S4x1x256x16x64 .f32) : FVec Ideal S4x256x1024 .bf16 :=
  truncf .bf16 (shapeCast S4x256x1024 (shapeCast S4x256x16x64 x shapeCasts_S4x1x256x16x64_S4x256x16x64) shapeCasts_S4x256x16x64_S4x256x1024) bitsLt_bf16_f32

/-- An entry of the rows laid side by side. -/
theorem sideBySide_apply (x : FVec Ideal S4x1x256x16x64 .f32) (b : Fin 4) (l : Fin 256) (q : Fin 1024) :
    sideBySide x (ix3 b l q) = x (ix5 b 0 l ⟨q / 64, by omega⟩ ⟨q % 64, by omega⟩) := by
  pointwise [sideBySide]

/-- The cached keys when the kernel starts. -/
theorem start_keys (c : Dev nD) : V m c main_v2 = sideBySide (m ((c : Thread nD τ).loc main_arg1)) := by
  after_reads_simp
  rfl

/-- The cached values when the kernel starts. -/
theorem start_values (c : Dev nD) : V m c main_v5 = sideBySide (m ((c : Thread nD τ).loc main_arg2)) := by
  after_reads_simp
  rfl

/-- A line of host operations run after another. -/
theorem after_two (A B : List (HloOp τ sig (Elt Ideal))) (Z : Idealize.ShloMosaic.Valuation τ sig (Elt Ideal)) :
    StableHlo.after (A ++ B) Z = StableHlo.after B (StableHlo.after A Z) := by
  induction A generalizing Z with
  | nil => rfl
  | cons op A ih => exact ih _

/-- The table of biases when the kernel starts. -/
theorem start_table (c : Dev nD) :
    V m c main_v190 = stack fun o => slab fun j => plane (baseTable (m ((c : Thread nD τ).loc main_arg3))) ⟨o + j, by omega⟩ := by
  show StableHlo.after (hostOps0 ++ (hostOps0_1 ++ (hostOps0_2 ++ (hostOps0_3 ++ (hostOps0_4 ++ []))))) (fun b => m (c, b)) main_v190 = _
  rw [after_two, after_two, after_two, after_two, List.append_nil, finished, base]

/-- The queries of a point. -/
theorem read_q (c : Dev nD) (t : Fin cfg0.N) (p : Fin 128) (e : Fin 1024) :
    (iblk m c 0 t : FVec Ideal S1x128x1024 .bf16) (ix3 0 p e)
      = (m ((c : Thread nD τ).loc main_arg0) : FVec Ideal S4x4096x3072 .bf16) (ix3 (seqOf t) ⟨128 * (t.val % 32) + p, by omega⟩ ⟨e, by omega⟩) := by
  unfold seqOf iblk
  rw [show V m c (Pipeline.arrRef spec0 0) = m ((c : Thread nD τ).loc main_arg0) from V_main_arg0 m c]
  blk_ext [idx t]

/-- The keys of a point's sequence. -/
theorem read_k (c : Dev nD) (t : Fin cfg0.N) (p : Fin 4096) (e : Fin 1024) :
    (iblk m c 1 t : FVec Ideal S1x4096x1024 .bf16) (ix3 0 p e)
      = (m ((c : Thread nD τ).loc main_arg0) : FVec Ideal S4x4096x3072 .bf16) (ix3 (seqOf t) p ⟨1024 + e, by omega⟩) := by
  unfold seqOf iblk
  rw [show V m c (Pipeline.arrRef spec0 1) = m ((c : Thread nD τ).loc main_arg0) from V_main_arg0 m c]
  blk_ext [idx t]

/-- The values of a point's sequence. -/
theorem read_v (c : Dev nD) (t : Fin cfg0.N) (p : Fin 4096) (e : Fin 1024) :
    (iblk m c 2 t : FVec Ideal S1x4096x1024 .bf16) (ix3 0 p e)
      = (m ((c : Thread nD τ).loc main_arg0) : FVec Ideal S4x4096x3072 .bf16) (ix3 (seqOf t) p ⟨2048 + e, by omega⟩) := by
  unfold seqOf iblk
  rw [show V m c (Pipeline.arrRef spec0 2) = m ((c : Thread nD τ).loc main_arg0) from V_main_arg0 m c]
  blk_ext [idx t]

/-- The cached keys of a point's sequence. -/
theorem read_ck (c : Dev nD) (t : Fin cfg0.N) (l : Fin 256) (q : Fin 1024) :
    (iblk m c 3 t : FVec Ideal S1x256x1024 .bf16) (ix3 0 l q)
      = (m ((c : Thread nD τ).loc main_arg1) : FVec Ideal S4x1x256x16x64 .f32) (ix5 (seqOf t) 0 l ⟨q / 64, by omega⟩ ⟨q % 64, by omega⟩) := by
  refine Eq.trans ?_ (sideBySide_apply (m ((c : Thread nD τ).loc main_arg1)) (seqOf t) l q)
  rw [← start_keys]
  unfold seqOf iblk
  show (V m c main_v2 : FVec Ideal S4x256x1024 .bf16) _ = (V m c main_v2 : FVec Ideal S4x256x1024 .bf16) _
  generalize (V m c main_v2 : FVec Ideal S4x256x1024 .bf16) = X
  blk_ext [idx t]

/-- The cached values of a point's sequence. -/
theorem read_cv (c : Dev nD) (t : Fin cfg0.N) (l : Fin 256) (q : Fin 1024) :
    (iblk m c 4 t : FVec Ideal S1x256x1024 .bf16) (ix3 0 l q)
      = (m ((c : Thread nD τ).loc main_arg2) : FVec Ideal S4x1x256x16x64 .f32) (ix5 (seqOf t) 0 l ⟨q / 64, by omega⟩ ⟨q % 64, by omega⟩) := by
  refine Eq.trans ?_ (sideBySide_apply (m ((c : Thread nD τ).loc main_arg2)) (seqOf t) l q)
  rw [← start_values]
  unfold seqOf iblk
  show (V m c main_v5 : FVec Ideal S4x256x1024 .bf16) _ = (V m c main_v5 : FVec Ideal S4x256x1024 .bf16) _
  generalize (V m c main_v5 : FVec Ideal S4x256x1024 .bf16) = X
  blk_ext [idx t]

/-- There are eight places a window can start at, counted from its query's row. -/
theorem lead_lt (r : Fin 64) : lead r < 8 := by unfold lead; omega

/-- The finished table's block of query row `r`. -/
theorem table_apply (x3 : FVec Ideal S1x16x15x31 .f32) (o hp : Fin 8) (s : Fin 128) (n : Fin 512) :
    stack (fun o => slab fun j => plane (baseTable x3) ⟨o + j, by omega⟩) (ix4 o hp s n)
      = baseTable x3 (ix4 ⟨2 * hp + s / 64, by omega⟩ ⟨o + n / 64, by omega⟩ ⟨s % 64, by omega⟩ ⟨n % 64, by omega⟩) := by
  rw [stack_apply, slab_apply, plane_apply]

/-- The biases of a point's first query row. -/
theorem read_b0 (c : Dev nD) (t : Fin cfg0.N) (hp : Fin 8) (s : Fin 128) (n : Fin 512) :
    (iblk m c 5 t : FVec Ideal S1x8x128x512 .f32) (ix4 0 hp s n)
      = baseTable (m ((c : Thread nD τ).loc main_arg3))
          (ix4 ⟨2 * hp + s / 64, by omega⟩ ⟨lead (2 * (t.val % 32)) + n / 64, by unfold lead; omega⟩ ⟨s % 64, by omega⟩ ⟨n % 64, by omega⟩) := by
  have hl : lead (2 * (t.val % 32)) < 8 := by unfold lead; omega
  refine Eq.trans ?_ (table_apply (m ((c : Thread nD τ).loc main_arg3)) ⟨lead (2 * (t.val % 32)), hl⟩ hp s n)
  rw [← start_table]
  unfold iblk
  show (V m c main_v190 : FVec Ideal S8x8x128x512 .f32) _ = (V m c main_v190 : FVec Ideal S8x8x128x512 .f32) _
  generalize (V m c main_v190 : FVec Ideal S8x8x128x512 .f32) = X
  blk_ext [idx t]

/-- The biases of a point's second query row. -/
theorem read_b1 (c : Dev nD) (t : Fin cfg0.N) (hp : Fin 8) (s : Fin 128) (n : Fin 512) :
    (iblk m c 6 t : FVec Ideal S1x8x128x512 .f32) (ix4 0 hp s n)
      = baseTable (m ((c : Thread nD τ).loc main_arg3))
          (ix4 ⟨2 * hp + s / 64, by omega⟩ ⟨lead (2 * (t.val % 32) + 1) + n / 64, by unfold lead; omega⟩ ⟨s % 64, by omega⟩ ⟨n % 64, by omega⟩) := by
  have hl : lead (2 * (t.val % 32) + 1) < 8 := by unfold lead; omega
  refine Eq.trans ?_ (table_apply (m ((c : Thread nD τ).loc main_arg3)) ⟨lead (2 * (t.val % 32) + 1), hl⟩ hp s n)
  rw [← start_table]
  unfold iblk
  show (V m c main_v190 : FVec Ideal S8x8x128x512 .f32) _ = (V m c main_v190 : FVec Ideal S8x8x128x512 .f32) _
  generalize (V m c main_v190 : FVec Ideal S8x8x128x512 .f32) = X
  blk_ext [idx t]

end Cert.Attn

end
-- ==== Proof.Attn.Meet.lean ====
module

public import proofs.«01_k».proof.Proof.Attn.Pair
public import proofs.«01_k».proof.Proof.Attn.Tables

/-!
# The two forms of one query's attention

With finite queries, keys and biases the kernel's logits are the reference's over log 2, on the window's keys, and −∞ on
the other keys of its eight rows.
-/

@[expose] public section

set_option maxRecDepth 16384

noncomputable section

namespace Cert.Attn

open Idealize.ShloMosaic

/-- The number one eighth. -/
theorem ofBits_eighth : Ideal.ofBits .f32 0x3E000000#32 = ((1 / 8 : ℝ) : EReal) := by
  simp [Ideal.ofBits, Ideal.ieee, -EReal.coe_mul]; norm_num

/-- The scale the kernel multiplies its logits by. -/
theorem scale_eq : scale = (((1 / 8) * (Real.log 2)⁻¹ : ℝ) : EReal) :=
  IdealRules.named_const.ideal_named_scalar _ _ _ _ rfl

/-- A scaled product of reals, as the kernel takes it. -/
theorem dot_late (a k : Fin 64 → ℝ) :
    (∑ e, (a e : EReal) * (k e : EReal)) * scale = (((∑ e, a e * (1 / 8) * k e) * (Real.log 2)⁻¹ : ℝ) : EReal) := by
  simp only [scale_eq, ← EReal.coe_mul, coe_sum]
  congr 1
  rw [← mul_assoc, Finset.sum_mul]
  congr 1
  exact Finset.sum_congr rfl fun e _ => by ring

/-- A scaled product of reals, as the reference takes it. -/
theorem dot_early (a k : Fin 64 → ℝ) :
    ∑ e, (a e : EReal) * Ideal.ofBits .f32 0x3E000000#32 * (k e : EReal) = ((∑ e, a e * (1 / 8) * k e : ℝ) : EReal) := by
  simp only [ofBits_eighth, ← EReal.coe_mul, coe_sum]

/-- The place of the window's `g`-th key among the keys of its eight rows. -/
def place (c : Fin 64) (g : Fin 128) : Fin 512 := ⟨(g / 16) * 64 + (colStart c + g % 16), by unfold colStart; omega⟩

/-- Different keys of a window have different places. -/
theorem place_injective (c : Fin 64) : Function.Injective (place c) := by
  intro g g' h
  have e : (g / 16 : ℕ) * 64 + (colStart c + g % 16) = (g' / 16 : ℕ) * 64 + (colStart c + g' % 16) := congrArg Fin.val h
  unfold colStart at e
  exact Fin.ext (by omega)

/-- A place whose column lies in the window is a key's. -/
theorem place_surjective (c : Fin 64) (n : Fin 512) (h : colStart c ≤ n % 64 ∧ (n % 64 : ℕ) < colStart c + 16) : ∃ g, place c g = n := by
  refine ⟨⟨(n / 64) * 16 + (n % 64 - colStart c), by omega⟩, Fin.ext ?_⟩
  show ((n / 64 * 16 + (n % 64 - colStart c)) / 16) * 64 + (colStart c + (n / 64 * 16 + (n % 64 - colStart c)) % 16) = (n : ℕ)
  omega

/-- One query's attention in both forms, from its real queries `a`, keys `k`, cached keys `kc` and biases `β`. -/
theorem meet {c : Fin 64} {a : Fin 64 → ℝ} {k : Fin 512 → Fin 64 → ℝ} {kc : Fin 256 → Fin 64 → ℝ} {β : Fin 128 → ℝ}
    {s B v : Fin 512 → EReal} {t u : Fin 256 → EReal} {w : Fin 128 → EReal} {w' : Fin 256 → EReal}
    (hs : ∀ n, s n = (∑ e, (a e : EReal) * (k n e : EReal)) * scale + B n)
    (hB : ∀ g, B (place c g) = (β g : EReal) * (((Real.log 2)⁻¹ : ℝ) : EReal))
    (hB' : ∀ n : Fin 512, ¬(colStart c ≤ n % 64 ∧ (n % 64 : ℕ) < colStart c + 16) → B n = ⊥)
    (ht : ∀ l, t l = (∑ e, (a e : EReal) * (kc l e : EReal)) * scale)
    (hw : ∀ g, w g = (∑ e, (a e : EReal) * Ideal.ofBits .f32 0x3E000000#32 * (k (place c g) e : EReal)) + (β g : EReal))
    (hw' : ∀ l, w' l = ∑ e, (a e : EReal) * Ideal.ofBits .f32 0x3E000000#32 * (kc l e : EReal)) :
    late s t v u = early w w' (fun g => v (place c g)) u := by
  have ew : w = fun g => (((∑ e, a e * (1 / 8) * k (place c g) e) + β g : ℝ) : EReal) :=
    funext fun g => by rw [hw, dot_early, ← EReal.coe_add]
  have ew' : w' = fun l => ((∑ e, a e * (1 / 8) * kc l e : ℝ) : EReal) := funext fun l => by rw [hw', dot_early]
  rw [ew, ew']
  refine late_eq_early _ _ 0 (place c) (place_injective c) s t v u (fun g => ?_) (fun n hn => ?_) (fun l => ?_)
  · rw [hs, hB, dot_late, ← EReal.coe_mul, ← EReal.coe_add, add_mul]
  · rw [hs, hB' n fun h => (place_surjective c n h).elim hn, EReal.add_bot]
  · rw [ht, dot_late]

end Cert.Attn

end
-- ==== Proof.Attn.Reference.lean ====
module

public import proofs.«01_k».proof.Proof.Attn.Softmax
public import proofs.«01_k».proof.Proof.Attn.Tables
public import proofs.«01_k».proof.Proof.Gen.ReferenceIdeal.Run

@[expose] public section

set_option maxRecDepth 16384

noncomputable section

namespace Cert.Attn

open Cert.ReferenceIdeal Cert.ReferenceIdeal.Gen Cert.ReferenceIdeal.Read Idealize.ShloMosaic Idealize.ShloMosaic.TcCoe Idealize.SL.Sem

variable (x0 : FVec Ideal S4x4096x3072 .bf16) (x1 x2 : FVec Ideal S4x1x256x16x64 .f32) (x3 : FVec Ideal S1x16x15x31 .f32)

/-- The maximum of a row of logits. -/
theorem rowTop (b : Fin 4) (r c : Fin 64) (h : Fin 16) :
    val_main_v103 (F := Ideal) x0 x1 x3 (ix4 b h r c) = top fun k : Fin 384 => val_main_v100 (F := Ideal) x0 x1 x3 (ix5 b h r c k) := by
  have hb : Ideal.ofBits .f32 0xFF800000#32 = ⊥ := ofBits_neg_inf
  have h1 : val_main_v102 (F := Ideal) (ix4 b h r c) = ⊥ := (val_main_v102_apply _).trans hb
  have h2 : val_main_v101 (F := Ideal) x0 x1 x3 (ix4 b h r c) = top fun k : Fin 384 => val_main_v100 (F := Ideal) x0 x1 x3 (ix5 b h r c k) := by
    unfold val_main_v101
    generalize val_main_v100 (F := Ideal) x0 x1 x3 = y
    refine (Host.reduce_eq_fold_single (FloatOps.maximumf (F := Ideal) (φ := .f32)) y _ reducesTo_S4x16x64x64x384_S4x16x64x64_d4 (by decide) h_S_ (ix4 b h r c)).trans ?_
    rw [show val_main_cst_19 (F := Ideal) (Shape.Idx.first h_S_) = ⊥ from hb]
    unfold top
    refine congrArg (fun f => Finset.fold max ⊥ f Finset.univ) (funext fun k => ?_)
    exact congrArg y (funext fun a => Fin.ext (by match a with | ⟨0, _⟩ => rfl | ⟨1, _⟩ => rfl | ⟨2, _⟩ => rfl | ⟨3, _⟩ => rfl | ⟨4, _⟩ => rfl))
  rw [val_main_v103_apply, h1, h2]
  exact bot_sup_eq _

/-- A row's logits, as one function of the key. -/
def rowOfLogits (b : Fin 4) (r c : Fin 64) (h : Fin 16) : Fin 384 → EReal := fun k => val_main_v100 (F := Ideal) x0 x1 x3 (ix5 b h r c k)

/-- The exponential of a logit below its row's maximum. -/
theorem rowExp (b : Fin 4) (r c : Fin 64) (h : Fin 16) (k : Fin 384) :
    val_main_v107 (F := Ideal) x0 x1 x3 (ix5 b h r c k) = Ideal.exp (rowOfLogits x0 x1 x3 b r c h k - top (rowOfLogits x0 x1 x3 b r c h)) := by
  rw [val_main_v107_apply, val_main_v106_apply, val_main_v105_apply, val_main_v104_apply]
  have hi : idx_main_v104 (idx_main_v105 (ix5 b h r c k)) = ix4 b h r c := funext fun a => Fin.ext (by fin_cases a <;> rfl)
  rw [hi, rowTop]
  rfl

/-- A weight of the softmax. -/
theorem rowWeight (b : Fin 4) (r c : Fin 64) (h : Fin 16) (k : Fin 384) :
    val_main_v111 (F := Ideal) x0 x1 x3 (ix5 b h r c k)
      = Ideal.div (Ideal.exp (rowOfLogits x0 x1 x3 b r c h k - top (rowOfLogits x0 x1 x3 b r c h)))
          (∑ k : Fin 384, Ideal.exp (rowOfLogits x0 x1 x3 b r c h k - top (rowOfLogits x0 x1 x3 b r c h))) := by
  rw [val_main_v111_apply, rowExp, val_main_v110_apply, val_main_v109_apply, val_main_v108_apply]
  have hi : ∀ k' : Fin 384, idx_main_v108 (idx_main_v109 (idx_main_v110 (ix5 b h r c k))) k' = ix5 b h r c k' := fun k' =>
    funext fun a => Fin.ext (by fin_cases a <;> rfl)
  simp only [hi, rowExp]
  have hz : val_main_cst_21 (F := Ideal) (Shape.Idx.first h_S_) = 0 := by
    rw [val_main_cst_21_apply]
    exact Ideal.ofBits_zero_f32
  rw [hz, zero_add]
  rfl

/-- The row of the packed projections that holds the `g`-th key of the window of query `(r, c)`. -/
def keyAt (r c : Fin 64) (g : Fin 128) : Fin 4096 :=
  ⟨(rowStart r + g / 16) * 64 + (colStart c + g % 16), by unfold rowStart colStart; omega⟩

/-- A window logit of the reference. -/
def refWin (b : Fin 4) (r c : Fin 64) (h : Fin 16) (g : Fin 128) : EReal :=
  (∑ e : Fin 64, x0 (ix3 b ⟨r * 64 + c, by omega⟩ ⟨h * 64 + e, by omega⟩) * Ideal.ofBits .f32 0x3E000000#32
      * x0 (ix3 b (keyAt r c g) ⟨1024 + (h * 64 + e), by omega⟩))
    + x3 (ix4 0 h ⟨rowStart r + g / 16 + 7 - r, by unfold rowStart; omega⟩ ⟨colStart c + g % 16 + 15 - c, by unfold colStart; omega⟩)

/-- A context logit of the reference. -/
def refCtx (b : Fin 4) (r c : Fin 64) (h : Fin 16) (l : Fin 256) : EReal :=
  ∑ e : Fin 64, x0 (ix3 b ⟨r * 64 + c, by omega⟩ ⟨h * 64 + e, by omega⟩) * Ideal.ofBits .f32 0x3E000000#32 * x1 (ix5 b 0 l h e)

/-- A key of a query's window. -/
theorem winKey (b : Fin 4) (r c : Fin 64) (i : Fin 8) (j : Fin 16) (h : Fin 16) (e : Fin 64) :
    val_main_v59 (F := Ideal) x0 (ix7 b r c i j h e)
      = x0 (ix3 b ⟨(rowStart r + i) * 64 + (colStart c + j), by unfold rowStart colStart; omega⟩ ⟨1024 + (h * 64 + e), by omega⟩) := by
  refine (gatherKey (val_main_v7 (F := Ideal) x0) val_main_v58 b r c i j h e ⟨rowStart r + i, by unfold rowStart; omega⟩ ⟨colStart c + j, by unfold colStart; omega⟩
    (keyTable_row r c i j) (keyTable_col r c i j)).trans ?_
  pointwise [val_main_v7, val_main_v2, val_main_v0]

/-- A value of a query's window. -/
theorem winValue (b : Fin 4) (r c : Fin 64) (i : Fin 8) (j : Fin 16) (h : Fin 16) (e : Fin 64) :
    val_main_v75 (F := Ideal) x0 (ix7 b r c i j h e)
      = x0 (ix3 b ⟨(rowStart r + i) * 64 + (colStart c + j), by unfold rowStart colStart; omega⟩ ⟨2048 + (h * 64 + e), by omega⟩) := by
  refine (gatherKey (val_main_v8 (F := Ideal) x0) val_main_v74 b r c i j h e ⟨rowStart r + i, by unfold rowStart; omega⟩ ⟨colStart c + j, by unfold colStart; omega⟩
    (valTable_row r c i j) (valTable_col r c i j)).trans ?_
  pointwise [val_main_v8, val_main_v3, val_main_v0]

/-- A bias of a query's window. -/
theorem winBias (r c : Fin 64) (i : Fin 8) (j : Fin 16) (h : Fin 16) :
    val_main_v93 (F := Ideal) x3 (ix5 h r c i j)
      = x3 (ix4 0 h ⟨rowStart r + i + 7 - r, by unfold rowStart; omega⟩ ⟨colStart c + j + 15 - c, by unfold colStart; omega⟩) := by
  refine (gatherBias (val_main_v11 (F := Ideal) x3) val_main_v92 r c i j h ⟨rowStart r + i + 7 - r, by unfold rowStart; omega⟩
    ⟨colStart c + j + 15 - c, by unfold colStart; omega⟩ (biasTable_row r c i j) (biasTable_col r c i j)).trans ?_
  pointwise [val_main_v11]

/-- The logits of a query: its window's, then the context's. -/
theorem rowLogits (b : Fin 4) (r c : Fin 64) (h : Fin 16) :
    rowOfLogits x0 x1 x3 b r c h = cat (a := 128) (b := 256) (refWin x0 x3 b r c h) (refCtx x0 x1 b r c h) := by
  funext k
  unfold rowOfLogits
  pointwise [val_main_v100, val_main_v99, val_main_v98, val_main_v97, val_main_v96, val_main_v95, val_main_v94, val_main_v9, val_main_v6, val_main_v5, val_main_v4, val_main_v1, val_main_v0, val_main_cst]
  by_cases hk : (k : ℕ) < 128
  · rw [dif_pos hk]
    obtain ⟨g, rfl⟩ : ∃ g : Fin 128, k = Fin.castAdd 256 g := ⟨⟨k, hk⟩, rfl⟩
    unfold cat
    rw [Fin.append_left]
    simp only [winKey, winBias]
    rfl
  · rw [dif_neg hk]
    obtain ⟨l, rfl⟩ : ∃ l : Fin 256, k = Fin.natAdd 128 l := ⟨⟨k - 128, by omega⟩, Fin.ext (by simp; omega)⟩
    unfold cat
    rw [Fin.append_right]
    unfold refCtx
    have hl : (⟨(Fin.natAdd 128 l : Fin (128 + 256)) - 128, by simp⟩ : Fin 256) = l := Fin.ext (by simp)
    simp only [hl]

/-- The two weighted sums, with the weights read off the joined row. -/
theorem early_sums (s : Fin 128 → EReal) (t : Fin 256 → EReal) (v : Fin 128 → EReal) (u : Fin 256 → EReal) :
    (∑ x : Fin 128, Ideal.div (Ideal.exp (cat s t ⟨x, by omega⟩ - top (cat s t))) (∑ k, Ideal.exp (cat s t k - top (cat s t))) * v x)
      + (∑ x : Fin 256, u x * Ideal.div (Ideal.exp (cat s t ⟨128 + x, by omega⟩ - top (cat s t))) (∑ k, Ideal.exp (cat s t k - top (cat s t))))
      = early s t v u := by
  have hl : ∀ x : Fin 128, cat s t ⟨x, by omega⟩ = s x := fun x => Fin.append_left s t x
  have hr : ∀ x : Fin 256, cat s t ⟨128 + x, by omega⟩ = t x := fun x => Fin.append_right s t x
  simp only [hl, hr, mul_comm (u _)]
  rfl

/-- The reference's value at one query and one lane. -/
theorem ref_eq (b : Fin 4) (r c : Fin 64) (h : Fin 16) (d : Fin 64) :
    val_main_v120 (F := Ideal) x0 x1 x2 x3 (ix3 b ⟨r * 64 + c, by omega⟩ ⟨h * 64 + d, by omega⟩)
      = early (refWin x0 x3 b r c h) (refCtx x0 x1 b r c h) (fun g => x0 (ix3 b (keyAt r c g) ⟨2048 + (h * 64 + d), by omega⟩))
          (fun l => x2 (ix5 b 0 l h d)) := by
  have h1 : val_main_v115 (F := Ideal) x0 x1 x3 (ix5 b r c h d)
      = ∑ x : Fin 128, val_main_v111 (F := Ideal) x0 x1 x3 (ix5 b h r c ⟨x, by omega⟩) * val_main_v75 (F := Ideal) x0 (ix7 b r c ⟨x / 16, by omega⟩ ⟨x % 16, by omega⟩ h d) := by
    pointwise [val_main_v115, val_main_v112, val_main_v114]
  have h2 : val_main_v116 (F := Ideal) x0 x1 x2 x3 (ix5 b h d r c)
      = ∑ x : Fin 256, x2 (ix5 b 0 x h d) * val_main_v111 (F := Ideal) x0 x1 x3 (ix5 b h r c ⟨128 + x, by omega⟩) := by
    pointwise [val_main_v116, val_main_v113, val_main_v10]
  have h3 : val_main_v120 (F := Ideal) x0 x1 x2 x3 (ix3 b ⟨r * 64 + c, by omega⟩ ⟨h * 64 + d, by omega⟩)
      = val_main_v115 (F := Ideal) x0 x1 x3 (ix5 b r c h d) + val_main_v116 (F := Ideal) x0 x1 x2 x3 (ix5 b h d r c) := by
    pointwise [val_main_v120, val_main_v119, val_main_v118, val_main_v117]
  rw [h3, h1, h2]
  simp only [rowWeight, winValue]
  generalize hf : rowOfLogits x0 x1 x3 b r c h = f
  rw [rowLogits] at hf
  subst hf
  generalize refWin x0 x3 b r c h = s
  generalize refCtx x0 x1 b r c h = t
  exact early_sums s t (fun g => x0 (ix3 b (keyAt r c g) ⟨2048 + (h * 64 + d), by omega⟩)) (fun l => x2 (ix5 b 0 l h d))

end Cert.Attn

end
-- ==== Proof.Attn.Value.lean ====
module

public import proofs.«01_k».proof.Proof.Attn.Blocks
public import proofs.«01_k».proof.Proof.Attn.Meet
public import proofs.«01_k».proof.Proof.Attn.Reference
public import proofs.«01_k».proof.Proof.Gen.KernelIdeal.Value

/-!
# What the attention kernel leaves

Every point leaves in its block what the reference computes for the block's queries, when queries, keys and biases are real.
-/

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pipeline (Dat)

/-- The attention of the query at row `y 1`, head `y 2 / 64`. -/
def attn (x0 : FVec Ideal S4x4096x3072 .bf16) (x1 x2 : FVec Ideal S4x1x256x16x64 .f32) (x3 : FVec Ideal S1x16x15x31 .f32) :
    FVec Ideal S4x4096x1024 .bf16 := fun y =>
  have h1 : (y 1 : ℕ) < 4096 := (y 1).isLt
  have h2 : (y 2 : ℕ) < 1024 := (y 2).isLt
  early (refWin x0 x3 (y 0) ⟨y 1 / 64, by omega⟩ ⟨y 1 % 64, by omega⟩ ⟨y 2 / 64, by omega⟩)
    (refCtx x0 x1 (y 0) ⟨y 1 / 64, by omega⟩ ⟨y 1 % 64, by omega⟩ ⟨y 2 / 64, by omega⟩)
    (fun g => x0 (ix3 (y 0) (keyAt ⟨y 1 / 64, by omega⟩ ⟨y 1 % 64, by omega⟩ g) ⟨2048 + y 2, by omega⟩))
    (fun l => x2 (ix5 (y 0) 0 l ⟨y 2 / 64, by omega⟩ ⟨y 2 % 64, by omega⟩))

/-- A window logit, from what its operands hold. -/
theorem winAt_of_reads {i : grid0.Coords} {x0 : FVec Ideal S1x128x1024 .bf16} {x1 : FVec Ideal S1x4096x1024 .bf16} {x5 x6 : FVec Ideal S1x8x128x512 .f32}
    {p : Fin 128} {q : Fin 1024} {n : Fin 512} {Q K : Fin 64 → EReal} {B : EReal}
    (hq : ∀ e : Fin 64, x0 (ix3 0 p ⟨64 * (q / 64) + e, by omega⟩) = Q e)
    (hk : ∀ e : Fin 64, x1 (ix3 0 ⟨rowBase i (p / 64) + n, by unfold rowBase; omega⟩ ⟨64 * (q / 64) + e, by omega⟩) = K e)
    (hb : (if (p : ℕ) < 64 then x5 else x6) (ix4 0 ⟨q / 128, by omega⟩ ⟨p % 64 + 64 * (q / 64 % 2), by omega⟩ n) = B) :
    winAt i x0 x1 x5 x6 p q n = (∑ e, Q e * K e) * scale + B := by
  unfold winAt
  simp only [hq, hk, hb]

/-- A context logit, from what its operands hold. -/
theorem ctxAt_of_reads {x0 : FVec Ideal S1x128x1024 .bf16} {x3 : FVec Ideal S1x256x1024 .bf16}
    {p : Fin 128} {q : Fin 1024} {n : Fin 256} {Q K : Fin 64 → EReal}
    (hq : ∀ e : Fin 64, x0 (ix3 0 p ⟨64 * (q / 64) + e, by omega⟩) = Q e)
    (hk : ∀ e : Fin 64, x3 (ix3 0 n ⟨64 * (q / 64) + e, by omega⟩) = K e) :
    ctxAt x0 x3 p q n = (∑ e, Q e * K e) * scale := by
  unfold ctxAt
  simp only [hq, hk]

/-- An array at equal places. -/
theorem at3 {a b c : ℕ} {α : Type} (X : (⟨3, ![a, b, c]⟩ : Shape).Idx → α) {i : Fin a} {j j' : Fin b} {k k' : Fin c}
    (hj : (j : ℕ) = j') (hk : (k : ℕ) = k') : X (ix3 i j k) = X (ix3 i j' k') := by
  rw [Fin.ext hj, Fin.ext hk]

/-- An array at equal places. -/
theorem at4 {a b c d : ℕ} {α : Type} (X : (⟨4, ![a, b, c, d]⟩ : Shape).Idx → α) {i i' : Fin a} {j j' : Fin b} {k k' : Fin c} {l l' : Fin d}
    (hi : (i : ℕ) = i') (hj : (j : ℕ) = j') (hk : (k : ℕ) = k') (hl : (l : ℕ) = l') : X (ix4 i j k l) = X (ix4 i' j' k' l') := by
  rw [Fin.ext hi, Fin.ext hj, Fin.ext hk, Fin.ext hl]

/-- An array at equal places. -/
theorem at5 {a b c d f : ℕ} {α : Type} (X : (⟨5, ![a, b, c, d, f]⟩ : Shape).Idx → α) {i : Fin a} {j : Fin b} {k : Fin c} {l l' : Fin d} {n n' : Fin f}
    (hl : (l : ℕ) = l') (hn : (n : ℕ) = n') : X (ix5 i j k l n) = X (ix5 i j k l' n') := by
  rw [Fin.ext hl, Fin.ext hn]

variable (m : (ℓ : Loc nD τ sig) → Buf (Elt Ideal) ℓ)

/-- The first argument. -/
abbrev arg0 (c : Dev nD) : FVec Ideal S4x4096x3072 .bf16 := m ((c : Thread nD τ).loc main_arg0)

/-- The second argument. -/
abbrev arg1 (c : Dev nD) : FVec Ideal S4x1x256x16x64 .f32 := m ((c : Thread nD τ).loc main_arg1)

/-- The third argument. -/
abbrev arg2 (c : Dev nD) : FVec Ideal S4x1x256x16x64 .f32 := m ((c : Thread nD τ).loc main_arg2)

/-- The fourth argument. -/
abbrev arg3 (c : Dev nD) : FVec Ideal S1x16x15x31 .f32 := m ((c : Thread nD τ).loc main_arg3)

/-- The window's keys are rows of the sequence. -/
theorem row_lt (r : Fin 64) (n : Fin 512) : rowStart r * 64 + n < 4096 := by unfold rowStart; omega

/-- The window's rows are at most seven rows from the query's. -/
theorem distance_lt (r : Fin 64) (n : Fin 512) : rowStart r + 7 - r + n / 64 < 15 := by unfold rowStart; omega

/-- The query row of a point. -/
def queryRow (t : Fin cfg0.N) (ρ : Fin 2) : Fin 64 := ⟨2 * (t.val % 32) + ρ, by omega⟩

/-- The row distance of a window's key is in the table of biases. -/
theorem bias_row_lt (r : Fin 64) (g : Fin 128) : rowStart r + g / 16 + 7 - r < 15 := by unfold rowStart; omega

/-- The column distance of a window's key is in the table of biases. -/
theorem bias_col_lt (k : Fin 64) (g : Fin 128) : colStart k + g % 16 + 15 - k < 31 := by unfold colStart; omega

/-- The biases of a point's query row. -/
theorem biases (c : Dev nD) (t : Fin cfg0.N) (ρ : Fin 2) (k : Fin 64) (h : Fin 16) (d : Fin 64) (n : Fin 512) :
    (if ((⟨ρ * 64 + k, by omega⟩ : Fin 128) : ℕ) < 64 then (iblk m c 5 t : FVec Ideal S1x8x128x512 .f32) else iblk m c 6 t)
        (ix4 0 ⟨(h * 64 + d) / 128, by omega⟩ ⟨(ρ * 64 + k) % 64 + 64 * ((h * 64 + d) / 64 % 2), by omega⟩ n)
      = baseTable (arg3 m c)
          (ix4 h ⟨rowStart (queryRow t ρ) + 7 - queryRow t ρ + n / 64, distance_lt _ n⟩ k ⟨n % 64, by omega⟩) := by
  have hr : (queryRow t ρ : ℕ) = 2 * (t.val % 32) + ρ := rfl
  by_cases hp : (ρ : ℕ) = 0
  · rw [if_pos (by dsimp; omega), read_b0]
    exact at4 _ (by dsimp; omega) (by dsimp; unfold lead rowStart; omega) (by dsimp; omega) rfl
  · rw [if_neg (by dsimp; omega), read_b1]
    exact at4 _ (by dsimp; omega) (by dsimp; unfold lead rowStart; omega) (by dsimp; omega) rfl

/-- A window logit of a point's query. -/
theorem window_point (c : Dev nD) (t : Fin cfg0.N) (ρ : Fin 2) (k : Fin 64) (h : Fin 16) (d : Fin 64) (n : Fin 512) :
    winAt (grid0.coords t) (iblk m c 0 t) (iblk m c 1 t) (iblk m c 5 t) (iblk m c 6 t) ⟨ρ * 64 + k, by omega⟩ ⟨h * 64 + d, by omega⟩ n
      = (∑ e : Fin 64, arg0 m c (ix3 (seqOf t) ⟨queryRow t ρ * 64 + k, by omega⟩ ⟨h * 64 + e, by omega⟩)
          * arg0 m c (ix3 (seqOf t) ⟨rowStart (queryRow t ρ) * 64 + n, row_lt _ n⟩ ⟨1024 + (h * 64 + e), by omega⟩)) * scale
        + baseTable (arg3 m c)
          (ix4 h ⟨rowStart (queryRow t ρ) + 7 - queryRow t ρ + n / 64, distance_lt _ n⟩ k ⟨n % 64, by omega⟩) := by
  have hr : (queryRow t ρ : ℕ) = 2 * (t.val % 32) + ρ := rfl
  refine winAt_of_reads (Q := fun e => _) (K := fun e => _) (fun e => (read_q m c t _ _).trans ?_) (fun e => (read_k m c t _ _).trans ?_) (biases m c t ρ k h d n)
  · exact at3 _ (by dsimp; omega) (by dsimp; omega)
  · exact at3 _ (by dsimp; unfold rowBase rowStart; rw [coord]; omega) (by dsimp; omega)

/-- A context logit of a point's query. -/
theorem context_point (c : Dev nD) (t : Fin cfg0.N) (ρ : Fin 2) (k : Fin 64) (h : Fin 16) (d : Fin 64) (l : Fin 256) :
    ctxAt (iblk m c 0 t) (iblk m c 3 t) ⟨ρ * 64 + k, by omega⟩ ⟨h * 64 + d, by omega⟩ l
      = (∑ e : Fin 64, arg0 m c (ix3 (seqOf t) ⟨queryRow t ρ * 64 + k, by omega⟩ ⟨h * 64 + e, by omega⟩)
          * arg1 m c (ix5 (seqOf t) 0 l h e)) * scale := by
  have hr : (queryRow t ρ : ℕ) = 2 * (t.val % 32) + ρ := rfl
  refine ctxAt_of_reads (Q := fun e => _) (K := fun e => _) (fun e => (read_q m c t _ _).trans ?_) (fun e => (read_ck m c t _ _).trans ?_)
  · exact at3 _ (by dsimp; omega) (by dsimp; omega)
  · exact at5 _ (by dsimp; omega) (by dsimp; omega)

/-- What a point writes for a query. -/
theorem query_point (c : Dev nD)
    (packed : ∀ (b : Fin 4) (p : Fin 4096) (e : Fin 2048),
      ∃ r : ℝ, arg0 m c (ix3 b p ⟨e, by omega⟩) = (r : EReal))
    (cached : ∀ i, ∃ r : ℝ, arg1 m c i = (r : EReal))
    (bias : ∀ i, ∃ r : ℝ, arg3 m c i = (r : EReal))
    (t : Fin cfg0.N) (ρ : Fin 2) (k : Fin 64) (h : Fin 16) (d : Fin 64) :
    outAt (grid0.coords t) (iblk m c 0 t) (iblk m c 1 t) (iblk m c 2 t) (iblk m c 3 t) (iblk m c 4 t) (iblk m c 5 t) (iblk m c 6 t)
        ⟨ρ * 64 + k, by omega⟩ ⟨h * 64 + d, by omega⟩
      = early (refWin (arg0 m c) (arg3 m c) (seqOf t) (queryRow t ρ) k h)
          (refCtx (arg0 m c) (arg1 m c) (seqOf t) (queryRow t ρ) k h)
          (fun g => arg0 m c (ix3 (seqOf t) (keyAt (queryRow t ρ) k g) ⟨2048 + (h * 64 + d), by omega⟩))
          (fun l => arg2 m c (ix5 (seqOf t) 0 l h d)) := by
  choose X0 hX0 using packed
  choose X1 hX1 using cached
  choose X3 hX3 using bias
  have hr : (queryRow t ρ : ℕ) = 2 * (t.val % 32) + ρ := rfl
  have hq : ∀ e : Fin 64, arg0 m c (ix3 (seqOf t) ⟨queryRow t ρ * 64 + k, by omega⟩ ⟨h * 64 + e, by omega⟩)
      = (X0 (seqOf t) ⟨queryRow t ρ * 64 + k, by omega⟩ ⟨h * 64 + e, by omega⟩ : EReal) := fun e => hX0 _ _ ⟨h * 64 + e, by omega⟩
  have hk : ∀ (n : Fin 512) (e : Fin 64), arg0 m c
        (ix3 (seqOf t) ⟨rowStart (queryRow t ρ) * 64 + n, row_lt _ n⟩ ⟨1024 + (h * 64 + e), by omega⟩)
      = (X0 (seqOf t) ⟨rowStart (queryRow t ρ) * 64 + n, row_lt _ n⟩ ⟨1024 + (h * 64 + e), by omega⟩ : EReal) :=
    fun n e => hX0 _ _ ⟨1024 + (h * 64 + e), by omega⟩
  have ev : (fun n : Fin 512 => (iblk m c 2 t : FVec Ideal S1x4096x1024 .bf16)
        (ix3 0 ⟨rowBase (grid0.coords t) ((⟨ρ * 64 + k, by omega⟩ : Fin 128) / 64) + n, by unfold rowBase; omega⟩ ⟨h * 64 + d, by omega⟩))
      = fun n : Fin 512 => arg0 m c
        (ix3 (seqOf t) ⟨rowStart (queryRow t ρ) * 64 + n, row_lt _ n⟩ ⟨2048 + (h * 64 + d), by omega⟩) := by
    funext n
    exact (read_v m c t _ _).trans (at3 _ (by dsimp; unfold rowBase rowStart; rw [coord]; omega) (by dsimp))
  have eu : (fun n : Fin 256 => (iblk m c 4 t : FVec Ideal S1x256x1024 .bf16) (ix3 0 n ⟨h * 64 + d, by omega⟩))
      = fun l => arg2 m c (ix5 (seqOf t) 0 l h d) := by
    funext l
    exact (read_cv m c t _ _).trans (at5 _ (by dsimp; omega) (by dsimp; omega))
  have hplace : ∀ g : Fin 128, (place k g : ℕ) = (g / 16) * 64 + (colStart k + g % 16) := fun _ => rfl
  have ekey : ∀ (g : Fin 128) (f : Fin 3072), arg0 m c (ix3 (seqOf t) (keyAt (queryRow t ρ) k g) f)
      = arg0 m c (ix3 (seqOf t) ⟨rowStart (queryRow t ρ) * 64 + place k g, row_lt _ _⟩ f) :=
    fun g f => at3 _ (by show (rowStart (queryRow t ρ) + g / 16) * 64 + (colStart k + g % 16) = _; dsimp; rw [hplace]; omega) rfl
  have key := meet (c := k) (a := fun e => X0 (seqOf t) ⟨queryRow t ρ * 64 + k, by omega⟩ ⟨h * 64 + e, by omega⟩)
    (k := fun n e => X0 (seqOf t) ⟨rowStart (queryRow t ρ) * 64 + n, row_lt _ n⟩ ⟨1024 + (h * 64 + e), by omega⟩)
    (kc := fun l e => X1 (ix5 (seqOf t) 0 l h e))
    (β := fun g => X3 (ix4 0 h ⟨rowStart (queryRow t ρ) + g / 16 + 7 - queryRow t ρ, bias_row_lt _ g⟩ ⟨colStart k + g % 16 + 15 - k, bias_col_lt k g⟩))
    (s := winAt (grid0.coords t) (iblk m c 0 t) (iblk m c 1 t) (iblk m c 5 t) (iblk m c 6 t) ⟨ρ * 64 + k, by omega⟩ ⟨h * 64 + d, by omega⟩)
    (B := fun n => baseTable (arg3 m c)
          (ix4 h ⟨rowStart (queryRow t ρ) + 7 - queryRow t ρ + n / 64, distance_lt _ n⟩ k ⟨n % 64, by omega⟩))
    (t := ctxAt (iblk m c 0 t) (iblk m c 3 t) ⟨ρ * 64 + k, by omega⟩ ⟨h * 64 + d, by omega⟩)
    (w := refWin (arg0 m c) (arg3 m c) (seqOf t) (queryRow t ρ) k h)
    (w' := refCtx (arg0 m c) (arg1 m c) (seqOf t) (queryRow t ρ) k h)
    (v := fun n : Fin 512 => arg0 m c
        (ix3 (seqOf t) ⟨rowStart (queryRow t ρ) * 64 + n, row_lt _ n⟩ ⟨2048 + (h * 64 + d), by omega⟩))
    (u := fun l => arg2 m c (ix5 (seqOf t) 0 l h d))
    (fun n => by rw [window_point]; simp only [hq, hk])
    (fun g => by
      have hin : colStart k ≤ (place k g : ℕ) % 64 ∧ (place k g : ℕ) % 64 < colStart k + 16 := by rw [hplace]; unfold colStart; omega
      rw [baseTable_apply, dif_pos hin, ← hX3]
      refine congrArg (fun x : EReal => x * (((Real.log 2)⁻¹ : ℝ) : EReal)) (at4 _ rfl rfl ?_ ?_)
      · show rowStart (queryRow t ρ) + 7 - queryRow t ρ + (place k g : ℕ) / 64 = rowStart (queryRow t ρ) + g / 16 + 7 - queryRow t ρ
        rw [hplace]; unfold rowStart colStart; omega
      · show (place k g : ℕ) % 64 + 15 - k = colStart k + g % 16 + 15 - k
        rw [hplace]; unfold colStart; omega)
    (fun n hn => by rw [baseTable_apply, dif_neg hn])
    (fun l => by rw [context_point]; simp only [hq, hX1])
    (fun g => by unfold refWin; simp only [hq, ekey, hk, hX3])
    (fun l => by unfold refCtx; simp only [hq, hX1])
  unfold outAt
  refine Eq.trans ?_ (key.trans ?_)
  · exact congrArg₂ (fun v u => late _ _ v u) ev eu
  · exact congrArg (fun v => early _ _ v _) (funext fun g => (ekey g _).symm)

/-- An element of the attention, by its query's row and column, its head and its place in the head. -/
theorem attn_at (x0 : FVec Ideal S4x4096x3072 .bf16) (x1 x2 : FVec Ideal S4x1x256x16x64 .f32) (x3 : FVec Ideal S1x16x15x31 .f32)
    (b : Fin 4) (r k : Fin 64) (h : Fin 16) (d : Fin 64) :
    attn x0 x1 x2 x3 (ix3 b ⟨r * 64 + k, by omega⟩ ⟨h * 64 + d, by omega⟩)
      = early (refWin x0 x3 b r k h) (refCtx x0 x1 b r k h)
          (fun g => x0 (ix3 b (keyAt r k g) ⟨2048 + (h * 64 + d), by omega⟩)) (fun l => x2 (ix5 b 0 l h d)) := by
  have er : (⟨(r * 64 + k : ℕ) / 64, by omega⟩ : Fin 64) = r := Fin.ext (by dsimp; omega)
  have ek : (⟨(r * 64 + k : ℕ) % 64, by omega⟩ : Fin 64) = k := Fin.ext (by dsimp; omega)
  have eh : (⟨(h * 64 + d : ℕ) / 64, by omega⟩ : Fin 16) = h := Fin.ext (by dsimp; omega)
  have ed : (⟨(h * 64 + d : ℕ) % 64, by omega⟩ : Fin 64) = d := Fin.ext (by dsimp; omega)
  show early (refWin x0 x3 b ⟨(r * 64 + k : ℕ) / 64, by omega⟩ ⟨(r * 64 + k : ℕ) % 64, by omega⟩ ⟨(h * 64 + d : ℕ) / 64, by omega⟩)
    (refCtx x0 x1 b ⟨(r * 64 + k : ℕ) / 64, by omega⟩ ⟨(r * 64 + k : ℕ) % 64, by omega⟩ ⟨(h * 64 + d : ℕ) / 64, by omega⟩)
    (fun g => x0 (ix3 b (keyAt ⟨(r * 64 + k : ℕ) / 64, by omega⟩ ⟨(r * 64 + k : ℕ) % 64, by omega⟩ g) ⟨2048 + (h * 64 + d), by omega⟩))
    (fun l => x2 (ix5 b 0 l ⟨(h * 64 + d : ℕ) / 64, by omega⟩ ⟨(h * 64 + d : ℕ) % 64, by omega⟩)) = _
  rw [er, ek, eh, ed]

/-- An index of the result by its query's row and column, its head and its place in the head. -/
theorem split_index (y : S4x4096x1024.Idx) :
    ∃ (b : Fin 4) (r k : Fin 64) (h : Fin 16) (d : Fin 64), y = ix3 b ⟨r * 64 + k, by omega⟩ ⟨h * 64 + d, by omega⟩ := by
  have h1 : (y 1 : ℕ) < 4096 := (y 1).isLt
  have h2 : (y 2 : ℕ) < 1024 := (y 2).isLt
  refine ⟨y 0, ⟨y 1 / 64, by omega⟩, ⟨y 1 % 64, by omega⟩, ⟨y 2 / 64, by omega⟩, ⟨y 2 % 64, by omega⟩, ?_⟩
  funext a
  fin_cases a
  · rfl
  · exact Fin.ext (show (y 1 : ℕ) = y 1 / 64 * 64 + y 1 % 64 by omega)
  · exact Fin.ext (show (y 2 : ℕ) = y 2 / 64 * 64 + y 2 % 64 by omega)

/-- The reference computes the attention. -/
theorem reference_eq (x0 : FVec Ideal S4x4096x3072 .bf16) (x1 x2 : FVec Ideal S4x1x256x16x64 .f32) (x3 : FVec Ideal S1x16x15x31 .f32) :
    Cert.ReferenceIdeal.Read.val_main_v120 (F := Ideal) x0 x1 x2 x3 = attn x0 x1 x2 x3 := by
  funext y
  obtain ⟨b, r, k, h, d, rfl⟩ := split_index y
  exact (ref_eq x0 x1 x2 x3 b r k h d).trans (attn_at x0 x1 x2 x3 b r k h d).symm

/-- What a point leaves in its block. -/
theorem block_eq (c : Dev nD)
    (packed : ∀ (b : Fin 4) (p : Fin 4096) (e : Fin 2048), ∃ r : ℝ, arg0 m c (ix3 b p ⟨e, by omega⟩) = (r : EReal))
    (cached : ∀ i, ∃ r : ℝ, arg1 m c i = (r : EReal)) (bias : ∀ i, ∃ r : ℝ, arg3 m c i = (r : EReal))
    (t : Fin cfg0.N) (y : S1x128x1024.Idx) :
    outsAt0 m c t y = attn (arg0 m c) (arg1 m c) (arg2 m c) (arg3 m c)
      (ix3 (seqOf t) ⟨128 * (t.val % 32) + y 1, by have h1 : (y 1 : ℕ) < 128 := (y 1).isLt; omega⟩ (y 2)) := by
  have h1 : (y 1 : ℕ) < 128 := (y 1).isLt
  have h2 : (y 2 : ℕ) < 1024 := (y 2).isLt
  have e := query_point m c packed cached bias t ⟨y 1 / 64, by omega⟩ ⟨y 1 % 64, by omega⟩ ⟨y 2 / 64, by omega⟩ ⟨y 2 % 64, by omega⟩
  rw [show (⟨(y 1 : ℕ) / 64 * 64 + (y 1 : ℕ) % 64, by omega⟩ : Fin 128) = y 1 from Fin.ext (by dsimp; omega),
    show (⟨(y 2 : ℕ) / 64 * 64 + (y 2 : ℕ) % 64, by omega⟩ : Fin 1024) = y 2 from Fin.ext (by dsimp; omega), ← attn_at] at e
  unfold outsAt0
  refine (out_eq c (grid0.coords t) _ _ _ _ _ _ _ _ _ _ _ _ _ _ _ _ _ _ _ _ _ _ _ y).trans (e.trans ?_)
  exact at3 _ (show (2 * (t.val % 32) + (y 1 : ℕ) / 64) * 64 + (y 1 : ℕ) % 64 = 128 * (t.val % 32) + y 1 by omega)
    (show (y 2 : ℕ) / 64 * 64 + (y 2 : ℕ) % 64 = y 2 by omega)

/-- What the kernel leaves in its result. -/
theorem final (c : Dev nD)
    (packed : ∀ (b : Fin 4) (p : Fin 4096) (e : Fin 2048), ∃ r : ℝ, arg0 m c (ix3 b p ⟨e, by omega⟩) = (r : EReal))
    (cached : ∀ i, ∃ r : ℝ, arg1 m c i = (r : EReal)) (bias : ∀ i, ∃ r : ℝ, arg3 m c i = (r : EReal)) :
    (dats m 0 c).arrAt 7 (cfgs 0).N = attn (arg0 m c) (arg1 m c) (arg2 m c) (arg3 m c) := by
  refine (dats m 0 c).arrAt_eq_of_covers 7 _ (by decide +kernel) fun t hf y => ?_
  blk_simp
  rw [after0_7]
  refine (block_eq m c packed cached bias t y).trans ?_
  unfold seqOf
  generalize attn (arg0 m c) (arg1 m c) (arg2 m c) (arg3 m c) = X
  blk_ext [idx t]

end Cert.Attn

end
-- ==== Proof.Attn.Claims.lean ====
module

public import proofs.«01_k».proof.Defs
public import proofs.«01_k».proof.Proof.Attn.Finite
public import proofs.«01_k».proof.Proof.Attn.Value

/-!
# The attention's value claim
-/

@[expose] public section

set_option maxRecDepth 16384

namespace Cert.Attn

open Idealize.ShloMosaic Idealize.SL.Sem

attribute [local instance] preFacts

/-- Over the extended reals the attention kernel and its reference end with equal results, when queries, keys, cached keys
and biases are finite. -/
theorem algebraic : Cert.algebraic_KernelIdeal_ReferenceIdeal_pre_finite := by
  intro m g m' g' hpre hagree
  refine ⟨fun c => attn (arg0 m c) (arg1 m c) (arg2 m c) (arg3 m c), ?_, ?_⟩
  · refine (θ_run _ _ _).mono (fun r h c => ?_) (Cert.KernelIdeal.Value.run_blocks m g)
    obtain ⟨p0, p1, p2⟩ := hpre c
    exact ⟨(h c).1.trans (final m c (real_packed p0) (real_cached p1) (real_bias p2)), (h c).2⟩
  · refine (θ_run _ _ _).mono (fun r h c => ?_) (Cert.ReferenceIdeal.Value.run m' g')
    obtain ⟨h0, h1, h2, h3⟩ := hagree c
    refine ⟨(h c).1.trans ?_, (h c).2⟩
    refine (Cert.ReferenceIdeal.Read.val_main_v120_eq _ _).trans ((reference_eq _ _ _ _).trans ?_)
    dsimp only [arg0, arg1, arg2, arg3]
    rw [h0, h1, h2, h3]

end Cert.Attn

end
-- ==== Proof.Proj.Keys.lean ====
module

public import proofs.«01_k».proof.Defs
public import proofs.«01_k».proof.Proof.Moe.Body
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read

/-!
# The projection of the prompt's keys
-/

@[expose] public section

set_option maxRecDepth 16384

noncomputable section

namespace Cert.Proj.Keys

open Cert.Kernel3Ideal Cert.Kernel3Ideal.Gen Idealize.ShloMosaic Idealize.ShloMosaic.TcCoe Idealize.SL.Sem

/-- Column `q` of this projection, among the columns of the packed weights. -/
def column (q : Fin 1024) : Fin 3072 := ⟨1024 + q.val, by omega⟩

/-- The weights kept in the scratch buffer: those of the block. -/
theorem kept_apply (w : FVec Ideal S1x1024x1024 .f32) (e q : Fin 1024) : k0_pay1 (F := Ideal) w (ix2 e q) = w (ix3 0 e q) := by
  pointwise [k0_pay1]

/-- The product of a block of rows with the kept weights. -/
theorem product_apply (x w : FVec Ideal S1024x1024 .bf16) (p q : Fin 1024) :
    k0_pay2 (F := Ideal) x w (ix2 p q) = ∑ e : Fin 1024, x (ix2 p e) * w (ix2 e q) := by
  pointwise [k0_pay2]

/-- An element of a whole 1024-by-1024 buffer, as an element of the part that is the whole. -/
theorem whole_emb (y : S1024x1024.Idx) :
    (Rect.unit (s := S1024x1024) ![0, 0] S1024x1024.size inb_S1024x1024_S1024x1024_0_0).emb y = y := by
  refine funext fun a => Fin.ext ?_
  fin_cases a <;> exact (Nat.zero_add _).trans (Nat.one_mul _)

/-- A store of a whole buffer leaves what was stored. -/
theorem canon_whole {e : EltTy} (w : S1024x1024.Idx → Elt Ideal e) (y : S1024x1024.Idx) :
    View.canon ([⟨Rect.unit (s := S1024x1024) ![0, 0] S1024x1024.size inb_S1024x1024_S1024x1024_0_0, w⟩] :
      List (View.Piece (Elt Ideal) S1024x1024 e)) y = w y := by
  have h := View.canon_cons_emb (Val := Elt Ideal) (e := e)
    (Rect.unit (s := S1024x1024) ![0, 0] S1024x1024.size inb_S1024x1024_S1024x1024_0_0) w [] y
  rw [whole_emb] at h
  exact h

/-- A load of a whole buffer is what it holds. -/
theorem read_whole {sg : RefSig} {e : EltTy} {v : Memref sg .tc .vmem S1024x1024 e} (hv : v.IsWhole) (x : S1024x1024.Idx → Elt Ideal e) :
    View.readAt (Elt Ideal) v.view (Rect.unit (s := S1024x1024) ![0, 0] S1024x1024.size inb_S1024x1024_S1024x1024_0_0).toLoadRect
      (hv.unread x) = x := by
  rw [View.readAt_eq_ld, hv.read_unread]
  funext j
  refine congrArg x (funext fun a => Fin.ext ?_)
  fin_cases a <;> exact (Nat.zero_add _).trans (Nat.one_mul _)

/-- A load of a whole block of weights is the block. -/
theorem read_weights {sg : RefSig} {v : Memref sg .tc .vmem S1x1024x1024 .f32} (hv : v.IsWhole) (x : FVec Ideal S1x1024x1024 .f32) :
    View.readAt (Elt Ideal) v.view
      (Rect.unit (s := S1x1024x1024) ![0, 0, 0] S1x1024x1024.size inb_S1x1024x1024_S1x1024x1024_0_0_0).toLoadRect (hv.unread x) = x := by
  rw [View.readAt_eq_ld, hv.read_unread]
  funext j
  refine congrArg x (funext fun a => Fin.ext ?_)
  fin_cases a <;> exact (Nat.zero_add _).trans (Nat.one_mul _)

section Body

variable (c : Dev nD) (i : grid0.Coords) (arg2 : Memref sig .tc .vmem S1024x1024 .bf16) (harg2 : arg2.IsWhole)
  (arg3 : Memref sig .tc .vmem S1x1024x1024 .f32) (harg3 : arg3.IsWhole) (arg4 : Memref sig .tc .vmem S1024x1024 .f32) (harg4 : arg4.IsWhole)
  (arg5 : Memref sig .tc .vmem S1024x1024 .bf16) (harg5 : arg5.IsWhole)
  (x0 : FVec Ideal S1024x1024 .bf16) (x1 : FVec Ideal S1x1024x1024 .f32) (xs0 : FVec Ideal S1024x1024 .bf16)

/-- The first point keeps the weights of its block. -/
theorem scratch_first (hc0 : cond0_0 i) (y : S1024x1024.Idx) :
    sout0_A_0 (F := Ideal) c i arg2 harg2 arg3 harg3 arg4 harg4 arg5 harg5 hc0 x0 x1 y = x1 (ix3 0 (y 0) (y 1)) := by
  unfold sout0_A_0
  rw [View.read_writes_junk_eq_canon]
  refine (canon_whole (e := .bf16) (k0_pay1 (F := Ideal) (View.readAt (Elt Ideal) arg3.view
      (Rect.unit (s := S1x1024x1024) ![0, 0, 0] S1x1024x1024.size inb_S1x1024x1024_S1x1024x1024_0_0_0).toLoadRect (harg3.unread x1))) y).trans ?_
  rw [read_weights]
  exact (congrArg _ (eq_ix2 y)).trans (kept_apply x1 (y 0) (y 1))

/-- The first point's block: its rows times the weights it has just kept. -/
theorem out_first (hc0 : cond0_0 i) (y : S1024x1024.Idx) :
    out0_A_2 (F := Ideal) c i arg2 harg2 arg3 harg3 arg4 harg4 arg5 harg5 hc0 x0 x1 y = ∑ e : Fin 1024, x0 (ix2 (y 0) e) * x1 (ix3 0 e (y 1)) := by
  unfold out0_A_2
  rw [View.read_writes_junk_eq_canon]
  refine (canon_whole (e := .f32) _ y).trans ?_
  unfold kernelRun0_A.sl.v4
  rw [read_whole]
  refine (congrArg _ (eq_ix2 y)).trans ((product_apply _ _ (y 0) (y 1)).trans (Finset.sum_congr rfl fun e _ => ?_))
  refine congrArg₂ (fun a b : EReal => a * b) rfl ?_
  rw [View.readCov_eq_canon']
  refine Eq.trans ?_ (kept_apply x1 e (y 1))
  refine Eq.trans (congrArg (View.canon _) (whole_emb (ix2 e (y 1)))) ?_
  refine Eq.trans (canon_whole (e := .bf16) _ _) ?_
  exact congrArg (fun w => k0_pay1 (F := Ideal) w (ix2 e (y 1))) (read_weights harg3 x1)

/-- A later point's block: its rows times the weights kept before. -/
theorem out_later (hc0 : ¬cond0_0 i) (y : S1024x1024.Idx) :
    out0_B_2 (F := Ideal) c i arg2 harg2 arg3 harg3 arg4 harg4 arg5 harg5 hc0 x0 x1 xs0 y = ∑ e : Fin 1024, x0 (ix2 (y 0) e) * xs0 (ix2 e (y 1)) := by
  unfold out0_B_2
  rw [View.read_writes_junk_eq_canon]
  refine (canon_whole (e := .f32) (k0_pay2 (F := Ideal) (View.readAt (Elt Ideal) arg2.view
      (Rect.unit (s := S1024x1024) ![0, 0] S1024x1024.size inb_S1024x1024_S1024x1024_0_0).toLoadRect (harg2.unread x0))
    (View.readAt (Elt Ideal) arg5.view
      (Rect.unit (s := S1024x1024) ![0, 0] S1024x1024.size inb_S1024x1024_S1024x1024_0_0).toLoadRect (harg5.unread xs0))) y).trans ?_
  rw [read_whole, read_whole]
  exact (congrArg _ (eq_ix2 y)).trans (product_apply _ _ (y 0) (y 1))

end Body

variable (m : (ℓ : Loc nD τ sig) → Buf (Elt Ideal) ℓ)

/-- The blocks a point works on: rows `1024 t` onwards, and the projection's columns. -/
theorem idx : ∀ t : Fin cfg0.N, win0_0.index t = ![t.val, 0] ∧ win0_1.index t = ![0, 0, 1] ∧ win0_2.index t = ![t.val, 0] :=
  (by decide +kernel : ∀ t : Fin grid0.N, _)

/-- Row `p` of a point's block. -/
def row (t : Fin cfg0.N) (p : Fin 1024) : Fin 20480 := ⟨1024 * t.val + p.val, by have h : t.val < 4 := lt_of_lt_of_eq t.isLt N_0; omega⟩

/-- The rows of a point. -/
theorem read_rows (c : Dev nD) (t : Fin cfg0.N) (p e : Fin 1024) :
    (iblk m c 0 t : FVec Ideal S1024x1024 .bf16) (ix2 p e) = (m ((c : Thread nD τ).loc main_arg0) : FVec Ideal S20480x1024 .bf16) (ix2 (row t p) e) := by
  unfold row
  blk_point [iblk, V, idx t]

/-- The weights of a point. -/
theorem read_columns (c : Dev nD) (t : Fin cfg0.N) (e q : Fin 1024) :
    (iblk m c 1 t : FVec Ideal S1x1024x1024 .f32) (ix3 0 e q)
      = (m ((c : Thread nD τ).loc main_arg1) : FVec Ideal S1x1024x3072 .f32) (ix3 0 e (column q)) := by
  unfold column
  blk_point [iblk, V, idx t]

/-- The projection of the prompt's rows to its columns. -/
def proj (x : FVec Ideal S20480x1024 .bf16) (w : FVec Ideal S1x1024x3072 .f32) : FVec Ideal S4096x1024 .f32 := fun y =>
  ∑ e : Fin 1024, x (ix2 ⟨(y 0).val, lt_trans (y 0).isLt (by decide)⟩ e) * w (ix3 0 e (column (y 1)))

/-- After every point the scratch buffer holds the projection's weights. -/
theorem scratch_eq (c : Dev nD) : ∀ (n : ℕ) (hn : n < cfg0.N) (e q : Fin 1024), (outsAt0 m c n hn).2 (ix2 e q)
    = (m ((c : Thread nD τ).loc main_arg1) : FVec Ideal S1x1024x3072 .f32) (ix3 0 e (column q)) := by
  intro n
  induction n with
  | zero =>
    intro hn e q
    rw [outsAt0_A m c ⟨0, hn⟩ rfl]
    dsimp only
    exact (scratch_first c (grid0.coords ⟨0, hn⟩) _ _ _ _ _ _ _ _ _ _ _ (ix2 e q)).trans (read_columns m c ⟨0, hn⟩ e q)
  | succ n ih =>
    intro hn e q
    have h4 : n + 1 < 4 := lt_of_lt_of_eq hn N_0
    have h := outsAt0_B m c ⟨n + 1, hn⟩ (by simp only; omega)
    refine (congrFun (congrArg Prod.snd h) (ix2 e q)).trans ?_
    dsimp only [sout0_B_0]
    exact ih (Nat.lt_of_succ_lt hn) e q

/-- A point's block of the result, from its rows and the projection's weights. -/
theorem block_eq (x : FVec Ideal S20480x1024 .bf16) (w : FVec Ideal S1x1024x3072 .f32) (c : Dev nD) (t : Fin cfg0.N) (hx : m ((c : Thread nD τ).loc main_arg0) = x)
    (hw : m ((c : Thread nD τ).loc main_arg1) = w) (y : S1024x1024.Idx) :
    (outsAt0 m c t.val t.isLt).1 y = ∑ e : Fin 1024, x (ix2 (row t (y 0)) e) * w (ix3 0 e (column (y 1))) := by
  subst hx hw
  by_cases h : t.val % 4 = 0
  · rw [outsAt0_A m c t h]
    dsimp only
    refine (out_first c (grid0.coords t) _ _ _ _ _ _ _ _ _ _ _ y).trans (Finset.sum_congr rfl fun e _ => ?_)
    exact congrArg₂ (fun a b : EReal => a * b) (read_rows m c t (y 0) e) (read_columns m c t e (y 1))
  · rw [outsAt0_B m c t h]
    dsimp only
    refine (out_later c (grid0.coords t) _ _ _ _ _ _ _ _ _ _ _ _ y).trans (Finset.sum_congr rfl fun e _ => ?_)
    exact congrArg₂ (fun a b : EReal => a * b) (read_rows m c t (y 0) e) (scratch_eq m c _ _ e (y 1))

/-- The kernel's result: the projection of its arguments. -/
theorem final (c : Dev nD) : (dats m 0 c).arrAt 2 (cfgs 0).N
    = proj (m ((c : Thread nD τ).loc main_arg0)) (m ((c : Thread nD τ).loc main_arg1)) := by
  refine (dats m 0 c).arrAt_eq_of_covers 2 _ (by decide +kernel) fun t hf y => ?_
  blk_simp
  rw [after0_2]
  refine (block_eq m _ _ c t rfl rfl y).trans ?_
  unfold proj row column
  refine Finset.sum_congr rfl fun e _ => ?_
  refine congrArg₂ (fun a b : EReal => a * b) ?_ ?_
  · blk_ext [idx t]
  · blk_ext [idx t]

/-- The reference's result: the projection of its arguments. -/
theorem reference_eq (x : FVec Ideal S20480x1024 .bf16) (w : FVec Ideal S1x1024x3072 .f32) :
    Cert.Reference3Ideal.Read.val_main_v5 (F := Ideal) x w = proj x w := by
  funext y
  obtain ⟨p, q, rfl⟩ : ∃ p q, y = ix2 p q := ⟨_, _, eq_ix2 y⟩
  rw [Cert.Reference3Ideal.Read.val_main_v5_apply, Cert.Reference3Ideal.Read.val_main_v3_apply]
  refine Finset.sum_congr rfl fun e _ => ?_
  rw [Cert.Reference3Ideal.Read.val_main_v1_apply, Cert.Reference3Ideal.Read.val_main_v0_apply, Cert.Reference3Ideal.Read.val_main_v2_apply]
  have he := e.isLt
  have hq := q.isLt
  refine congrArg₂ (fun a b : EReal => a * b) (congrArg x (funext fun a => Fin.ext ?_)) (congrArg w (funext fun a => Fin.ext ?_))
  · fin_cases a <;> rfl
  · fin_cases a
    · rfl
    · show (e.val * 3072 + (1024 + q.val)) / 3072 % 1024 = e.val; omega
    · show (e.val * 3072 + (1024 + q.val)) % 3072 = 1024 + q.val; omega

/-- The frame of the kernel. -/
theorem frameBits : Cert.quiescent_Kernel3 := fun m g _ => Cert.Kernel3.Gen.frame m g

/-- The frame of its ideal reading. -/
theorem frameIdeal : Cert.quiescent_Kernel3Ideal := fun m g _ => Cert.Kernel3Ideal.Gen.frame m g

/-- The frame of the reference. -/
theorem frameReference : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- Over the extended reals the kernel and its reference end with equal results. -/
theorem algebraic : Cert.algebraic_Kernel3Ideal_Reference3Ideal := by
  intro m g m' g' _ hagree
  refine ⟨fun c => proj (m ((c.tc : Thread _ _).loc Cert.Kernel3Ideal.main_arg0)) (m ((c.tc : Thread _ _).loc Cert.Kernel3Ideal.main_arg1)), ?_, ?_⟩
  · refine (θ_run _ _ _).mono (fun r h c => ?_) (Cert.Kernel3Ideal.Value.run_blocks m g)
    exact ⟨(h c).1.trans (final m c), (h c).2⟩
  · refine (θ_run _ _ _).mono (fun r h c => ?_) (Cert.Reference3Ideal.Value.run m' g')
    obtain ⟨h0, h1⟩ := hagree c
    refine ⟨(h c).1.trans ?_, (h c).2⟩
    refine (Cert.Reference3Ideal.Read.val_main_v5_eq _ _).trans ((reference_eq _ _).trans ?_)
    dsimp only
    rw [h0, h1]

end Cert.Proj.Keys

end
-- ==== Proof.Proj.Values.lean ====
module

public import proofs.«01_k».proof.Defs
public import proofs.«01_k».proof.Proof.Proj.Keys
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read

/-!
# The projection of the prompt's values
-/

@[expose] public section

set_option maxRecDepth 16384

noncomputable section

namespace Cert.Proj.Values

open Cert.Kernel4Ideal Cert.Kernel4Ideal.Gen Idealize.ShloMosaic Idealize.ShloMosaic.TcCoe Idealize.SL.Sem

/-- Column `q` of this projection, among the columns of the packed weights. -/
def column (q : Fin 1024) : Fin 3072 := ⟨2048 + q.val, by omega⟩

section Body

variable (c : Dev nD) (i : grid0.Coords) (arg2 : Memref sig .tc .vmem S1024x1024 .bf16) (harg2 : arg2.IsWhole)
  (arg3 : Memref sig .tc .vmem S1x1024x1024 .f32) (harg3 : arg3.IsWhole) (arg4 : Memref sig .tc .vmem S1024x1024 .f32) (harg4 : arg4.IsWhole)
  (arg5 : Memref sig .tc .vmem S1024x1024 .bf16) (harg5 : arg5.IsWhole)
  (x0 : FVec Ideal S1024x1024 .bf16) (x1 : FVec Ideal S1x1024x1024 .f32) (xs0 : FVec Ideal S1024x1024 .bf16)

/-- The first point keeps the weights of its block. -/
theorem scratch_first (hc0 : cond0_0 i) (y : S1024x1024.Idx) :
    sout0_A_0 (F := Ideal) c i arg2 harg2 arg3 harg3 arg4 harg4 arg5 harg5 hc0 x0 x1 y = x1 (ix3 0 (y 0) (y 1)) :=
  Cert.Proj.Keys.scratch_first c i arg2 harg2 arg3 harg3 arg4 harg4 arg5 harg5 x0 x1 hc0 y

/-- The first point's block: its rows times the weights it has just kept. -/
theorem out_first (hc0 : cond0_0 i) (y : S1024x1024.Idx) :
    out0_A_2 (F := Ideal) c i arg2 harg2 arg3 harg3 arg4 harg4 arg5 harg5 hc0 x0 x1 y = ∑ e : Fin 1024, x0 (ix2 (y 0) e) * x1 (ix3 0 e (y 1)) :=
  Cert.Proj.Keys.out_first c i arg2 harg2 arg3 harg3 arg4 harg4 arg5 harg5 x0 x1 hc0 y

/-- A later point's block: its rows times the weights kept before. -/
theorem out_later (hc0 : ¬cond0_0 i) (y : S1024x1024.Idx) :
    out0_B_2 (F := Ideal) c i arg2 harg2 arg3 harg3 arg4 harg4 arg5 harg5 hc0 x0 x1 xs0 y = ∑ e : Fin 1024, x0 (ix2 (y 0) e) * xs0 (ix2 e (y 1)) :=
  Cert.Proj.Keys.out_later c i arg2 harg2 arg3 harg3 arg4 harg4 arg5 harg5 x0 x1 xs0 hc0 y

end Body

variable (m : (ℓ : Loc nD τ sig) → Buf (Elt Ideal) ℓ)

/-- The blocks a point works on: rows `1024 t` onwards, and the projection's columns. -/
theorem idx : ∀ t : Fin cfg0.N, win0_0.index t = ![t.val, 0] ∧ win0_1.index t = ![0, 0, 2] ∧ win0_2.index t = ![t.val, 0] :=
  (by decide +kernel : ∀ t : Fin grid0.N, _)

/-- Row `p` of a point's block. -/
def row (t : Fin cfg0.N) (p : Fin 1024) : Fin 20480 := ⟨1024 * t.val + p.val, by have h : t.val < 4 := lt_of_lt_of_eq t.isLt N_0; omega⟩

/-- The rows of a point. -/
theorem read_rows (c : Dev nD) (t : Fin cfg0.N) (p e : Fin 1024) :
    (iblk m c 0 t : FVec Ideal S1024x1024 .bf16) (ix2 p e) = (m ((c : Thread nD τ).loc main_arg0) : FVec Ideal S20480x1024 .bf16) (ix2 (row t p) e) := by
  unfold row
  blk_point [iblk, V, idx t]

/-- The weights of a point. -/
theorem read_columns (c : Dev nD) (t : Fin cfg0.N) (e q : Fin 1024) :
    (iblk m c 1 t : FVec Ideal S1x1024x1024 .f32) (ix3 0 e q)
      = (m ((c : Thread nD τ).loc main_arg1) : FVec Ideal S1x1024x3072 .f32) (ix3 0 e (column q)) := by
  unfold column
  blk_point [iblk, V, idx t]

/-- The projection of the prompt's rows to its columns. -/
def proj (x : FVec Ideal S20480x1024 .bf16) (w : FVec Ideal S1x1024x3072 .f32) : FVec Ideal S4096x1024 .f32 := fun y =>
  ∑ e : Fin 1024, x (ix2 ⟨(y 0).val, lt_trans (y 0).isLt (by decide)⟩ e) * w (ix3 0 e (column (y 1)))

/-- After every point the scratch buffer holds the projection's weights. -/
theorem scratch_eq (c : Dev nD) : ∀ (n : ℕ) (hn : n < cfg0.N) (e q : Fin 1024), (outsAt0 m c n hn).2 (ix2 e q)
    = (m ((c : Thread nD τ).loc main_arg1) : FVec Ideal S1x1024x3072 .f32) (ix3 0 e (column q)) := by
  intro n
  induction n with
  | zero =>
    intro hn e q
    rw [outsAt0_A m c ⟨0, hn⟩ rfl]
    dsimp only
    exact (scratch_first c (grid0.coords ⟨0, hn⟩) _ _ _ _ _ _ _ _ _ _ _ (ix2 e q)).trans (read_columns m c ⟨0, hn⟩ e q)
  | succ n ih =>
    intro hn e q
    have h4 : n + 1 < 4 := lt_of_lt_of_eq hn N_0
    have h := outsAt0_B m c ⟨n + 1, hn⟩ (by simp only; omega)
    refine (congrFun (congrArg Prod.snd h) (ix2 e q)).trans ?_
    dsimp only [sout0_B_0]
    exact ih (Nat.lt_of_succ_lt hn) e q

/-- A point's block of the result, from its rows and the projection's weights. -/
theorem block_eq (x : FVec Ideal S20480x1024 .bf16) (w : FVec Ideal S1x1024x3072 .f32) (c : Dev nD) (t : Fin cfg0.N) (hx : m ((c : Thread nD τ).loc main_arg0) = x)
    (hw : m ((c : Thread nD τ).loc main_arg1) = w) (y : S1024x1024.Idx) :
    (outsAt0 m c t.val t.isLt).1 y = ∑ e : Fin 1024, x (ix2 (row t (y 0)) e) * w (ix3 0 e (column (y 1))) := by
  subst hx hw
  by_cases h : t.val % 4 = 0
  · rw [outsAt0_A m c t h]
    dsimp only
    refine (out_first c (grid0.coords t) _ _ _ _ _ _ _ _ _ _ _ y).trans (Finset.sum_congr rfl fun e _ => ?_)
    exact congrArg₂ (fun a b : EReal => a * b) (read_rows m c t (y 0) e) (read_columns m c t e (y 1))
  · rw [outsAt0_B m c t h]
    dsimp only
    refine (out_later c (grid0.coords t) _ _ _ _ _ _ _ _ _ _ _ _ y).trans (Finset.sum_congr rfl fun e _ => ?_)
    exact congrArg₂ (fun a b : EReal => a * b) (read_rows m c t (y 0) e) (scratch_eq m c _ _ e (y 1))

/-- The kernel's result: the projection of its arguments. -/
theorem final (c : Dev nD) : (dats m 0 c).arrAt 2 (cfgs 0).N
    = proj (m ((c : Thread nD τ).loc main_arg0)) (m ((c : Thread nD τ).loc main_arg1)) := by
  refine (dats m 0 c).arrAt_eq_of_covers 2 _ (by decide +kernel) fun t hf y => ?_
  blk_simp
  rw [after0_2]
  refine (block_eq m _ _ c t rfl rfl y).trans ?_
  unfold proj row column
  refine Finset.sum_congr rfl fun e _ => ?_
  refine congrArg₂ (fun a b : EReal => a * b) ?_ ?_
  · blk_ext [idx t]
  · blk_ext [idx t]

/-- The reference's result: the projection of its arguments. -/
theorem reference_eq (x : FVec Ideal S20480x1024 .bf16) (w : FVec Ideal S1x1024x3072 .f32) :
    Cert.Reference4Ideal.Read.val_main_v6 (F := Ideal) x w = proj x w := by
  funext y
  obtain ⟨p, q, rfl⟩ : ∃ p q, y = ix2 p q := ⟨_, _, eq_ix2 y⟩
  rw [Cert.Reference4Ideal.Read.val_main_v6_apply, Cert.Reference4Ideal.Read.val_main_v3_apply]
  refine Finset.sum_congr rfl fun e _ => ?_
  rw [Cert.Reference4Ideal.Read.val_main_v1_apply, Cert.Reference4Ideal.Read.val_main_v0_apply, Cert.Reference4Ideal.Read.val_main_v2_apply]
  have he := e.isLt
  have hq := q.isLt
  refine congrArg₂ (fun a b : EReal => a * b) (congrArg x (funext fun a => Fin.ext ?_)) (congrArg w (funext fun a => Fin.ext ?_))
  · fin_cases a <;> rfl
  · fin_cases a
    · rfl
    · show (e.val * 3072 + (2048 + q.val)) / 3072 % 1024 = e.val; omega
    · show (e.val * 3072 + (2048 + q.val)) % 3072 = 2048 + q.val; omega

/-- The frame of the kernel. -/
theorem frameBits : Cert.quiescent_Kernel4 := fun m g _ => Cert.Kernel4.Gen.frame m g

/-- The frame of its ideal reading. -/
theorem frameIdeal : Cert.quiescent_Kernel4Ideal := fun m g _ => Cert.Kernel4Ideal.Gen.frame m g

/-- The frame of the reference. -/
theorem frameReference : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- Over the extended reals the kernel and its reference end with equal results. -/
theorem algebraic : Cert.algebraic_Kernel4Ideal_Reference4Ideal := by
  intro m g m' g' _ hagree
  refine ⟨fun c => proj (m ((c.tc : Thread _ _).loc Cert.Kernel4Ideal.main_arg0)) (m ((c.tc : Thread _ _).loc Cert.Kernel4Ideal.main_arg1)), ?_, ?_⟩
  · refine (θ_run _ _ _).mono (fun r h c => ?_) (Cert.Kernel4Ideal.Value.run_blocks m g)
    exact ⟨(h c).1.trans (final m c), (h c).2⟩
  · refine (θ_run _ _ _).mono (fun r h c => ?_) (Cert.Reference4Ideal.Value.run m' g')
    obtain ⟨h0, h1⟩ := hagree c
    refine ⟨(h c).1.trans ?_, (h c).2⟩
    refine (Cert.Reference4Ideal.Read.val_main_v6_eq _ _).trans ((reference_eq _ _).trans ?_)
    dsimp only
    rw [h0, h1]

end Cert.Proj.Values

end
-- ==== Proof.Norm.Prompt.lean ====
module

public import proofs.«01_k».proof.Defs
public import proofs.«01_k».proof.Proof.Moe.Body
public import Idealize.ShloMosaic.Lib.StableHlo.RunRead
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read

/-!
# The final normalisation of the prompt
-/

@[expose] public section

set_option maxRecDepth 16384

noncomputable section

namespace Cert.Norm.Prompt

open Cert.Kernel5Ideal Cert.Kernel5Ideal.Gen Idealize.ShloMosaic Idealize.ShloMosaic.TcCoe Idealize.SL.Sem Idealize.ShloMosaic.StableHlo

/-- The tile of column `q`. -/
def tile (q : Fin 1024) : Fin 8 := ⟨q.val / 128, by omega⟩

/-- The lane of column `q` in its tile. -/
def lane (q : Fin 1024) : Fin 128 := ⟨q.val % 128, by omega⟩

/-- A row divided by its root mean square, and weighted. -/
def rms (f w : Fin 1024 → EReal) (q : Fin 1024) : EReal :=
  f q * Ideal.rsqrt (Ideal.div (∑ k, f k * f k) (Ideal.ofBits .f32 0x44800000#32) + Ideal.ofBits .f32 0x358637BD#32) * w q

/-- A block's rows with the gated tiles added. -/
theorem mixed_apply (x : FVec Ideal S1024x1024 .f32) (g : FVec Ideal S1x1x1024 .f32) (T : Fin 8 → FVec Ideal S1024x1x128 .f32) (p q : Fin 1024) :
    k0_pay2 (F := Ideal) x g (T 0) (T 1) (T 2) (T 3) (T 4) (T 5) (T 6) (T 7) (ix2 p q)
      = x (ix2 p q) + g (ix3 0 0 q) * T (tile q) (ix3 p 0 (lane q)) := by
  have hg : broadcastTo S1024x1024 (shapeCast S1x1024 g shapeCasts_S1x1x1024_S1x1024) broadcasts_S1x1024_S1024x1024 (ix2 p q) = g (ix3 0 0 q) := by
    pointwise []
  have ht : ∀ n : Fin 8, shapeCast S1024x128 (T n) shapeCasts_S1024x1x128_S1024x128 (ix2 p (lane q)) = T n (ix3 p 0 (lane q)) := by
    intro n
    generalize T n = u
    pointwise []
  have h := concatenate_ofFn_apply (t := S1024x1024) (s₁ := S1024x128) (1 : Fin 2)
    (fun n => shapeCast S1024x128 (T n) shapeCasts_S1024x1x128_S1024x128)
    concatenates_S1024x128_S1024x128_S1024x128_S1024x128_S1024x128_S1024x128_S1024x128_S1024x128_S1024x1024_d1 rfl 128 rfl
    (ix2 p q) (tile q) rfl (ix2 p (lane q)) rfl (fun b hb => by match b with | ⟨0, _⟩ => rfl | ⟨1, _⟩ => exact absurd rfl hb)
  have hx : k0_pay2 (F := Ideal) x g (T 0) (T 1) (T 2) (T 3) (T 4) (T 5) (T 6) (T 7) (ix2 p q)
      = x (ix2 p q) + broadcastTo S1024x1024 (shapeCast S1x1024 g shapeCasts_S1x1x1024_S1x1024) broadcasts_S1x1024_S1024x1024 (ix2 p q)
        * concatenate S1024x1024 1 (List.ofFn fun n : Fin 8 => (⟨S1024x128, shapeCast S1024x128 (T n) shapeCasts_S1024x1x128_S1024x128⟩ : (s : Shape) × (s.Idx → _)))
          concatenates_S1024x128_S1024x128_S1024x128_S1024x128_S1024x128_S1024x128_S1024x128_S1024x128_S1024x1024_d1 (ix2 p q) := rfl
  rw [hx, h, hg, ht]

/-- The weights of the normalisation, unchanged by their cast. -/
theorem weight_apply (w : FVec Ideal S1x1024 .f32) (q : Fin 1024) : k0_pay3 (F := Ideal) w (ix2 0 q) = w (ix2 0 q) := by
  pointwise [k0_pay3]

/-- A row's sum of squares. -/
theorem squares_apply (v : FVec Ideal S1024x1024 .f32) (p : Fin 1024) :
    multiReduction (F := Ideal) .add [1] S1024 (mulf v v) 0x00000000#32 reduces_S1024x1024_S1024 (.inl rfl) rfl (ix1 p)
      = ∑ k : Fin 1024, v (ix2 p k) * v (ix2 p k) := by
  pointwise []

/-- The normalised rows from the rows, the weights and the sums of squares. -/
theorem scaled_apply (v : FVec Ideal S1024x1024 .f32) (w : FVec Ideal S1x1024 .f32) (s : FVec Ideal S1024 .f32) (p q : Fin 1024) :
    k0_pay1 (F := Ideal) v w s (ix2 p q)
      = v (ix2 p q) * Ideal.rsqrt (Ideal.div (s (ix1 p)) (Ideal.ofBits .f32 0x44800000#32) + Ideal.ofBits .f32 0x358637BD#32) * w (ix2 0 q) := by
  pointwise [k0_pay1]

/-- A block of the result, from the blocks of a point. -/
theorem out_apply (x : FVec Ideal S1024x1024 .f32) (y : FVec Ideal S1024x8x128 .f32) (g : FVec Ideal S1x1x1024 .f32) (w : FVec Ideal S1x1024 .f32)
    (p q : Fin 1024) : out0_4 (F := Ideal) x y g w (ix2 p q)
      = rms (fun k => x (ix2 p k) + g (ix3 0 0 k) * y (ix3 p (tile k) (lane k))) (fun k => w (ix2 0 k)) q := by
  have hx : (View.ld (Val := Elt Ideal) (e' := .f32) x r0_0 : FVec Ideal S1024x1024 .f32) = x := by
    funext j
    refine congrArg x (funext fun a => Fin.ext ?_)
    fin_cases a <;> exact (Nat.zero_add _).trans (Nat.one_mul _)
  have hg : (View.ld (Val := Elt Ideal) (e' := .f32) g r0_1 : FVec Ideal S1x1x1024 .f32) = g := by
    funext j
    refine congrArg g (funext fun a => Fin.ext ?_)
    fin_cases a <;> exact (Nat.zero_add _).trans (Nat.one_mul _)
  have hw : (View.ld (Val := Elt Ideal) (e' := .f32) w r0_10 : FVec Ideal S1x1024 .f32) = w := by
    funext j
    refine congrArg w (funext fun a => Fin.ext ?_)
    fin_cases a <;> exact (Nat.zero_add _).trans (Nat.one_mul _)
  let T : Fin 8 → FVec Ideal S1024x1x128 .f32 := fun n j => y (ix3 (j 0) n (j 2))
  have hT : ∀ (n : Fin 8) (v : FVec Ideal S1024x1x128 .f32), (∀ p l, v (ix3 p 0 l) = y (ix3 p n l)) → v = T n := by
    intro n v h
    funext j
    obtain ⟨a, b, l, rfl⟩ : ∃ a b l, j = ix3 a b l := ⟨_, _, _, eq_ix3 j⟩
    obtain rfl := Subsingleton.elim b 0
    exact h a l
  unfold out0_4
  have hc : ∀ v : FVec Ideal S1024x1024 .f32, View.canon ([⟨r0_0, v⟩] : List (View.Piece (Elt Ideal) S1024x1024 .f32)) (ix2 p q) = v (ix2 p q) := by
    intro v
    have h := View.canon_cons_emb (Val := Elt Ideal) (e := .f32) r0_0 v [] (ix2 p q)
    have he : (r0_0).emb (ix2 p q) = ix2 p q := by
      refine funext fun a => Fin.ext ?_
      fin_cases a <;> exact (Nat.zero_add _).trans (Nat.one_mul _)
    rw [he] at h
    exact h
  refine (hc _).trans ?_
  rw [hx, hg, hw,
    hT 0 (View.ld (Val := Elt Ideal) (e' := .f32) y r0_2) (fun p l => congrArg y (funext fun a => Fin.ext (by fin_cases a <;> first | rfl | exact (Nat.zero_add _).trans (Nat.one_mul _)))),
    hT 1 (View.ld (Val := Elt Ideal) (e' := .f32) y r0_3) (fun p l => congrArg y (funext fun a => Fin.ext (by fin_cases a <;> first | rfl | exact (Nat.zero_add _).trans (Nat.one_mul _)))),
    hT 2 (View.ld (Val := Elt Ideal) (e' := .f32) y r0_4) (fun p l => congrArg y (funext fun a => Fin.ext (by fin_cases a <;> first | rfl | exact (Nat.zero_add _).trans (Nat.one_mul _)))),
    hT 3 (View.ld (Val := Elt Ideal) (e' := .f32) y r0_5) (fun p l => congrArg y (funext fun a => Fin.ext (by fin_cases a <;> first | rfl | exact (Nat.zero_add _).trans (Nat.one_mul _)))),
    hT 4 (View.ld (Val := Elt Ideal) (e' := .f32) y r0_6) (fun p l => congrArg y (funext fun a => Fin.ext (by fin_cases a <;> first | rfl | exact (Nat.zero_add _).trans (Nat.one_mul _)))),
    hT 5 (View.ld (Val := Elt Ideal) (e' := .f32) y r0_7) (fun p l => congrArg y (funext fun a => Fin.ext (by fin_cases a <;> first | rfl | exact (Nat.zero_add _).trans (Nat.one_mul _)))),
    hT 6 (View.ld (Val := Elt Ideal) (e' := .f32) y r0_8) (fun p l => congrArg y (funext fun a => Fin.ext (by fin_cases a <;> first | rfl | exact (Nat.zero_add _).trans (Nat.one_mul _)))),
    hT 7 (View.ld (Val := Elt Ideal) (e' := .f32) y r0_9) (fun p l => congrArg y (funext fun a => Fin.ext (by fin_cases a <;> first | rfl | exact (Nat.zero_add _).trans (Nat.one_mul _))))]
  have hm : ∀ k, k0_pay2 (F := Ideal) x g (T 0) (T 1) (T 2) (T 3) (T 4) (T 5) (T 6) (T 7) (ix2 p k)
      = x (ix2 p k) + g (ix3 0 0 k) * y (ix3 p (tile k) (lane k)) := fun k => mixed_apply x g T p k
  refine (scaled_apply _ _ _ p q).trans ?_
  unfold rms k0_pay4
  dsimp only
  rw [squares_apply, weight_apply]
  simp only [hm]

variable (m : (ℓ : Loc nD τ sig) → Buf (Elt Ideal) ℓ)

/-- The blocks a point works on: rows `1024 t` onwards, and the prompt's gate. -/
theorem idx : ∀ t : Fin cfg0.N, win0_0.index t = ![t.val, 0] ∧ win0_1.index t = ![t.val, 0, 0] ∧ win0_2.index t = ![0, 0, 0]
    ∧ win0_3.index t = ![0, 0] ∧ win0_4.index t = ![t.val, 0] :=
  (by decide +kernel : ∀ t : Fin grid0.N, _)

/-- Where row `r` of the result lies among the rows of the activations. -/
def source (r : Fin 4096) : Fin 20480 := ⟨r.val, by omega⟩

/-- The modulation of row `r` of the result. -/
def gateOf (_r : Fin 4096) : Fin 8 := 0

/-- Row `p` of a point's block of the result. -/
def row (t : Fin cfg0.N) (p : Fin 1024) : Fin 4096 := ⟨1024 * t.val + p.val, by have h : t.val < 4 := lt_of_lt_of_eq t.isLt N_0; omega⟩

/-- A point's rows. -/
theorem read_rows (c : Dev nD) (t : Fin cfg0.N) (p k : Fin 1024) :
    (iblk m c 0 t : FVec Ideal S1024x1024 .f32) (ix2 p k)
      = (m ((c : Thread nD τ).loc main_arg0) : FVec Ideal S20480x1024 .f32) (ix2 (source (row t p)) k) := by
  unfold source row
  blk_point [iblk, V, idx t]

/-- A point's tiles. -/
theorem read_tiles (c : Dev nD) (t : Fin cfg0.N) (p : Fin 1024) (n : Fin 8) (l : Fin 128) :
    (iblk m c 1 t : FVec Ideal S1024x8x128 .f32) (ix3 p n l)
      = (m ((c : Thread nD τ).loc main_arg1) : FVec Ideal S20480x8x128 .f32) (ix3 (source (row t p)) n l) := by
  unfold source row
  blk_point [iblk, V, idx t]

/-- A point's gate. -/
theorem read_gate (c : Dev nD) (t : Fin cfg0.N) (p k : Fin 1024) :
    (iblk m c 2 t : FVec Ideal S1x1x1024 .f32) (ix3 0 0 k)
      = (m ((c : Thread nD τ).loc main_arg2) : FVec Ideal S8x1x1024 .f32) (ix3 (gateOf (row t p)) 0 k) := by
  unfold gateOf
  blk_point [iblk, V, idx t]

/-- The weights of the normalisation. -/
theorem read_weight (c : Dev nD) (t : Fin cfg0.N) (k : Fin 1024) :
    (iblk m c 3 t : FVec Ideal S1x1024 .f32) (ix2 0 k) = (m ((c : Thread nD τ).loc main_arg3) : FVec Ideal S1024 .f32) (ix1 k) := by
  blk_point [iblk, V, idx t]

/-- The normalisation of the rows with the gated tiles added. -/
def result (x : FVec Ideal S20480x1024 .f32) (y : FVec Ideal S20480x8x128 .f32) (g : FVec Ideal S8x1x1024 .f32) (w : FVec Ideal S1024 .f32) :
    FVec Ideal S4096x1024 .f32 := fun i =>
  rms (fun k => x (ix2 (source (i 0)) k) + g (ix3 (gateOf (i 0)) 0 k) * y (ix3 (source (i 0)) (tile k) (lane k))) (fun k => w (ix1 k)) (i 1)

/-- A point's block of the result. -/
theorem block_eq (x : FVec Ideal S20480x1024 .f32) (y : FVec Ideal S20480x8x128 .f32) (g : FVec Ideal S8x1x1024 .f32) (w : FVec Ideal S1024 .f32)
    (c : Dev nD) (t : Fin cfg0.N) (hx : m ((c : Thread nD τ).loc main_arg0) = x) (hy : m ((c : Thread nD τ).loc main_arg1) = y)
    (hg : m ((c : Thread nD τ).loc main_arg2) = g) (hw : m ((c : Thread nD τ).loc main_arg3) = w) (i : S1024x1024.Idx) :
    out0_4 (F := Ideal) (iblk m c 0 t) (iblk m c 1 t) (iblk m c 2 t) (iblk m c 3 t) i = result x y g w (ix2 (row t (i 0)) (i 1)) := by
  subst hx hy hg hw
  refine (congrArg _ (eq_ix2 i)).trans ((out_apply _ _ _ _ (i 0) (i 1)).trans ?_)
  unfold result
  refine congrArg₂ (fun f w => rms f w (i 1)) (funext fun k => ?_) (funext fun k => read_weight m c t k)
  refine congrArg₂ (fun a b : EReal => a + b) (read_rows m c t (i 0) k) ?_
  exact congrArg₂ (fun a b : EReal => a * b) (read_gate m c t (i 0) k) (read_tiles m c t (i 0) (tile k) (lane k))

/-- The kernel's result. -/
theorem final (c : Dev nD) : (dats m 0 c).arrAt 4 (cfgs 0).N
    = result (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  rw [after0_4]
  refine (block_eq m _ _ _ _ c t rfl rfl rfl rfl y).trans ?_
  unfold row
  blk_ext [idx t]

/-- The reference's rows with the gated tiles added. -/
theorem reference_mixed (x : FVec Ideal S20480x1024 .f32) (y : FVec Ideal S20480x8x128 .f32) (g : FVec Ideal S8x1x1024 .f32) (p : Fin 4096) (k : Fin 1024) :
    Cert.Reference5Ideal.Read.val_main_v7 (F := Ideal) x y g (ix2 p k)
      = x (ix2 (source p) k) + g (ix3 (gateOf p) 0 k) * y (ix3 (source p) (tile k) (lane k)) := by
  rw [Cert.Reference5Ideal.Read.val_main_v7_apply, Cert.Reference5Ideal.Read.val_main_v0_apply, Cert.Reference5Ideal.Read.val_main_v6_apply,
    Cert.Reference5Ideal.Read.val_main_v5_apply, Cert.Reference5Ideal.Read.val_main_v2_apply, Cert.Reference5Ideal.Read.val_main_v1_apply,
    Cert.Reference5Ideal.Read.val_main_v4_apply, Cert.Reference5Ideal.Read.val_main_v3_apply]
  have hp := p.isLt
  have hk := k.isLt
  refine congrArg₂ (fun a b : EReal => a + b) (congrArg x (funext fun a => Fin.ext ?_)) (congrArg₂ (fun a b : EReal => a * b)
    (congrArg g (funext fun a => Fin.ext ?_)) (congrArg y (funext fun a => Fin.ext ?_)))
  · fin_cases a <;> rfl
  · fin_cases a
    · rfl
    · rfl
    · show (0 * 1024 + k.val) % 1024 = k.val; omega
  · fin_cases a
    · show (p.val * 1024 + k.val) / 1024 = p.val; omega
    · show (p.val * 1024 + k.val) / 128 % 8 = k.val / 128; omega
    · show (p.val * 1024 + k.val) % 128 = k.val % 128; omega

/-- The reference's result. -/
theorem reference_eq (x : FVec Ideal S20480x1024 .f32) (y : FVec Ideal S20480x8x128 .f32) (g : FVec Ideal S8x1x1024 .f32) (w : FVec Ideal S1024 .f32) :
    Cert.Reference5Ideal.Read.val_main_v20 (F := Ideal) x y g w = result x y g w := by
  funext i
  obtain ⟨p, q, rfl⟩ : ∃ p q, i = ix2 p q := ⟨_, _, eq_ix2 i⟩
  rw [Cert.Reference5Ideal.Read.val_main_v20_apply, Cert.Reference5Ideal.Read.val_main_v17_apply, Cert.Reference5Ideal.Read.val_main_v16_apply,
    Cert.Reference5Ideal.Read.val_main_v15_apply, Cert.Reference5Ideal.Read.val_main_v14_apply, Cert.Reference5Ideal.Read.val_main_v12_apply,
    Cert.Reference5Ideal.Read.val_main_v10_apply, Cert.Reference5Ideal.Read.val_main_v9_apply, Cert.Reference5Ideal.Read.val_main_v11_apply,
    Cert.Reference5Ideal.Read.val_main_v13_apply, Cert.Reference5Ideal.Read.val_main_v19_apply, Cert.Reference5Ideal.Read.val_main_v18_apply,
    reference_mixed]
  have hs : ∑ k : Fin 1024, Cert.Reference5Ideal.Read.val_main_v8 (F := Ideal) x y g (ix2 p k)
      = ∑ k : Fin 1024, (x (ix2 (source p) k) + g (ix3 (gateOf p) 0 k) * y (ix3 (source p) (tile k) (lane k)))
        * (x (ix2 (source p) k) + g (ix3 (gateOf p) 0 k) * y (ix3 (source p) (tile k) (lane k))) := by
    refine Finset.sum_congr rfl fun k _ => ?_
    rw [Cert.Reference5Ideal.Read.val_main_v8_apply, reference_mixed]
    rfl
  have hz : (Cert.Reference5Ideal.Read.val_main_cst (F := Ideal)) (Shape.Idx.first Cert.Reference5Ideal.Gen.h_S_) = (0 : EReal) := by
    show Ideal.ofBits .f32 0x00000000#32 = 0
    simp [Ideal.ofBits, Ideal.ieee]
  have ha : ∀ k : Fin 1024, Cert.Reference5Ideal.Read.idx_main_v9 (Cert.Reference5Ideal.Read.idx_main_v10 (Cert.Reference5Ideal.Read.idx_main_v16 (ix2 p q))) k = ix2 p k := by
    intro k
    refine funext fun a => Fin.ext ?_
    fin_cases a <;> rfl
  have hb : Cert.Reference5Ideal.Read.idx_main_v18 (Cert.Reference5Ideal.Read.idx_main_v19 (ix2 p q)) = ix1 q := by
    refine funext fun a => Fin.ext ?_
    fin_cases a; rfl
  simp only [ha]
  rw [hs, hz, hb, zero_add]
  rfl

/-- The frame of the kernel. -/
theorem frameBits : Cert.quiescent_Kernel5 := fun m g _ => Cert.Kernel5.Gen.frame m g

/-- The frame of its ideal reading. -/
theorem frameIdeal : Cert.quiescent_Kernel5Ideal := fun m g _ => Cert.Kernel5Ideal.Gen.frame m g

/-- The frame of the reference. -/
theorem frameReference : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- Over the extended reals the kernel and its reference end with equal results. -/
theorem algebraic : Cert.algebraic_Kernel5Ideal_Reference5Ideal := by
  intro m g m' g' _ hagree
  refine ⟨fun c => result (m ((c.tc : Thread _ _).loc Cert.Kernel5Ideal.main_arg0)) (m ((c.tc : Thread _ _).loc Cert.Kernel5Ideal.main_arg1))
    (m ((c.tc : Thread _ _).loc Cert.Kernel5Ideal.main_arg2)) (m ((c.tc : Thread _ _).loc Cert.Kernel5Ideal.main_arg3)), ?_, ?_⟩
  · refine (θ_run _ _ _).mono (fun r h c => ?_) (Cert.Kernel5Ideal.Value.run_blocks m g)
    exact ⟨(h c).1.trans (final m c), (h c).2⟩
  · refine (θ_run _ _ _).mono (fun r h c => ?_) (Cert.Reference5Ideal.Value.run m' g')
    obtain ⟨h0, h1, h2, h3⟩ := hagree c
    refine ⟨(h c).1.trans ?_, (h c).2⟩
    refine (Cert.Reference5Ideal.Read.val_main_v20_eq _ _ _ _).trans ((reference_eq _ _ _ _).trans ?_)
    dsimp only
    rw [h0, h1, h2, h3]

end Cert.Norm.Prompt

end
-- ==== Proof.Norm.Samples.lean ====
module

public import proofs.«01_k».proof.Defs
public import proofs.«01_k».proof.Proof.Norm.Prompt
public import Idealize.ShloMosaic.Lib.StableHlo.RunRead
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read

/-!
# The final normalisation of the samples
-/

@[expose] public section

set_option maxRecDepth 16384

noncomputable section

namespace Cert.Norm.Samples

open Cert.Kernel6Ideal Cert.Kernel6Ideal.Gen Idealize.ShloMosaic Idealize.ShloMosaic.TcCoe Idealize.SL.Sem Idealize.ShloMosaic.StableHlo

open Cert.Norm.Prompt (tile lane rms)

/-- A block of the result, from the blocks of a point: the body is the prompt's. -/
theorem out_apply (x : FVec Ideal S1024x1024 .f32) (y : FVec Ideal S1024x8x128 .f32) (g : FVec Ideal S1x1x1024 .f32) (w : FVec Ideal S1x1024 .f32)
    (p q : Fin 1024) : out0_4 (F := Ideal) x y g w (ix2 p q)
      = rms (fun k => x (ix2 p k) + g (ix3 0 0 k) * y (ix3 p (tile k) (lane k))) (fun k => w (ix2 0 k)) q :=
  Cert.Norm.Prompt.out_apply x y g w p q

variable (m : (ℓ : Loc nD τ sig) → Buf (Elt Ideal) ℓ)

/-- The blocks a point works on: rows `4096 + 1024 t` onwards, and the gate of their sample. -/
theorem idx : ∀ t : Fin cfg0.N, win0_0.index t = ![4 + t.val, 0] ∧ win0_1.index t = ![4 + t.val, 0, 0] ∧ win0_2.index t = ![(4 + t.val) / 4, 0, 0]
    ∧ win0_3.index t = ![0, 0] ∧ win0_4.index t = ![t.val, 0] :=
  (by decide +kernel : ∀ t : Fin grid0.N, _)

/-- Where row `r` of the result lies among the rows of the activations. -/
def source (r : Fin 16384) : Fin 20480 := ⟨4096 + r.val, by omega⟩

/-- The modulation of row `r` of the result. -/
def gateOf (r : Fin 16384) : Fin 8 := ⟨1 + r.val / 4096, by omega⟩

/-- Row `p` of a point's block of the result. -/
def row (t : Fin cfg0.N) (p : Fin 1024) : Fin 16384 := ⟨1024 * t.val + p.val, by have h : t.val < 16 := lt_of_lt_of_eq t.isLt N_0; omega⟩

/-- A point's rows. -/
theorem read_rows (c : Dev nD) (t : Fin cfg0.N) (p k : Fin 1024) :
    (iblk m c 0 t : FVec Ideal S1024x1024 .f32) (ix2 p k)
      = (m ((c : Thread nD τ).loc main_arg0) : FVec Ideal S20480x1024 .f32) (ix2 (source (row t p)) k) := by
  unfold source row
  blk_point [iblk, V, idx t]

/-- A point's tiles. -/
theorem read_tiles (c : Dev nD) (t : Fin cfg0.N) (p : Fin 1024) (n : Fin 8) (l : Fin 128) :
    (iblk m c 1 t : FVec Ideal S1024x8x128 .f32) (ix3 p n l)
      = (m ((c : Thread nD τ).loc main_arg1) : FVec Ideal S20480x8x128 .f32) (ix3 (source (row t p)) n l) := by
  unfold source row
  blk_point [iblk, V, idx t]

/-- A point's gate. -/
theorem read_gate (c : Dev nD) (t : Fin cfg0.N) (p k : Fin 1024) :
    (iblk m c 2 t : FVec Ideal S1x1x1024 .f32) (ix3 0 0 k)
      = (m ((c : Thread nD τ).loc main_arg2) : FVec Ideal S8x1x1024 .f32) (ix3 (gateOf (row t p)) 0 k) := by
  unfold gateOf row
  blk_point [iblk, V, idx t]

/-- The weights of the normalisation. -/
theorem read_weight (c : Dev nD) (t : Fin cfg0.N) (k : Fin 1024) :
    (iblk m c 3 t : FVec Ideal S1x1024 .f32) (ix2 0 k) = (m ((c : Thread nD τ).loc main_arg3) : FVec Ideal S1024 .f32) (ix1 k) := by
  blk_point [iblk, V, idx t]

/-- The normalisation of the rows with the gated tiles added. -/
def result (x : FVec Ideal S20480x1024 .f32) (y : FVec Ideal S20480x8x128 .f32) (g : FVec Ideal S8x1x1024 .f32) (w : FVec Ideal S1024 .f32) :
    FVec Ideal S16384x1024 .f32 := fun i =>
  rms (fun k => x (ix2 (source (i 0)) k) + g (ix3 (gateOf (i 0)) 0 k) * y (ix3 (source (i 0)) (tile k) (lane k))) (fun k => w (ix1 k)) (i 1)

/-- A point's block of the result. -/
theorem block_eq (x : FVec Ideal S20480x1024 .f32) (y : FVec Ideal S20480x8x128 .f32) (g : FVec Ideal S8x1x1024 .f32) (w : FVec Ideal S1024 .f32)
    (c : Dev nD) (t : Fin cfg0.N) (hx : m ((c : Thread nD τ).loc main_arg0) = x) (hy : m ((c : Thread nD τ).loc main_arg1) = y)
    (hg : m ((c : Thread nD τ).loc main_arg2) = g) (hw : m ((c : Thread nD τ).loc main_arg3) = w) (i : S1024x1024.Idx) :
    out0_4 (F := Ideal) (iblk m c 0 t) (iblk m c 1 t) (iblk m c 2 t) (iblk m c 3 t) i = result x y g w (ix2 (row t (i 0)) (i 1)) := by
  subst hx hy hg hw
  refine (congrArg _ (eq_ix2 i)).trans ((out_apply _ _ _ _ (i 0) (i 1)).trans ?_)
  unfold result
  refine congrArg₂ (fun f w => rms f w (i 1)) (funext fun k => ?_) (funext fun k => read_weight m c t k)
  refine congrArg₂ (fun a b : EReal => a + b) (read_rows m c t (i 0) k) ?_
  exact congrArg₂ (fun a b : EReal => a * b) (read_gate m c t (i 0) k) (read_tiles m c t (i 0) (tile k) (lane k))

/-- The kernel's result. -/
theorem final (c : Dev nD) : (dats m 0 c).arrAt 4 (cfgs 0).N
    = result (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  rw [after0_4]
  refine (block_eq m _ _ _ _ c t rfl rfl rfl rfl y).trans ?_
  unfold row
  blk_ext [idx t]

/-- Row `p` of sample `a`, among the rows of the result. -/
def flat (a : Fin 4) (p : Fin 4096) : Fin 16384 := ⟨a.val * 4096 + p.val, by omega⟩

/-- The reference's rows with the gated tiles added. -/
theorem reference_mixed (x : FVec Ideal S20480x1024 .f32) (y : FVec Ideal S20480x8x128 .f32) (g : FVec Ideal S8x1x1024 .f32) (a : Fin 4) (p : Fin 4096)
    (k : Fin 1024) : Cert.Reference6Ideal.Read.val_main_v7 (F := Ideal) x y g (ix3 a p k)
      = x (ix2 (source (flat a p)) k) + g (ix3 (gateOf (flat a p)) 0 k) * y (ix3 (source (flat a p)) (tile k) (lane k)) := by
  rw [Cert.Reference6Ideal.Read.val_main_v7_apply, Cert.Reference6Ideal.Read.val_main_v1_apply, Cert.Reference6Ideal.Read.val_main_v0_apply,
    Cert.Reference6Ideal.Read.val_main_v6_apply, Cert.Reference6Ideal.Read.val_main_v5_apply, Cert.Reference6Ideal.Read.val_main_v2_apply,
    Cert.Reference6Ideal.Read.val_main_v4_apply, Cert.Reference6Ideal.Read.val_main_v3_apply]
  have ha := a.isLt
  have hp := p.isLt
  have hk := k.isLt
  refine congrArg₂ (fun a b : EReal => a + b) (congrArg x (funext fun b => Fin.ext ?_)) (congrArg₂ (fun a b : EReal => a * b)
    (congrArg g (funext fun b => Fin.ext ?_)) (congrArg y (funext fun b => Fin.ext ?_)))
  · fin_cases b
    · show 4096 + ((a.val * 4096 + p.val) * 1024 + k.val) / 1024 = 4096 + (a.val * 4096 + p.val); omega
    · show ((a.val * 4096 + p.val) * 1024 + k.val) % 1024 = k.val; omega
  · fin_cases b
    · show 1 + a.val = 1 + (a.val * 4096 + p.val) / 4096; omega
    · rfl
    · rfl
  · fin_cases b
    · show 4096 + ((a.val * 4096 + p.val) * 1024 + k.val) / 1024 = 4096 + (a.val * 4096 + p.val); omega
    · show ((a.val * 4096 + p.val) * 1024 + k.val) / 128 % 8 = k.val / 128; omega
    · show ((a.val * 4096 + p.val) * 1024 + k.val) % 128 = k.val % 128; omega

/-- The reference's rows, normalised. -/
theorem reference_rows (x : FVec Ideal S20480x1024 .f32) (y : FVec Ideal S20480x8x128 .f32) (g : FVec Ideal S8x1x1024 .f32) (w : FVec Ideal S1024 .f32)
    (a : Fin 4) (p : Fin 4096) (q : Fin 1024) :
    Cert.Reference6Ideal.Read.val_main_v20 (F := Ideal) x y g w (ix3 a p q) = result x y g w (ix2 (flat a p) q) := by
  rw [Cert.Reference6Ideal.Read.val_main_v20_apply, Cert.Reference6Ideal.Read.val_main_v17_apply, Cert.Reference6Ideal.Read.val_main_v16_apply,
    Cert.Reference6Ideal.Read.val_main_v15_apply, Cert.Reference6Ideal.Read.val_main_v14_apply, Cert.Reference6Ideal.Read.val_main_v12_apply,
    Cert.Reference6Ideal.Read.val_main_v10_apply, Cert.Reference6Ideal.Read.val_main_v9_apply, Cert.Reference6Ideal.Read.val_main_v11_apply,
    Cert.Reference6Ideal.Read.val_main_v13_apply, Cert.Reference6Ideal.Read.val_main_v19_apply, Cert.Reference6Ideal.Read.val_main_v18_apply,
    reference_mixed]
  have hs : ∑ k : Fin 1024, Cert.Reference6Ideal.Read.val_main_v8 (F := Ideal) x y g (ix3 a p k)
      = ∑ k : Fin 1024, (x (ix2 (source (flat a p)) k) + g (ix3 (gateOf (flat a p)) 0 k) * y (ix3 (source (flat a p)) (tile k) (lane k)))
        * (x (ix2 (source (flat a p)) k) + g (ix3 (gateOf (flat a p)) 0 k) * y (ix3 (source (flat a p)) (tile k) (lane k))) := by
    refine Finset.sum_congr rfl fun k _ => ?_
    rw [Cert.Reference6Ideal.Read.val_main_v8_apply, reference_mixed]
    rfl
  have hz : (Cert.Reference6Ideal.Read.val_main_cst (F := Ideal)) (Shape.Idx.first Cert.Reference6Ideal.Gen.h_S_) = (0 : EReal) := by
    show Ideal.ofBits .f32 0x00000000#32 = 0
    simp [Ideal.ofBits, Ideal.ieee]
  have ha : ∀ k : Fin 1024, Cert.Reference6Ideal.Read.idx_main_v9 (Cert.Reference6Ideal.Read.idx_main_v10 (Cert.Reference6Ideal.Read.idx_main_v16 (ix3 a p q))) k
      = ix3 a p k := by
    intro k
    refine funext fun b => Fin.ext ?_
    fin_cases b <;> rfl
  have hb : Cert.Reference6Ideal.Read.idx_main_v18 (Cert.Reference6Ideal.Read.idx_main_v19 (ix3 a p q)) = ix1 q := by
    refine funext fun b => Fin.ext ?_
    fin_cases b; rfl
  simp only [ha]
  rw [hs, hz, hb, zero_add]
  rfl

/-- The reference's result. -/
theorem reference_eq (x : FVec Ideal S20480x1024 .f32) (y : FVec Ideal S20480x8x128 .f32) (g : FVec Ideal S8x1x1024 .f32) (w : FVec Ideal S1024 .f32) :
    Cert.Reference6Ideal.Read.val_main_v21 (F := Ideal) x y g w = result x y g w := by
  funext i
  obtain ⟨r, q, rfl⟩ : ∃ r q, i = ix2 r q := ⟨_, _, eq_ix2 i⟩
  obtain ⟨a, p, rfl⟩ : ∃ a p, r = flat a p :=
    ⟨⟨r.val / 4096, by omega⟩, ⟨r.val % 4096, by omega⟩, Fin.ext (by show r.val = r.val / 4096 * 4096 + r.val % 4096; omega)⟩
  rw [Cert.Reference6Ideal.Read.val_main_v21_apply]
  refine Eq.trans (congrArg _ (funext fun b => Fin.ext ?_)) (reference_rows x y g w a p q)
  have ha := a.isLt
  have hp := p.isLt
  have hq := q.isLt
  fin_cases b
  · show ((a.val * 4096 + p.val) * 1024 + q.val) / 4194304 = a.val; omega
  · show ((a.val * 4096 + p.val) * 1024 + q.val) / 1024 % 4096 = p.val; omega
  · show ((a.val * 4096 + p.val) * 1024 + q.val) % 1024 = q.val; omega

/-- The frame of the kernel. -/
theorem frameBits : Cert.quiescent_Kernel6 := fun m g _ => Cert.Kernel6.Gen.frame m g

/-- The frame of its ideal reading. -/
theorem frameIdeal : Cert.quiescent_Kernel6Ideal := fun m g _ => Cert.Kernel6Ideal.Gen.frame m g

/-- The frame of the reference. -/
theorem frameReference : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- Over the extended reals the kernel and its reference end with equal results. -/
theorem algebraic : Cert.algebraic_Kernel6Ideal_Reference6Ideal := by
  intro m g m' g' _ hagree
  refine ⟨fun c => result (m ((c.tc : Thread _ _).loc Cert.Kernel6Ideal.main_arg0)) (m ((c.tc : Thread _ _).loc Cert.Kernel6Ideal.main_arg1))
    (m ((c.tc : Thread _ _).loc Cert.Kernel6Ideal.main_arg2)) (m ((c.tc : Thread _ _).loc Cert.Kernel6Ideal.main_arg3)), ?_, ?_⟩
  · refine (θ_run _ _ _).mono (fun r h c => ?_) (Cert.Kernel6Ideal.Value.run_blocks m g)
    exact ⟨(h c).1.trans (final m c), (h c).2⟩
  · refine (θ_run _ _ _).mono (fun r h c => ?_) (Cert.Reference6Ideal.Value.run m' g')
    obtain ⟨h0, h1, h2, h3⟩ := hagree c
    refine ⟨(h c).1.trans ?_, (h c).2⟩
    refine (Cert.Reference6Ideal.Read.val_main_v21_eq _ _ _ _).trans ((reference_eq _ _ _ _).trans ?_)
    dsimp only
    rw [h0, h1, h2, h3]

end Cert.Norm.Samples

end
-- ==== Proof.Proj.Packed.lean ====
module

public import proofs.«01_k».proof.Defs
public import proofs.«01_k».proof.Proof.Proj.Keys
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read

/-!
# The packed projection of the samples' queries, keys and values
-/

@[expose] public section

set_option maxRecDepth 16384

noncomputable section

namespace Cert.Proj.Packed

open Cert.Kernel7Ideal Cert.Kernel7Ideal.Gen Idealize.ShloMosaic Idealize.ShloMosaic.TcCoe Idealize.SL.Sem

open Cert.Proj.Keys (whole_emb canon_whole read_whole read_weights)

/-- The weights kept in the scratch buffer: those of the block. -/
theorem kept_apply (w : FVec Ideal S1x1024x1024 .f32) (e q : Fin 1024) : k0_pay1 (F := Ideal) w (ix2 e q) = w (ix3 0 e q) := by
  pointwise [k0_pay1]

/-- The product of a block of rows with the kept weights. -/
theorem product_apply (x w : FVec Ideal S1024x1024 .bf16) (p q : Fin 1024) :
    k0_pay2 (F := Ideal) x w (ix2 p q) = ∑ e : Fin 1024, x (ix2 p e) * w (ix2 e q) := by
  pointwise [k0_pay2]

section Body

variable (c : Dev nD) (i : grid0.Coords) (arg2 : Memref sig .tc .vmem S1024x1024 .bf16) (harg2 : arg2.IsWhole)
  (arg3 : Memref sig .tc .vmem S1x1024x1024 .f32) (harg3 : arg3.IsWhole) (arg4 : Memref sig .tc .vmem S1024x1024 .bf16) (harg4 : arg4.IsWhole)
  (arg5 : Memref sig .tc .vmem S1024x1024 .bf16) (harg5 : arg5.IsWhole)
  (x0 : FVec Ideal S1024x1024 .bf16) (x1 : FVec Ideal S1x1024x1024 .f32) (xs0 : FVec Ideal S1024x1024 .bf16)

/-- The first point keeps the weights of its block. -/
theorem scratch_first (hc0 : cond0_0 i) (y : S1024x1024.Idx) :
    sout0_A_0 (F := Ideal) c i arg2 harg2 arg3 harg3 arg4 harg4 arg5 harg5 hc0 x0 x1 y = x1 (ix3 0 (y 0) (y 1)) := by
  unfold sout0_A_0
  rw [View.read_writes_junk_eq_canon]
  refine (canon_whole (e := .bf16) (k0_pay1 (F := Ideal) (View.readAt (Elt Ideal) arg3.view
      (Rect.unit (s := S1x1024x1024) ![0, 0, 0] S1x1024x1024.size inb_S1x1024x1024_S1x1024x1024_0_0_0).toLoadRect (harg3.unread x1))) y).trans ?_
  rw [read_weights]
  exact (congrArg _ (eq_ix2 y)).trans (kept_apply x1 (y 0) (y 1))

/-- The first point's block: its rows times the weights it has just kept. -/
theorem out_first (hc0 : cond0_0 i) (y : S1024x1024.Idx) :
    out0_A_2 (F := Ideal) c i arg2 harg2 arg3 harg3 arg4 harg4 arg5 harg5 hc0 x0 x1 y = ∑ e : Fin 1024, x0 (ix2 (y 0) e) * x1 (ix3 0 e (y 1)) := by
  unfold out0_A_2
  rw [View.read_writes_junk_eq_canon]
  refine (canon_whole (e := .bf16) _ y).trans ?_
  unfold kernelRun0_A.sl.v4
  rw [read_whole]
  refine (congrArg _ (eq_ix2 y)).trans ((product_apply _ _ (y 0) (y 1)).trans (Finset.sum_congr rfl fun e _ => ?_))
  refine congrArg₂ (fun a b : EReal => a * b) rfl ?_
  rw [View.readCov_eq_canon']
  refine Eq.trans ?_ (kept_apply x1 e (y 1))
  refine Eq.trans (congrArg (View.canon _) (whole_emb (ix2 e (y 1)))) ?_
  refine Eq.trans (canon_whole (e := .bf16) _ _) ?_
  exact congrArg (fun w => k0_pay1 (F := Ideal) w (ix2 e (y 1))) (read_weights harg3 x1)

/-- A later point's block: its rows times the weights kept before. -/
theorem out_later (hc0 : ¬cond0_0 i) (y : S1024x1024.Idx) :
    out0_B_2 (F := Ideal) c i arg2 harg2 arg3 harg3 arg4 harg4 arg5 harg5 hc0 x0 x1 xs0 y = ∑ e : Fin 1024, x0 (ix2 (y 0) e) * xs0 (ix2 e (y 1)) := by
  unfold out0_B_2
  rw [View.read_writes_junk_eq_canon]
  refine (canon_whole (e := .bf16) (k0_pay2 (F := Ideal) (View.readAt (Elt Ideal) arg2.view
      (Rect.unit (s := S1024x1024) ![0, 0] S1024x1024.size inb_S1024x1024_S1024x1024_0_0).toLoadRect (harg2.unread x0))
    (View.readAt (Elt Ideal) arg5.view
      (Rect.unit (s := S1024x1024) ![0, 0] S1024x1024.size inb_S1024x1024_S1024x1024_0_0).toLoadRect (harg5.unread xs0))) y).trans ?_
  rw [read_whole, read_whole]
  exact (congrArg _ (eq_ix2 y)).trans (product_apply _ _ (y 0) (y 1))

end Body

variable (m : (ℓ : Loc nD τ sig) → Buf (Elt Ideal) ℓ)

/-- The blocks a point works on: a block of rows, and a block of columns which changes every 16 points. -/
theorem idx : ∀ t : Fin cfg0.N, win0_0.index t = ![4 + t.val % 16, 0] ∧ win0_1.index t = ![0, 0, t.val / 16]
    ∧ win0_2.index t = ![t.val % 16, t.val / 16] :=
  (by decide +kernel : ∀ t : Fin grid0.N, _)

/-- Row `p` of a point's block of the result. -/
def row (t : Fin cfg0.N) (p : Fin 1024) : Fin 16384 := ⟨1024 * (t.val % 16) + p.val, by omega⟩

/-- Row `r` of the result, among the rows of the activations. -/
def source (r : Fin 16384) : Fin 20480 := ⟨4096 + r.val, by omega⟩

/-- Column `q` of a point's block of the result. -/
def column (t : Fin cfg0.N) (q : Fin 1024) : Fin 3072 := ⟨1024 * (t.val / 16) + q.val, by have h : t.val < 48 := lt_of_lt_of_eq t.isLt N_0; omega⟩

/-- Column `q` of the result, among the columns of the weights. -/
def weight (q : Fin 3072) : Fin 3072 := ⟨q.val, by omega⟩

/-- The rows of a point. -/
theorem read_rows (c : Dev nD) (t : Fin cfg0.N) (p e : Fin 1024) :
    (iblk m c 0 t : FVec Ideal S1024x1024 .bf16) (ix2 p e)
      = (m ((c : Thread nD τ).loc main_arg0) : FVec Ideal S20480x1024 .bf16) (ix2 (source (row t p)) e) := by
  unfold source row
  blk_point [iblk, V, idx t]

/-- The weights of a point. -/
theorem read_columns (c : Dev nD) (t : Fin cfg0.N) (e q : Fin 1024) :
    (iblk m c 1 t : FVec Ideal S1x1024x1024 .f32) (ix3 0 e q)
      = (m ((c : Thread nD τ).loc main_arg1) : FVec Ideal S1x1024x3072 .f32) (ix3 0 e (weight (column t q))) := by
  unfold weight column
  blk_point [iblk, V, idx t]

/-- The result: the rows times the weights. -/
def proj (x : FVec Ideal S20480x1024 .bf16) (w : FVec Ideal S1x1024x3072 .f32) : FVec Ideal S16384x3072 .bf16 := fun y =>
  ∑ e : Fin 1024, x (ix2 (source (y 0)) e) * w (ix3 0 e (weight (y 1)))

/-- After every point the scratch buffer holds the weights of that point's columns. -/
theorem scratch_eq (c : Dev nD) : ∀ (n : ℕ) (hn : n < cfg0.N) (e q : Fin 1024), (outsAt0 m c n hn).2 (ix2 e q)
    = (m ((c : Thread nD τ).loc main_arg1) : FVec Ideal S1x1024x3072 .f32) (ix3 0 e (weight (column ⟨n, hn⟩ q))) := by
  intro n
  induction n with
  | zero =>
    intro hn e q
    rw [outsAt0_A m c ⟨0, hn⟩ rfl]
    dsimp only
    exact (scratch_first c (grid0.coords ⟨0, hn⟩) _ _ _ _ _ _ _ _ _ _ _ (ix2 e q)).trans (read_columns m c ⟨0, hn⟩ e q)
  | succ n ih =>
    intro hn e q
    by_cases h : (n + 1) % 16 = 0
    · rw [outsAt0_A m c ⟨n + 1, hn⟩ h]
      dsimp only
      exact (scratch_first c (grid0.coords ⟨n + 1, hn⟩) _ _ _ _ _ _ _ _ _ _ _ (ix2 e q)).trans (read_columns m c ⟨n + 1, hn⟩ e q)
    · refine (congrFun (congrArg Prod.snd (outsAt0_B m c ⟨n + 1, hn⟩ h)) (ix2 e q)).trans ?_
      dsimp only [sout0_B_0]
      refine (ih (Nat.lt_of_succ_lt hn) e q).trans ?_
      have hc : column ⟨n, Nat.lt_of_succ_lt hn⟩ q = column ⟨n + 1, hn⟩ q := Fin.ext (by
        show 1024 * (n / 16) + q.val = 1024 * ((n + 1) / 16) + q.val; omega)
      rw [hc]

/-- A later point's weights: those of the point before, whose columns are the same. -/
theorem kept_eq (c : Dev nD) (t : Fin cfg0.N) (h : ¬t.val % 16 = 0) (hn : t.val - 1 < cfg0.N) (e q : Fin 1024) :
    (outsAt0 m c (t.val - 1) hn).2 (ix2 e q)
      = (m ((c : Thread nD τ).loc main_arg1) : FVec Ideal S1x1024x3072 .f32) (ix3 0 e (weight (column t q))) := by
  refine (scratch_eq m c _ hn e q).trans ?_
  have hc : column ⟨t.val - 1, hn⟩ q = column t q := Fin.ext (by
    show 1024 * ((t.val - 1) / 16) + q.val = 1024 * (t.val / 16) + q.val; omega)
  rw [hc]

/-- A point's block of the result. -/
theorem block_eq (x : FVec Ideal S20480x1024 .bf16) (w : FVec Ideal S1x1024x3072 .f32) (c : Dev nD) (t : Fin cfg0.N) (hx : m ((c : Thread nD τ).loc main_arg0) = x)
    (hw : m ((c : Thread nD τ).loc main_arg1) = w) (y : S1024x1024.Idx) :
    (outsAt0 m c t.val t.isLt).1 y = proj x w (ix2 (row t (y 0)) (column t (y 1))) := by
  subst hx hw
  by_cases h : t.val % 16 = 0
  · rw [outsAt0_A m c t h]
    dsimp only
    refine (out_first c (grid0.coords t) _ _ _ _ _ _ _ _ _ _ _ y).trans (Finset.sum_congr rfl fun e _ => ?_)
    exact congrArg₂ (fun a b : EReal => a * b) (read_rows m c t (y 0) e) (read_columns m c t e (y 1))
  · rw [outsAt0_B m c t h]
    dsimp only
    refine (out_later c (grid0.coords t) _ _ _ _ _ _ _ _ _ _ _ _ y).trans (Finset.sum_congr rfl fun e _ => ?_)
    exact congrArg₂ (fun a b : EReal => a * b) (read_rows m c t (y 0) e) (kept_eq m c t h _ e (y 1))

/-- The kernel's result. -/
theorem final (c : Dev nD) : (dats m 0 c).arrAt 2 (cfgs 0).N
    = proj (m ((c : Thread nD τ).loc main_arg0)) (m ((c : Thread nD τ).loc main_arg1)) := by
  refine (dats m 0 c).arrAt_eq_of_covers 2 _ (by decide +kernel) fun t hf y => ?_
  blk_simp
  rw [after0_2]
  refine (block_eq m _ _ c t rfl rfl y).trans ?_
  unfold row column
  blk_ext [idx t]

/-- The reference's result. -/
theorem reference_eq (x : FVec Ideal S20480x1024 .bf16) (w : FVec Ideal S1x1024x3072 .f32) :
    Cert.Reference7Ideal.Read.val_main_v4 (F := Ideal) x w = proj x w := by
  funext y
  obtain ⟨p, q, rfl⟩ : ∃ p q, y = ix2 p q := ⟨_, _, eq_ix2 y⟩
  rw [Cert.Reference7Ideal.Read.val_main_v4_apply]
  refine (Cert.Reference7Ideal.Read.val_main_v3_apply x w (ix2 p q)).trans (Finset.sum_congr rfl fun e _ => ?_)
  rw [Cert.Reference7Ideal.Read.val_main_v1_apply, Cert.Reference7Ideal.Read.val_main_v0_apply, Cert.Reference7Ideal.Read.val_main_v2_apply]
  have he := e.isLt
  have hq := q.isLt
  refine congrArg₂ (fun a b : EReal => a * b) (congrArg x (funext fun a => Fin.ext ?_)) (congrArg w (funext fun a => Fin.ext ?_))
  · fin_cases a <;> rfl
  · fin_cases a
    · rfl
    · show (e.val * 3072 + q.val) / 3072 % 1024 = e.val; omega
    · show (e.val * 3072 + q.val) % 3072 = q.val; omega

/-- The frame of the kernel. -/
theorem frameBits : Cert.quiescent_Kernel7 := fun m g _ => Cert.Kernel7.Gen.frame m g

/-- The frame of its ideal reading. -/
theorem frameIdeal : Cert.quiescent_Kernel7Ideal := fun m g _ => Cert.Kernel7Ideal.Gen.frame m g

/-- The frame of the reference. -/
theorem frameReference : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-- Over the extended reals the kernel and its reference end with equal results. -/
theorem algebraic : Cert.algebraic_Kernel7Ideal_Reference7Ideal := by
  intro m g m' g' _ hagree
  refine ⟨fun c => proj (m ((c.tc : Thread _ _).loc Cert.Kernel7Ideal.main_arg0)) (m ((c.tc : Thread _ _).loc Cert.Kernel7Ideal.main_arg1)), ?_, ?_⟩
  · refine (θ_run _ _ _).mono (fun r h c => ?_) (Cert.Kernel7Ideal.Value.run_blocks m g)
    exact ⟨(h c).1.trans (final m c), (h c).2⟩
  · refine (θ_run _ _ _).mono (fun r h c => ?_) (Cert.Reference7Ideal.Value.run m' g')
    obtain ⟨h0, h1⟩ := hagree c
    refine ⟨(h c).1.trans ?_, (h c).2⟩
    refine (Cert.Reference7Ideal.Read.val_main_v4_eq _ _).trans ((reference_eq _ _).trans ?_)
    dsimp only
    rw [h0, h1]

end Cert.Proj.Packed

end
-- ==== Proof.Proj.Gate.lean ====
module

public import proofs.«01_k».proof.Defs
public import proofs.«01_k».proof.Proof.Proj.Keys
public import proofs.«01_k».proof.Proof.Moe.Reference
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read

/-!
# The activated gate of the scan's output
-/

@[expose] public section

set_option maxRecDepth 16384

noncomputable section

namespace Cert.Proj.Gate

open Cert.Kernel8Ideal Cert.Kernel8Ideal.Gen Idealize.ShloMosaic Idealize.ShloMosaic.TcCoe Idealize.SL.Sem

open Cert.Proj.Keys (whole_emb canon_whole read_whole read_weights)

/-- The weights kept in the scratch buffer: those of the block. -/
theorem kept_apply (w : FVec Ideal S1x1024x1024 .f32) (e q : Fin 1024) : k0_pay1 (F := Ideal) w (ix2 e q) = w (ix3 0 e q) := by
  pointwise [k0_pay1]

/-- The product of a block of rows with the kept weights, activated. -/
theorem product_apply (x w : FVec Ideal S1024x1024 .bf16) (p q : Fin 1024) :
    k0_pay2 (F := Ideal) x w (ix2 p q) = Cert.Moe.swish (∑ e : Fin 1024, x (ix2 p e) * w (ix2 e q)) := by
  unfold Cert.Moe.swish
  pointwise [k0_pay2]

section Body

variable (c : Dev nD) (i : grid0.Coords) (arg2 : Memref sig .tc .vmem S1024x1024 .bf16) (harg2 : arg2.IsWhole)
  (arg3 : Memref sig .tc .vmem S1x1024x1024 .f32) (harg3 : arg3.IsWhole) (arg4 : Memref sig .tc .vmem S1024x1024 .bf16) (harg4 : arg4.IsWhole)
  (arg5 : Memref sig .tc .vmem S1024x1024 .bf16) (harg5 : arg5.IsWhole)
  (x0 : FVec Ideal S1024x1024 .bf16) (x1 : FVec Ideal S1x1024x1024 .f32) (xs0 : FVec Ideal S1024x1024 .bf16)

/-- The first point keeps the weights of its block. -/
theorem scratch_first (hc0 : cond0_0 i) (y : S1024x1024.Idx) :
    sout0_A_0 (F := Ideal) c i arg2 harg2 arg3 harg3 arg4 harg4 arg5 harg5 hc0 x0 x1 y = x1 (ix3 0 (y 0) (y 1)) := by
  unfold sout0_A_0
  rw [View.read_writes_junk_eq_canon]
  refine (canon_whole (e := .bf16) (k0_pay1 (F := Ideal) (View.readAt (Elt Ideal) arg3.view
      (Rect.unit (s := S1x1024x1024) ![0, 0, 0] S1x1024x1024.size inb_S1x1024x1024_S1x1024x1024_0_0_0).toLoadRect (harg3.unread x1))) y).trans ?_
  rw [read_weights]
  exact (congrArg _ (eq_ix2 y)).trans (kept_apply x1 (y 0) (y 1))

/-- The first point's block: its rows times the weights it has just kept. -/
theorem out_first (hc0 : cond0_0 i) (y : S1024x1024.Idx) :
    out0_A_2 (F := Ideal) c i arg2 harg2 arg3 harg3 arg4 harg4 arg5 harg5 hc0 x0 x1 y = Cert.Moe.swish (∑ e : Fin 1024, x0 (ix2 (y 0) e) * x1 (ix3 0 e (y 1))) := by
  unfold out0_A_2
  rw [View.read_writes_junk_eq_canon]
  refine (canon_whole (e := .bf16) _ y).trans ?_
  unfold kernelRun0_A.sl.v4
  rw [read_whole]
  refine (congrArg _ (eq_ix2 y)).trans ((product_apply _ _ (y 0) (y 1)).trans (congrArg Cert.Moe.swish (Finset.sum_congr rfl fun e _ => ?_)))
  refine congrArg₂ (fun a b : EReal => a * b) rfl ?_
  rw [View.readCov_eq_canon']
  refine Eq.trans ?_ (kept_apply x1 e (y 1))
  refine Eq.trans (congrArg (View.canon _) (whole_emb (ix2 e (y 1)))) ?_
  refine Eq.trans (canon_whole (e := .bf16) _ _) ?_
  exact congrArg (fun w => k0_pay1 (F := Ideal) w (ix2 e (y 1))) (read_weights harg3 x1)

/-- A later point's block: its rows times the weights kept before. -/
theorem out_later (hc0 : ¬cond0_0 i) (y : S1024x1024.Idx) :
    out0_B_2 (F := Ideal) c i arg2 harg2 arg3 harg3 arg4 harg4 arg5 harg5 hc0 x0 x1 xs0 y = Cert.Moe.swish (∑ e : Fin 1024, x0 (ix2 (y 0) e) * xs0 (ix2 e (y 1))) := by
  unfold out0_B_2
  rw [View.read_writes_junk_eq_canon]
  refine (canon_whole (e := .bf16) (k0_pay2 (F := Ideal) (View.readAt (Elt Ideal) arg2.view
      (Rect.unit (s := S1024x1024) ![0, 0] S1024x1024.size inb_S1024x1024_S1024x1024_0_0).toLoadRect (harg2.unread x0))
    (View.readAt (Elt Ideal) arg5.view
      (Rect.unit (s := S1024x1024) ![0, 0] S1024x1024.size inb_S1024x1024_S1024x1024_0_0).toLoadRect (harg5.unread xs0))) y).trans ?_
  rw [read_whole, read_whole]
  exact (congrArg _ (eq_ix2 y)).trans (product_apply _ _ (y 0) (y 1))

end Body

variable (m : (ℓ : Loc nD τ sig) → Buf (Elt Ideal) ℓ)

/-- The blocks a point works on: a block of rows, and a block of columns which changes every 20 points. -/
theorem idx : ∀ t : Fin cfg0.N, win0_0.index t = ![t.val % 20, 0] ∧ win0_1.index t = ![0, 0, t.val / 20]
    ∧ win0_2.index t = ![t.val % 20, t.val / 20] :=
  (by decide +kernel : ∀ t : Fin grid0.N, _)

/-- Row `p` of a point's block of the result. -/
def row (t : Fin cfg0.N) (p : Fin 1024) : Fin 20480 := ⟨1024 * (t.val % 20) + p.val, by omega⟩

/-- Row `r` of the result, among the rows of the activations. -/
def source (r : Fin 20480) : Fin 20480 := ⟨r.val, by omega⟩

/-- Column `q` of a point's block of the result. -/
def column (t : Fin cfg0.N) (q : Fin 1024) : Fin 2048 := ⟨1024 * (t.val / 20) + q.val, by have h : t.val < 40 := lt_of_lt_of_eq t.isLt N_0; omega⟩

/-- Column `q` of the result, among the columns of the weights. -/
def weight (q : Fin 2048) : Fin 5184 := ⟨q.val, by omega⟩

/-- The rows of a point. -/
theorem read_rows (c : Dev nD) (t : Fin cfg0.N) (p e : Fin 1024) :
    (iblk m c 0 t : FVec Ideal S1024x1024 .bf16) (ix2 p e)
      = (m ((c : Thread nD τ).loc main_arg0) : FVec Ideal S20480x1024 .bf16) (ix2 (source (row t p)) e) := by
  unfold source row
  blk_point [iblk, V, idx t]

/-- The weights of a point: its blocks of columns lie in the array, so the buffer holds nothing else. -/
theorem read_columns (c : Dev nD) (t : Fin cfg0.N) (e q : Fin 1024) :
    (X0_1 m c t : FVec Ideal S1x1024x1024 .f32) (ix3 0 e q)
      = (m ((c : Thread nD τ).loc main_arg1) : FVec Ideal S1x1024x5184 .f32) (ix3 0 e (weight (column t q))) := by
  unfold X0_1 Pipeline.Window.fill
  rw [dif_pos (moved0_1 t _)]
  refine congrArg (m ((c : Thread nD τ).loc main_arg1) : FVec Ideal S1x1024x5184 .f32) (funext fun a => Fin.ext ?_)
  refine (win0_1.rect_emb_val t _ a).trans ?_
  rw [(idx t).2.1]
  fin_cases a
  · rfl
  · show 0 * 1024 + e.val = e.val; omega
  · show t.val / 20 * 1024 + q.val = 1024 * (t.val / 20) + q.val; omega

/-- The result: the rows times the weights, activated. -/
def proj (x : FVec Ideal S20480x1024 .bf16) (w : FVec Ideal S1x1024x5184 .f32) : FVec Ideal S20480x2048 .bf16 := fun y =>
  Cert.Moe.swish (∑ e : Fin 1024, x (ix2 (source (y 0)) e) * w (ix3 0 e (weight (y 1))))

/-- After every point the scratch buffer holds the weights of that point's columns. -/
theorem scratch_eq (c : Dev nD) : ∀ (n : ℕ) (hn : n < cfg0.N) (e q : Fin 1024), (outsAt0 m c n hn).2 (ix2 e q)
    = (m ((c : Thread nD τ).loc main_arg1) : FVec Ideal S1x1024x5184 .f32) (ix3 0 e (weight (column ⟨n, hn⟩ q))) := by
  intro n
  induction n with
  | zero =>
    intro hn e q
    rw [outsAt0_A m c ⟨0, hn⟩ rfl]
    dsimp only
    exact (scratch_first c (grid0.coords ⟨0, hn⟩) _ _ _ _ _ _ _ _ _ _ _ (ix2 e q)).trans (read_columns m c ⟨0, hn⟩ e q)
  | succ n ih =>
    intro hn e q
    by_cases h : (n + 1) % 20 = 0
    · rw [outsAt0_A m c ⟨n + 1, hn⟩ h]
      dsimp only
      exact (scratch_first c (grid0.coords ⟨n + 1, hn⟩) _ _ _ _ _ _ _ _ _ _ _ (ix2 e q)).trans (read_columns m c ⟨n + 1, hn⟩ e q)
    · refine (congrFun (congrArg Prod.snd (outsAt0_B m c ⟨n + 1, hn⟩ h)) (ix2 e q)).trans ?_
      dsimp only [sout0_B_0]
      refine (ih (Nat.lt_of_succ_lt hn) e q).trans ?_
      have hc : column ⟨n, Nat.lt_of_succ_lt hn⟩ q = column ⟨n + 1, hn⟩ q := Fin.ext (by
        show 1024 * (n / 20) + q.val = 1024 * ((n + 1) / 20) + q.val; omega)
      rw [hc]

/-- A later point's weights: those of the point before, whose columns are the same. -/
theorem kept_eq (c : Dev nD) (t : Fin cfg0.N) (h : ¬t.val % 20 = 0) (hn : t.val - 1 < cfg0.N) (e q : Fin 1024) :
    (outsAt0 m c (t.val - 1) hn).2 (ix2 e q)
      = (m ((c : Thread nD τ).loc main_arg1) : FVec Ideal S1x1024x5184 .f32) (ix3 0 e (weight (column t q))) := by
  refine (scratch_eq m c _ hn e q).trans ?_
  have hc : column ⟨t.val - 1, hn⟩ q = column t q := Fin.ext (by
    show 1024 * ((t.val - 1) / 20) + q.val = 1024 * (t.val / 20) + q.val; omega)
  rw [hc]

/-- A point's block of the result. -/
theorem block_eq (x : FVec Ideal S20480x1024 .bf16) (w : FVec Ideal S1x1024x5184 .f32) (c : Dev nD) (t : Fin cfg0.N) (hx : m ((c : Thread nD τ).loc main_arg0) = x)
    (hw : m ((c : Thread nD τ).loc main_arg1) = w) (y : S1024x1024.Idx) :
    (outsAt0 m c t.val t.isLt).1 y = proj x w (ix2 (row t (y 0)) (column t (y 1))) := by
  subst hx hw
  by_cases h : t.val % 20 = 0
  · rw [outsAt0_A m c t h]
    dsimp only
    refine (out_first c (grid0.coords t) _ _ _ _ _ _ _ _ _ _ _ y).trans (congrArg Cert.Moe.swish (Finset.sum_congr rfl fun e _ => ?_))
    exact congrArg₂ (fun a b : EReal => a * b) (read_rows m c t (y 0) e) (read_columns m c t e (y 1))
  · rw [outsAt0_B m c t h]
    dsimp only
    refine (out_later c (grid0.coords t) _ _ _ _ _ _ _ _ _ _ _ _ y).trans (congrArg Cert.Moe.swish (Finset.sum_congr rfl fun e _ => ?_))
    exact congrArg₂ (fun a b : EReal => a * b) (read_rows m c t (y 0) e) (kept_eq m c t h _ e (y 1))

/-- The kernel's result. -/
theorem final (c : Dev nD) : (dats m 0 c).arrAt 2 (cfgs 0).N
    = proj (m ((c : Thread nD τ).loc main_arg0)) (m ((c : Thread nD τ).loc main_arg1)) := by
  refine (dats m 0 c).arrAt_eq_of_covers 2 _ (by decide +kernel) fun t hf y => ?_
  blk_simp
  rw [after0_2]
  refine (block_eq m _ _ c t rfl rfl y).trans ?_
  unfold row column
  blk_ext [idx t]

/-- The reference's projection. -/
theorem reference_proj (x : FVec Ideal S20480x1024 .bf16) (w : FVec Ideal S1x1024x5184 .f32) (p : Fin 20480) (q : Fin 2048) :
    Cert.Reference8Ideal.Read.val_main_v3 (F := Ideal) x w (ix2 p q) = ∑ e : Fin 1024, x (ix2 (source p) e) * w (ix3 0 e (weight q)) := by
  rw [Cert.Reference8Ideal.Read.val_main_v3_apply]
  refine (Cert.Reference8Ideal.Read.val_main_v2_apply x w _).trans (Finset.sum_congr rfl fun e _ => ?_)
  rw [Cert.Reference8Ideal.Read.val_main_v0_apply, Cert.Reference8Ideal.Read.val_main_v1_apply]
  have he := e.isLt
  have hq := q.isLt
  refine congrArg₂ (fun a b : EReal => a * b) (congrArg x (funext fun a => Fin.ext ?_)) (congrArg w (funext fun a => Fin.ext ?_))
  · fin_cases a <;> rfl
  · fin_cases a
    · rfl
    · show (e.val * 5184 + q.val) / 5184 % 1024 = e.val; omega
    · show (e.val * 5184 + q.val) % 5184 = q.val; omega

/-- The reference's result. -/
theorem reference_eq (x : FVec Ideal S20480x1024 .bf16) (w : FVec Ideal S1x1024x5184 .f32) :
    Cert.Reference8Ideal.Read.val_main_v5 (F := Ideal) x w = proj x w := by
  funext y
  obtain ⟨p, q, rfl⟩ : ∃ p q, y = ix2 p q := ⟨_, _, eq_ix2 y⟩
  rw [Cert.Reference8Ideal.Read.val_main_v5_apply, Cert.Reference8Ideal.Read.val_main_v4_apply, Cert.Reference8Ideal.Read.val_main_call0_v5_apply, Cert.Reference8Ideal.Read.val_main_call0_v3_apply,
    Cert.Reference8Ideal.Read.val_main_call0_v1_apply, Cert.Reference8Ideal.Read.val_main_call0_v0_apply, Cert.Reference8Ideal.Read.val_main_call0_v4_apply,
    Cert.Reference8Ideal.Read.val_main_call0_v2_apply, Cert.Reference8Ideal.Read.val_main_call0_cst_apply, Cert.Reference8Ideal.Read.val_main_call0_cst_0_apply, reference_proj]
  unfold proj
  rw [← Cert.Moe.swish_eq]
  have h1 : (FloatOps.ofBits .f32 0x3F800000#32 : Ideal .f32) = (1 : EReal) := Ideal.ofBits_one_f32
  rw [h1]
  rfl

/-- The frame of the kernel. -/
theorem frameBits : Cert.quiescent_Kernel8 := fun m g _ => Cert.Kernel8.Gen.frame m g

/-- The frame of its ideal reading. -/
theorem frameIdeal : Cert.quiescent_Kernel8Ideal := fun m g _ => Cert.Kernel8Ideal.Gen.frame m g

/-- The frame of the reference. -/
theorem frameReference : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

/-- Over the extended reals the kernel and its reference end with equal results. -/
theorem algebraic : Cert.algebraic_Kernel8Ideal_Reference8Ideal := by
  intro m g m' g' _ hagree
  refine ⟨fun c => proj (m ((c.tc : Thread _ _).loc Cert.Kernel8Ideal.main_arg0)) (m ((c.tc : Thread _ _).loc Cert.Kernel8Ideal.main_arg1)), ?_, ?_⟩
  · refine (θ_run _ _ _).mono (fun r h c => ?_) (Cert.Kernel8Ideal.Value.run_blocks m g)
    exact ⟨(h c).1.trans (final m c), (h c).2⟩
  · refine (θ_run _ _ _).mono (fun r h c => ?_) (Cert.Reference8Ideal.Value.run m' g')
    obtain ⟨h0, h1⟩ := hagree c
    refine ⟨(h c).1.trans ?_, (h c).2⟩
    refine (Cert.Reference8Ideal.Read.val_main_v5_eq _ _).trans ((reference_eq _ _).trans ?_)
    dsimp only
    rw [h0, h1]

end Cert.Proj.Gate

end
-- ==== Proof.Proj.ScanFormula.lean ====
module

public import proofs.«01_k».proof.Defs
public import proofs.«01_k».proof.Proof.Moe.Body

/-!
# The rows of the scan's output projection, and whole loads and stores
-/

@[expose] public section

set_option maxRecDepth 16384

noncomputable section

namespace Cert.Proj.Scan

open Idealize.ShloMosaic Idealize.ShloMosaic.TcCoe Idealize.SL.Sem

/-- A row divided by its root mean square, and weighted; `d` is the number of its elements. -/
def rms {n : ℕ} (d : EReal) (f w : Fin n → EReal) (q : Fin n) : EReal :=
  f q * Ideal.rsqrt (Ideal.div (∑ k, f k * f k) d + Ideal.ofBits .f32 0x358637BD#32) * w q

/-- A row of the scan: its two directions added, times the gate's activations. -/
def mixed (a b z : Fin 2048 → EReal) (k : Fin 2048) : EReal := (a k + b k) * z k

/-- A row with the gated projection of the normalised row of the scan added. -/
def added (f s : Fin 2048 → EReal) (W : Fin 2048 → Fin 1024 → EReal) (x g : Fin 1024 → EReal) (q : Fin 1024) : EReal :=
  x q + g q * ∑ e, rms (Ideal.ofBits .f32 0x45000000#32) f s e * W e q

/-- A row normalised, scaled and shifted. -/
def modulated (f w sc sh : Fin 1024 → EReal) (q : Fin 1024) : EReal :=
  rms (Ideal.ofBits .f32 0x44800000#32) f w q * (Ideal.ofBits .f32 0x3F800000#32 + sc q) + sh q

/-- An element of a whole buffer, as an element of the part that is the whole. -/
theorem emb_whole {s : Shape} (o : Fin s.rank → ℕ) (h : ∀ a, o a + s.size a ≤ s.size a) (ho : ∀ a, o a = 0) (y : s.Idx) :
    (Rect.unit (s := s) o s.size h).emb y = y := by
  refine funext fun a => Fin.ext ?_
  show o a + 1 * (y a).val = (y a).val
  rw [ho, Nat.zero_add, Nat.one_mul]

/-- A store of a whole buffer leaves what was stored. -/
theorem store_whole {s : Shape} {e : EltTy} (o : Fin s.rank → ℕ) (h : ∀ a, o a + s.size a ≤ s.size a) (ho : ∀ a, o a = 0)
    (w : s.Idx → Elt Ideal e) (y : s.Idx) :
    View.canon ([⟨Rect.unit (s := s) o s.size h, w⟩] : List (View.Piece (Elt Ideal) s e)) y = w y := by
  have hc := View.canon_cons_emb (Val := Elt Ideal) (e := e) (Rect.unit (s := s) o s.size h) w [] y
  rw [emb_whole o h ho] at hc
  exact hc

/-- A load of a whole buffer is what it holds. -/
theorem load_whole {sg : RefSig} {s : Shape} {e : EltTy} {v : Memref sg .tc .vmem s e} (hv : v.IsWhole) (o : Fin s.rank → ℕ)
    (h : ∀ a, o a + s.size a ≤ s.size a) (ho : ∀ a, o a = 0) (x : s.Idx → Elt Ideal e) :
    View.readAt (Elt Ideal) v.view (Rect.unit (s := s) o s.size h).toLoadRect (hv.unread x) = x := by
  rw [View.readAt_eq_ld, hv.read_unread]
  funext j
  refine congrArg x (funext fun a => Fin.ext ?_)
  show o a + 1 * (j a).val = (j a).val
  rw [ho, Nat.zero_add, Nat.one_mul]

end Cert.Proj.Scan

end
-- ==== Proof.Proj.ScanBody.lean ====
module

public import proofs.«01_k».proof.Defs
public import proofs.«01_k».proof.Proof.Proj.ScanFormula
public import proofs.«01_k».proof.Proof.Gen.Kernel9Ideal.Frame

/-!
# A point of the scan's output projection
-/

@[expose] public section

set_option maxRecDepth 16384

noncomputable section

namespace Cert.Proj.Scan

open Cert.Kernel9Ideal Cert.Kernel9Ideal.Gen Idealize.ShloMosaic Idealize.ShloMosaic.TcCoe Idealize.SL.Sem

/-- The weights kept in the scratch buffer: those of the block. -/
theorem kept_apply (w : FVec Ideal S1x2048x1024 .f32) (e : Fin 2048) (q : Fin 1024) : k0_pay2 (F := Ideal) w (ix2 e q) = w (ix3 0 e q) := by
  pointwise [k0_pay2]

/-- The gated projection of the normalised rows of the scan. -/
theorem projected_apply (a b : FVec Ideal S1x512x2048 .bf16) (z : FVec Ideal S512x2048 .bf16) (s : FVec Ideal S1x2048 .f32)
    (W : FVec Ideal S2048x1024 .bf16) (g : FVec Ideal S1x1x1024 .f32) (p : Fin 512) (q : Fin 1024) :
    k0_pay3 (F := Ideal) a b z s W g (ix2 p q) = g (ix3 0 0 q) * ∑ e, rms (Ideal.ofBits .f32 0x45000000#32)
      (mixed (fun k => a (ix3 0 p k)) (fun k => b (ix3 0 p k)) (fun k => z (ix2 p k))) (fun k => s (ix2 0 k)) e * W (ix2 e q) := by
  unfold rms mixed
  pointwise [k0_pay3]

/-- The rows with the projection added. -/
theorem added_apply (x v : FVec Ideal S512x1024 .f32) (p : Fin 512) (q : Fin 1024) :
    k0_pay4 (F := Ideal) x v (ix2 p q) = x (ix2 p q) + v (ix2 p q) := by
  pointwise [k0_pay4]

/-- The normalised rows, scaled and shifted. -/
theorem modulated_apply (x v : FVec Ideal S512x1024 .f32) (w : FVec Ideal S1x1024 .f32) (sc sh : FVec Ideal S1x1x1024 .f32) (p : Fin 512) (q : Fin 1024) :
    k0_pay5 (F := Ideal) x v w sc sh (ix2 p q) = modulated (fun k => x (ix2 p k) + v (ix2 p k)) (fun k => w (ix2 0 k))
      (fun k => sc (ix3 0 0 k)) (fun k => sh (ix3 0 0 k)) q := by
  unfold modulated rms
  pointwise [k0_pay5, k0_pay4]

section Body

variable (c : Dev nD) (i : grid0.Coords) (arg1 : Memref sig .tc .vmem S1x512x2048 .bf16) (harg1 : arg1.IsWhole)
  (arg2 : Memref sig .tc .vmem S1x512x2048 .bf16) (harg2 : arg2.IsWhole) (arg3 : Memref sig .tc .vmem S512x2048 .bf16) (harg3 : arg3.IsWhole)
  (arg4 : Memref sig .tc .vmem S1x2048 .f32) (harg4 : arg4.IsWhole) (arg5 : Memref sig .tc .vmem S1x2048x1024 .f32) (harg5 : arg5.IsWhole)
  (arg6 : Memref sig .tc .vmem S512x1024 .f32) (harg6 : arg6.IsWhole) (arg7 : Memref sig .tc .vmem S1x1x1024 .f32) (harg7 : arg7.IsWhole)
  (arg8 : Memref sig .tc .vmem S1x1024 .f32) (harg8 : arg8.IsWhole) (arg9 : Memref sig .tc .vmem S1x1x1024 .f32) (harg9 : arg9.IsWhole)
  (arg10 : Memref sig .tc .vmem S1x1x1024 .f32) (harg10 : arg10.IsWhole) (arg11 : Memref sig .tc .vmem S16x1024 .f32) (harg11 : arg11.IsWhole)
  (arg12 : Memref sig .tc .vmem S512x1024 .f32) (harg12 : arg12.IsWhole) (arg13 : Memref sig .tc .vmem S512x1024 .f32) (harg13 : arg13.IsWhole)
  (arg14 : Memref sig .tc .vmem S16x512 .f32) (harg14 : arg14.IsWhole) (arg15 : Memref sig .tc .vmem S2048x1024 .bf16) (harg15 : arg15.IsWhole)
  (x0 x1 : FVec Ideal S1x512x2048 .bf16) (x2 : FVec Ideal S512x2048 .bf16) (x3 : FVec Ideal S1x2048 .f32) (x4 : FVec Ideal S1x2048x1024 .f32)
  (x5 : FVec Ideal S512x1024 .f32) (x6 : FVec Ideal S1x1x1024 .f32) (x7 : FVec Ideal S1x1024 .f32) (x8 x9 : FVec Ideal S1x1x1024 .f32)
  (x10 : FVec Ideal S16x1024 .f32) (xs0 : FVec Ideal S2048x1024 .bf16)

/-- The first point keeps the weights of its block. -/
theorem scratch_first (hc0 : cond0_0 i) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k0_pay2 (F := Ideal) x4 := by
  unfold sout0_A_0
  rw [View.read_writes_junk_eq_canon]
  funext y
  refine (store_whole (e := .bf16) _ _ (by decide) _ y).trans ?_
  exact congrArg (fun w => k0_pay2 (F := Ideal) w y) (load_whole harg5 _ _ (by decide) x4)

/-- The rows a later point loads. -/
theorem loaded_later : kernelRun0_B.sl.r (F := Ideal) c arg6 harg6 x5 = x5 :=
  load_whole harg6 _ _ (by decide) x5

/-- A later point's projection. -/
theorem projected_later :
    kernelRun0_B.sl.r_1 (F := Ideal) c arg1 harg1 arg2 harg2 arg3 harg3 arg4 harg4 arg7 harg7 arg15 harg15 x0 x1 x2 x3 x6 xs0
      = k0_pay3 (F := Ideal) x0 x1 x2 x3 xs0 x6 := by
  unfold kernelRun0_B.sl.r_1
  rw [load_whole harg1 _ _ (by decide) x0, load_whole harg2 _ _ (by decide) x1, load_whole harg3 _ _ (by decide) x2,
    load_whole harg4 _ _ (by decide) x3, load_whole harg7 _ _ (by decide) x6, load_whole harg15 _ _ (by decide) xs0]

/-- The rows the first point loads. -/
theorem loaded_first : kernelRun0_A.sl.r (F := Ideal) c arg6 harg6 x5 = x5 :=
  load_whole harg6 _ _ (by decide) x5

/-- The first point's projection, by the weights it has just kept. -/
theorem projected_first :
    kernelRun0_A.sl.r_1 (F := Ideal) c arg1 harg1 arg2 harg2 arg3 harg3 arg4 harg4 arg5 harg5 arg7 harg7 arg15 x0 x1 x2 x3 x4 x6
      = k0_pay3 (F := Ideal) x0 x1 x2 x3 (k0_pay2 (F := Ideal) x4) x6 := by
  unfold kernelRun0_A.sl.r_1
  rw [load_whole harg1 _ _ (by decide) x0, load_whole harg2 _ _ (by decide) x1, load_whole harg3 _ _ (by decide) x2,
    load_whole harg4 _ _ (by decide) x3, load_whole harg7 _ _ (by decide) x6]
  refine congrArg (fun W => k0_pay3 (F := Ideal) x0 x1 x2 x3 W x6) (funext fun y => ?_)
  unfold kernelRun0_A.sl.v28
  rw [View.readCov_eq_canon']
  refine (congrArg (View.canon _) (emb_whole _ _ (by decide) y)).trans ?_
  refine (store_whole (e := .bf16) _ _ (by decide) _ y).trans ?_
  exact congrArg (fun w => k0_pay2 (F := Ideal) w y) (load_whole harg5 _ _ (by decide) x4)

/-- The first point's rows with the projection added. -/
theorem rows_first (hc0 : cond0_0 i) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10
      = k0_pay4 (F := Ideal) x5 (k0_pay3 (F := Ideal) x0 x1 x2 x3 (k0_pay2 (F := Ideal) x4) x6) := by
  unfold out0_A_11
  rw [View.read_writes_junk_eq_canon]
  funext y
  refine (store_whole (e := .f32) _ _ (by decide) _ y).trans ?_
  rw [loaded_first, projected_first]

/-- The first point's normalised rows, scaled and shifted. -/
theorem normed_first (hc0 : cond0_0 i) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10
      = k0_pay5 (F := Ideal) x5 (k0_pay3 (F := Ideal) x0 x1 x2 x3 (k0_pay2 (F := Ideal) x4) x6) x7 x9 x8 := by
  unfold out0_A_12
  rw [View.read_writes_junk_eq_canon]
  funext y
  refine (store_whole (e := .f32) _ _ (by decide) _ y).trans ?_
  rw [loaded_first, projected_first, load_whole harg8 _ _ (by decide) x7, load_whole harg9 _ _ (by decide) x8,
    load_whole harg10 _ _ (by decide) x9]

/-- A later point's rows with the projection added. -/
theorem rows_later (hc0 : ¬cond0_0 i) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0
      = k0_pay4 (F := Ideal) x5 (k0_pay3 (F := Ideal) x0 x1 x2 x3 xs0 x6) := by
  unfold out0_B_11
  rw [View.read_writes_junk_eq_canon]
  funext y
  refine (store_whole (e := .f32) _ _ (by decide) _ y).trans ?_
  rw [loaded_later, projected_later]

/-- A later point's normalised rows, scaled and shifted. -/
theorem normed_later (hc0 : ¬cond0_0 i) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0
      = k0_pay5 (F := Ideal) x5 (k0_pay3 (F := Ideal) x0 x1 x2 x3 xs0 x6) x7 x9 x8 := by
  unfold out0_B_12
  rw [View.read_writes_junk_eq_canon]
  funext y
  refine (store_whole (e := .f32) _ _ (by decide) _ y).trans ?_
  rw [loaded_later, projected_later, load_whole harg8 _ _ (by decide) x7, load_whole harg9 _ _ (by decide) x8,
    load_whole harg10 _ _ (by decide) x9]

/-- The rows with the projection added, element by element. -/
theorem rows_apply (W : FVec Ideal S2048x1024 .bf16) (p : Fin 512) (q : Fin 1024) :
    k0_pay4 (F := Ideal) x5 (k0_pay3 (F := Ideal) x0 x1 x2 x3 W x6) (ix2 p q)
      = added (mixed (fun k => x0 (ix3 0 p k)) (fun k => x1 (ix3 0 p k)) (fun k => x2 (ix2 p k))) (fun k => x3 (ix2 0 k))
        (fun e k => W (ix2 e k)) (fun k => x5 (ix2 p k)) (fun k => x6 (ix3 0 0 k)) q := by
  rw [added_apply, projected_apply]
  rfl

/-- The normalised rows, element by element. -/
theorem normed_apply (W : FVec Ideal S2048x1024 .bf16) (p : Fin 512) (q : Fin 1024) :
    k0_pay5 (F := Ideal) x5 (k0_pay3 (F := Ideal) x0 x1 x2 x3 W x6) x7 x9 x8 (ix2 p q)
      = modulated (added (mixed (fun k => x0 (ix3 0 p k)) (fun k => x1 (ix3 0 p k)) (fun k => x2 (ix2 p k))) (fun k => x3 (ix2 0 k))
        (fun e k => W (ix2 e k)) (fun k => x5 (ix2 p k)) (fun k => x6 (ix3 0 0 k))) (fun k => x7 (ix2 0 k))
        (fun k => x9 (ix3 0 0 k)) (fun k => x8 (ix3 0 0 k)) q := by
  rw [modulated_apply]
  refine congrArg (fun f => modulated f _ _ _ q) (funext fun k => ?_)
  exact (added_apply _ _ p k).symm.trans (rows_apply x0 x1 x2 x3 x5 x6 W p k)

end Body

end Cert.Proj.Scan

end
-- ==== Proof.Proj.ScanReference.lean ====
module

public import proofs.«01_k».proof.Defs
public import proofs.«01_k».proof.Proof.Proj.ScanFormula
public import proofs.«01_k».proof.Proof.Gen.Reference9Ideal.Run
public import proofs.«01_k».proof.Proof.Gen.Reference9Ideal.Read

/-!
# The reference of the scan's output projection
-/

@[expose] public section

set_option maxRecDepth 16384

noncomputable section

namespace Cert.Proj.Scan

open Cert.Reference9Ideal Cert.Reference9Ideal.Read Idealize.ShloMosaic Idealize.ShloMosaic.TcCoe Idealize.SL.Sem

/-- The modulation of row `r`: 4096 rows share one. -/
def group (r : Fin 20480) : Fin 8 := ⟨r.val / 4096, by omega⟩

/-- A row of the rows with the projection of the scan added. -/
def sumRow (y : FVec Ideal S2x20480x2048 .bf16) (z : FVec Ideal S20480x2048 .bf16) (s : FVec Ideal S2048 .f32) (w : FVec Ideal S1x2048x1024 .f32)
    (x : FVec Ideal S20480x1024 .f32) (g : FVec Ideal S8x1x1024 .f32) (r : Fin 20480) : Fin 1024 → EReal :=
  added (mixed (fun k => y (ix3 0 r k)) (fun k => y (ix3 1 r k)) (fun k => z (ix2 r k))) (fun k => s (ix1 k)) (fun e q => w (ix3 0 e q))
    (fun q => x (ix2 r q)) (fun q => g (ix3 (group r) 0 q))

/-- The rows with the projection of the scan added. -/
def sums (y : FVec Ideal S2x20480x2048 .bf16) (z : FVec Ideal S20480x2048 .bf16) (s : FVec Ideal S2048 .f32) (w : FVec Ideal S1x2048x1024 .f32)
    (x : FVec Ideal S20480x1024 .f32) (g : FVec Ideal S8x1x1024 .f32) : FVec Ideal S20480x1024 .f32 := fun i => sumRow y z s w x g (i 0) (i 1)

/-- Those rows normalised, scaled and shifted. -/
def normals (y : FVec Ideal S2x20480x2048 .bf16) (z : FVec Ideal S20480x2048 .bf16) (s : FVec Ideal S2048 .f32) (w : FVec Ideal S1x2048x1024 .f32)
    (x : FVec Ideal S20480x1024 .f32) (g : FVec Ideal S8x1x1024 .f32) (n : FVec Ideal S1024 .f32) (sh sc : FVec Ideal S8x1x1024 .f32) :
    FVec Ideal S20480x1024 .f32 := fun i =>
  modulated (sumRow y z s w x g (i 0)) (fun q => n (ix1 q)) (fun q => sc (ix3 (group (i 0)) 0 q)) (fun q => sh (ix3 (group (i 0)) 0 q)) (i 1)

/-- The constant the reference's sums start from. -/
theorem zero_eq : (FloatOps.ofBits .f32 0x00000000#32 : Ideal .f32) = (0 : EReal) := by
  show Ideal.ofBits .f32 0x00000000#32 = 0
  simp [Ideal.ofBits, Ideal.ieee]

/-- The reference's rows of the scan. -/
theorem mixed_eq (y : FVec Ideal S2x20480x2048 .bf16) (z : FVec Ideal S20480x2048 .bf16) (p : Fin 20480) (k : Fin 2048) :
    val_main_v8 (F := Ideal) y z (ix2 p k) = mixed (fun k => y (ix3 0 p k)) (fun k => y (ix3 1 p k)) (fun k => z (ix2 p k)) k := by
  rw [val_main_v8_apply, val_main_v6_apply, val_main_v2_apply, val_main_v1_apply, val_main_v0_apply, val_main_v5_apply, val_main_v4_apply,
    val_main_v3_apply, val_main_v7_apply]
  have hp := p.isLt
  have hk := k.isLt
  refine congrArg₂ (fun a b : EReal => a * b) (congrArg₂ (fun a b : EReal => a + b) (congrArg y (funext fun a => Fin.ext ?_))
    (congrArg y (funext fun a => Fin.ext ?_))) rfl
  · fin_cases a
    · rfl
    · show (p.val * 2048 + k.val) / 2048 % 20480 = p.val; omega
    · show (p.val * 2048 + k.val) % 2048 = k.val; omega
  · fin_cases a
    · rfl
    · show (p.val * 2048 + k.val) / 2048 % 20480 = p.val; omega
    · show (p.val * 2048 + k.val) % 2048 = k.val; omega

/-- The reference's normalised rows of the scan. -/
theorem scaled_eq (y : FVec Ideal S2x20480x2048 .bf16) (z : FVec Ideal S20480x2048 .bf16) (s : FVec Ideal S2048 .f32) (p : Fin 20480) (q : Fin 2048) :
    val_main_v24 (F := Ideal) y z s (ix2 p q) = rms (Ideal.ofBits .f32 0x45000000#32)
      (mixed (fun k => y (ix3 0 p k)) (fun k => y (ix3 1 p k)) (fun k => z (ix2 p k))) (fun k => s (ix1 k)) q := by
  rw [val_main_v24_apply, val_main_v21_apply, val_main_v20_apply, val_main_v19_apply, val_main_v18_apply, val_main_v16_apply, val_main_v14_apply,
    val_main_v13_apply, val_main_v15_apply, val_main_v17_apply, val_main_v23_apply, val_main_v22_apply, val_main_cst_apply, zero_eq, mixed_eq]
  have hs : ∑ k : Fin 2048, val_main_v12 (F := Ideal) y z (ix2 p k)
      = ∑ k : Fin 2048, mixed (fun k => y (ix3 0 p k)) (fun k => y (ix3 1 p k)) (fun k => z (ix2 p k)) k
        * mixed (fun k => y (ix3 0 p k)) (fun k => y (ix3 1 p k)) (fun k => z (ix2 p k)) k := by
    refine Finset.sum_congr rfl fun k _ => ?_
    rw [val_main_v12_apply, mixed_eq]
    rfl
  have ha : ∀ k : Fin 2048, idx_main_v13 (idx_main_v14 (idx_main_v20 (ix2 p q))) k = ix2 p k := by
    intro k
    refine funext fun a => Fin.ext ?_
    fin_cases a <;> rfl
  have hb : idx_main_v22 (idx_main_v23 (ix2 p q)) = ix1 q := by
    refine funext fun a => Fin.ext ?_
    fin_cases a; rfl
  simp only [ha]
  rw [hs, hb, zero_add]
  rfl

/-- A modulation of the reference's rows. -/
theorem group_eq (g : FVec Ideal S8x1x1024 .f32) (p : Fin 20480) (q : Fin 1024) :
    val_main_v11 (F := Ideal) g (ix2 p q) = g (ix3 (group p) 0 q) := by
  rw [val_main_v11_apply, val_main_v10_apply, val_main_v9_apply]
  have hp := p.isLt
  have hq := q.isLt
  refine congrArg g (funext fun a => Fin.ext ?_)
  fin_cases a
  · show (p.val * 1024 + q.val) / 4194304 = p.val / 4096; omega
  · rfl
  · show (p.val * 1024 + q.val) % 1024 = q.val; omega

/-- The reference's first result, row by row. -/
theorem sum_eq (y : FVec Ideal S2x20480x2048 .bf16) (z : FVec Ideal S20480x2048 .bf16) (s : FVec Ideal S2048 .f32) (w : FVec Ideal S1x2048x1024 .f32)
    (x : FVec Ideal S20480x1024 .f32) (g : FVec Ideal S8x1x1024 .f32) (p : Fin 20480) (q : Fin 1024) :
    val_main_v28 (F := Ideal) y z s w x g (ix2 p q) = sumRow y z s w x g p q := by
  rw [val_main_v28_apply, val_main_v27_apply, group_eq, val_main_v26_apply]
  refine congrArg₂ (fun a b : EReal => a + b) rfl (congrArg₂ (fun a b : EReal => a * b) rfl (Finset.sum_congr rfl fun e _ => ?_))
  have he := e.isLt
  have hq := q.isLt
  refine congrArg₂ (fun a b : EReal => a * b) (Eq.trans (congrArg _ (funext fun a => Fin.ext ?_)) (scaled_eq y z s p e)) ?_
  · fin_cases a <;> rfl
  · rw [val_main_v25_apply]
    refine congrArg w (funext fun a => Fin.ext ?_)
    fin_cases a
    · rfl
    · show (e.val * 1024 + q.val) / 1024 % 2048 = e.val; omega
    · show (e.val * 1024 + q.val) % 1024 = q.val; omega

/-- The reference's first result. -/
theorem sums_eq (y : FVec Ideal S2x20480x2048 .bf16) (z : FVec Ideal S20480x2048 .bf16) (s : FVec Ideal S2048 .f32) (w : FVec Ideal S1x2048x1024 .f32)
    (x : FVec Ideal S20480x1024 .f32) (g : FVec Ideal S8x1x1024 .f32) :
    val_main_v28 (F := Ideal) y z s w x g = sums y z s w x g := by
  funext i
  obtain ⟨p, q, rfl⟩ : ∃ p q, i = ix2 p q := ⟨_, _, eq_ix2 i⟩
  exact sum_eq y z s w x g p q

/-- The reference's second result. -/
theorem normals_eq (y : FVec Ideal S2x20480x2048 .bf16) (z : FVec Ideal S20480x2048 .bf16) (s : FVec Ideal S2048 .f32) (w : FVec Ideal S1x2048x1024 .f32)
    (x : FVec Ideal S20480x1024 .f32) (g : FVec Ideal S8x1x1024 .f32) (n : FVec Ideal S1024 .f32) (sh sc : FVec Ideal S8x1x1024 .f32) :
    val_main_v51 (F := Ideal) y z s w x g n sh sc = normals y z s w x g n sh sc := by
  funext i
  obtain ⟨p, q, rfl⟩ : ∃ p q, i = ix2 p q := ⟨_, _, eq_ix2 i⟩
  have hh : val_main_v50 (F := Ideal) sh (ix2 p q) = sh (ix3 (group p) 0 q) := group_eq sh p q
  have hc : val_main_v44 (F := Ideal) sc (ix2 p q) = sc (ix3 (group p) 0 q) := group_eq sc p q
  rw [val_main_v51_apply, hh, val_main_v47_apply, val_main_v46_apply, hc, val_main_v45_apply, val_main_v41_apply, val_main_v38_apply,
    val_main_v37_apply, val_main_v36_apply, val_main_v35_apply, val_main_v33_apply, val_main_v31_apply, val_main_v30_apply, val_main_v32_apply,
    val_main_v34_apply, val_main_v40_apply, val_main_v39_apply, val_main_cst_2_apply, zero_eq, sum_eq]
  have hs : ∑ k : Fin 1024, val_main_v29 (F := Ideal) y z s w x g (ix2 p k) = ∑ k : Fin 1024, sumRow y z s w x g p k * sumRow y z s w x g p k := by
    refine Finset.sum_congr rfl fun k _ => ?_
    rw [val_main_v29_apply, sum_eq]
    rfl
  have ha : ∀ k : Fin 1024, idx_main_v30 (idx_main_v31 (idx_main_v37 (ix2 p q))) k = ix2 p k := by
    intro k
    refine funext fun a => Fin.ext ?_
    fin_cases a <;> rfl
  have hb : idx_main_v39 (idx_main_v40 (ix2 p q)) = ix1 q := by
    refine funext fun a => Fin.ext ?_
    fin_cases a; rfl
  simp only [ha]
  rw [hs, hb, zero_add]
  rfl

end Cert.Proj.Scan

end
-- ==== Proof.Proj.ScanOut.lean ====
module

public import proofs.«01_k».proof.Defs
public import proofs.«01_k».proof.Proof.Proj.ScanBody
public import proofs.«01_k».proof.Proof.Proj.ScanReference
public import proofs.«01_k».proof.Proof.Gen.Kernel9.Frame
public import proofs.«01_k».proof.Proof.Gen.Kernel9Ideal.Value

/-!
# The scan's output projection
-/

@[expose] public section

set_option maxRecDepth 16384

noncomputable section

namespace Cert.Proj.Scan

open Cert.Kernel9Ideal Cert.Kernel9Ideal.Gen Idealize.ShloMosaic Idealize.ShloMosaic.TcCoe Idealize.SL.Sem

variable (m : (ℓ : Loc nD τ sig) → Buf (Elt Ideal) ℓ)

/-- The blocks a point works on: rows `512 t` onwards, their modulations, and the weights. -/
theorem idx : ∀ t : Fin cfg0.N, win0_0.index t = ![0, t.val, 0] ∧ win0_1.index t = ![1, t.val, 0] ∧ win0_2.index t = ![t.val, 0]
    ∧ win0_3.index t = ![0, 0] ∧ win0_4.index t = ![0, 0, 0] ∧ win0_5.index t = ![t.val, 0] ∧ win0_6.index t = ![t.val / 8, 0, 0]
    ∧ win0_7.index t = ![0, 0] ∧ win0_8.index t = ![t.val / 8, 0, 0] ∧ win0_9.index t = ![t.val / 8, 0, 0]
    ∧ win0_11.index t = ![t.val, 0] ∧ win0_12.index t = ![t.val, 0] :=
  (by decide +kernel : ∀ t : Fin grid0.N, _)

/-- Row `p` of a point's block. -/
def row (t : Fin cfg0.N) (p : Fin 512) : Fin 20480 := ⟨512 * t.val + p.val, by have h : t.val < 40 := lt_of_lt_of_eq t.isLt N_0; omega⟩

/-- The modulation of a point's rows. -/
theorem group_row (t : Fin cfg0.N) (p : Fin 512) :
    group (row t p) = ⟨t.val / 8, by have h : t.val < 40 := lt_of_lt_of_eq t.isLt N_0; omega⟩ := by
  refine Fin.ext ?_
  show (512 * t.val + p.val) / 4096 = t.val / 8
  omega

/-- A point's rows of the scan, forwards. -/
theorem read_forward (c : Dev nD) (t : Fin cfg0.N) (p : Fin 512) (k : Fin 2048) :
    (iblk m c 0 t : FVec Ideal S1x512x2048 .bf16) (ix3 0 p k)
      = (m ((c : Thread nD τ).loc main_arg0) : FVec Ideal S2x20480x2048 .bf16) (ix3 0 (row t p) k) := by
  unfold row
  blk_point [iblk, V, idx t]

/-- A point's rows of the scan, backwards. -/
theorem read_backward (c : Dev nD) (t : Fin cfg0.N) (p : Fin 512) (k : Fin 2048) :
    (iblk m c 1 t : FVec Ideal S1x512x2048 .bf16) (ix3 0 p k)
      = (m ((c : Thread nD τ).loc main_arg0) : FVec Ideal S2x20480x2048 .bf16) (ix3 1 (row t p) k) := by
  unfold row
  blk_point [iblk, V, idx t]

/-- A point's rows of the gate's activations. -/
theorem read_activations (c : Dev nD) (t : Fin cfg0.N) (p : Fin 512) (k : Fin 2048) :
    (iblk m c 2 t : FVec Ideal S512x2048 .bf16) (ix2 p k)
      = (m ((c : Thread nD τ).loc main_arg1) : FVec Ideal S20480x2048 .bf16) (ix2 (row t p) k) := by
  unfold row
  blk_point [iblk, V, idx t]

/-- The weights of the scan's normalisation. -/
theorem read_scan_norm (c : Dev nD) (t : Fin cfg0.N) (k : Fin 2048) :
    (iblk m c 3 t : FVec Ideal S1x2048 .f32) (ix2 0 k) = (m ((c : Thread nD τ).loc main_arg2) : FVec Ideal S2048 .f32) (ix1 k) := by
  blk_point [iblk, V, idx t]

/-- The weights of the projection. -/
theorem read_weights (c : Dev nD) (t : Fin cfg0.N) (e : Fin 2048) (q : Fin 1024) :
    (iblk m c 4 t : FVec Ideal S1x2048x1024 .f32) (ix3 0 e q)
      = (m ((c : Thread nD τ).loc main_arg3) : FVec Ideal S1x2048x1024 .f32) (ix3 0 e q) := by
  blk_point [iblk, V, idx t]

/-- A point's rows of the activations. -/
theorem read_rows (c : Dev nD) (t : Fin cfg0.N) (p : Fin 512) (k : Fin 1024) :
    (iblk m c 5 t : FVec Ideal S512x1024 .f32) (ix2 p k)
      = (m ((c : Thread nD τ).loc main_arg4) : FVec Ideal S20480x1024 .f32) (ix2 (row t p) k) := by
  unfold row
  blk_point [iblk, V, idx t]

/-- The gate of a point's rows. -/
theorem read_gate (c : Dev nD) (t : Fin cfg0.N) (p : Fin 512) (k : Fin 1024) :
    (iblk m c 6 t : FVec Ideal S1x1x1024 .f32) (ix3 0 0 k)
      = (m ((c : Thread nD τ).loc main_arg5) : FVec Ideal S8x1x1024 .f32) (ix3 (group (row t p)) 0 k) := by
  rw [group_row]
  blk_point [iblk, V, idx t]

/-- The weights of the rows' normalisation. -/
theorem read_norm (c : Dev nD) (t : Fin cfg0.N) (k : Fin 1024) :
    (iblk m c 7 t : FVec Ideal S1x1024 .f32) (ix2 0 k) = (m ((c : Thread nD τ).loc main_arg6) : FVec Ideal S1024 .f32) (ix1 k) := by
  blk_point [iblk, V, idx t]

/-- The shift of a point's rows. -/
theorem read_shift (c : Dev nD) (t : Fin cfg0.N) (p : Fin 512) (k : Fin 1024) :
    (iblk m c 8 t : FVec Ideal S1x1x1024 .f32) (ix3 0 0 k)
      = (m ((c : Thread nD τ).loc main_arg7) : FVec Ideal S8x1x1024 .f32) (ix3 (group (row t p)) 0 k) := by
  rw [group_row]
  blk_point [iblk, V, idx t]

/-- The scale of a point's rows. -/
theorem read_scale (c : Dev nD) (t : Fin cfg0.N) (p : Fin 512) (k : Fin 1024) :
    (iblk m c 9 t : FVec Ideal S1x1x1024 .f32) (ix3 0 0 k)
      = (m ((c : Thread nD τ).loc main_arg8) : FVec Ideal S8x1x1024 .f32) (ix3 (group (row t p)) 0 k) := by
  rw [group_row]
  blk_point [iblk, V, idx t]

/-- After every point the scratch buffer holds the projection's weights. -/
theorem scratch_eq (c : Dev nD) : ∀ (n : ℕ) (hn : n < cfg0.N) (e : Fin 2048) (q : Fin 1024), (outsAt0 m c n hn).2.2.2 (ix2 e q)
    = (m ((c : Thread nD τ).loc main_arg3) : FVec Ideal S1x2048x1024 .f32) (ix3 0 e q) := by
  intro n
  induction n with
  | zero =>
    intro hn e q
    rw [outsAt0_A m c ⟨0, hn⟩ rfl]
    dsimp only
    rw [scratch_first]
    exact (kept_apply _ e q).trans (read_weights m c ⟨0, hn⟩ e q)
  | succ n ih =>
    intro hn e q
    have h40 : n + 1 < 40 := lt_of_lt_of_eq hn N_0
    have h := outsAt0_B m c ⟨n + 1, hn⟩ (by simp only; omega)
    refine (congrFun (congrArg (fun r => r.2.2.2) h) (ix2 e q)).trans ?_
    dsimp only [sout0_B_0]
    exact ih (Nat.lt_of_succ_lt hn) e q

/-- The rows with the projection added, from a point's blocks and weights that are the projection's. -/
theorem sumRow_eq (c : Dev nD) (t : Fin cfg0.N) (W : FVec Ideal S2048x1024 .bf16)
    (hW : ∀ e q, W (ix2 e q) = (m ((c : Thread nD τ).loc main_arg3) : FVec Ideal S1x2048x1024 .f32) (ix3 0 e q)) (p : Fin 512) :
    added (mixed (fun k => (iblk m c 0 t : FVec Ideal S1x512x2048 .bf16) (ix3 0 p k)) (fun k => (iblk m c 1 t : FVec Ideal S1x512x2048 .bf16) (ix3 0 p k))
        (fun k => (iblk m c 2 t : FVec Ideal S512x2048 .bf16) (ix2 p k))) (fun k => (iblk m c 3 t : FVec Ideal S1x2048 .f32) (ix2 0 k))
        (fun e k => W (ix2 e k)) (fun k => (iblk m c 5 t : FVec Ideal S512x1024 .f32) (ix2 p k))
        (fun k => (iblk m c 6 t : FVec Ideal S1x1x1024 .f32) (ix3 0 0 k))
      = sumRow (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (row t p) := by
  unfold sumRow
  rw [funext fun k => read_forward m c t p k, funext fun k => read_backward m c t p k, funext fun k => read_activations m c t p k,
    funext fun k => read_scan_norm m c t k, funext fun e => funext fun q => hW e q, funext fun k => read_rows m c t p k,
    funext fun k => read_gate m c t p k]

/-- A point's block of the first result. -/
theorem sums_block (c : Dev nD) (t : Fin cfg0.N) (y : S512x1024.Idx) : (outsAt0 m c t.val t.isLt).1 y
    = sums (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix2 (row t (y 0)) (y 1)) := by
  unfold sums
  by_cases h : t.val % 40 = 0
  · rw [outsAt0_A m c t h]
    dsimp only
    rw [rows_first]
    refine (congrArg _ (eq_ix2 y)).trans ((rows_apply _ _ _ _ _ _ _ (y 0) (y 1)).trans (congrFun (sumRow_eq m c t _ ?_ (y 0)) (y 1)))
    exact fun e q => (kept_apply _ e q).trans (read_weights m c t e q)
  · rw [outsAt0_B m c t h]
    dsimp only
    rw [rows_later]
    refine (congrArg _ (eq_ix2 y)).trans ((rows_apply _ _ _ _ _ _ _ (y 0) (y 1)).trans (congrFun (sumRow_eq m c t _ ?_ (y 0)) (y 1)))
    exact fun e q => scratch_eq m c _ _ e q

/-- The normalised rows, from a point's blocks and weights that are the projection's. -/
theorem normal_eq (c : Dev nD) (t : Fin cfg0.N) (W : FVec Ideal S2048x1024 .bf16)
    (hW : ∀ e q, W (ix2 e q) = (m ((c : Thread nD τ).loc main_arg3) : FVec Ideal S1x2048x1024 .f32) (ix3 0 e q)) (y : S512x1024.Idx) :
    k0_pay5 (F := Ideal) (iblk m c 5 t) (k0_pay3 (F := Ideal) (iblk m c 0 t) (iblk m c 1 t) (iblk m c 2 t) (iblk m c 3 t) W (iblk m c 6 t))
        (iblk m c 7 t) (iblk m c 9 t) (iblk m c 8 t) y
      = normals (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (ix2 (row t (y 0)) (y 1)) := by
  refine (congrArg _ (eq_ix2 y)).trans ((normed_apply _ _ _ _ _ _ _ _ _ _ (y 0) (y 1)).trans ?_)
  rw [sumRow_eq m c t W hW (y 0), funext fun k => read_norm m c t k, funext fun k => read_scale m c t (y 0) k,
    funext fun k => read_shift m c t (y 0) k]
  rfl

/-- A point's block of the second result. -/
theorem normals_block (c : Dev nD) (t : Fin cfg0.N) (y : S512x1024.Idx) : (outsAt0 m c t.val t.isLt).2.1 y
    = normals (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (ix2 (row t (y 0)) (y 1)) := by
  by_cases h : t.val % 40 = 0
  · rw [outsAt0_A m c t h]
    dsimp only
    rw [normed_first]
    exact normal_eq m c t _ (fun e q => (kept_apply _ e q).trans (read_weights m c t e q)) y
  · rw [outsAt0_B m c t h]
    dsimp only
    rw [normed_later]
    exact normal_eq m c t _ (fun e q => scratch_eq m c _ _ e q) y

/-- The kernel's first result. -/
theorem final_sums (c : Dev nD) : (dats m 0 c).arrAt 11 (cfgs 0).N
    = sums (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 11 _ (by decide +kernel) fun t hf y => ?_
  blk_simp
  rw [after0_11]
  refine (sums_block m c t y).trans ?_
  unfold row
  blk_ext [idx t]

/-- The kernel's second result. -/
theorem final_normals (c : Dev nD) : (dats m 0 c).arrAt 12 (cfgs 0).N
    = normals (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 12 _ (by decide +kernel) fun t hf y => ?_
  blk_simp
  rw [after0_12]
  refine (normals_block m c t y).trans ?_
  unfold row
  blk_ext [idx t]

/-- The frame of the kernel. -/
theorem frameBits : Cert.quiescent_Kernel9 := fun m g _ => Cert.Kernel9.Gen.frame m g

/-- The frame of its ideal reading. -/
theorem frameIdeal : Cert.quiescent_Kernel9Ideal := fun m g _ => Cert.Kernel9Ideal.Gen.frame m g

/-- The frame of the reference. -/
theorem frameReference : Cert.quiescent_Reference9Ideal := fun m g _ =>
  (θ_run Cert.Reference9Ideal.defs _ _).mono (fun r h => ⟨fun c => (h c).2.2, sem_eq_zero_of_no_sems (by decide) r.2⟩)
    (Cert.Reference9Ideal.Value.run (F := Ideal) m g)

/-- Over the extended reals the kernel and its reference end with equal results. -/
theorem algebraic : Cert.algebraic_Kernel9Ideal_Reference9Ideal := by
  intro m g m' g' _ hagree
  refine ⟨fun c => sums (m ((c.tc : Thread _ _).loc Cert.Kernel9Ideal.main_arg0)) (m ((c.tc : Thread _ _).loc Cert.Kernel9Ideal.main_arg1))
      (m ((c.tc : Thread _ _).loc Cert.Kernel9Ideal.main_arg2)) (m ((c.tc : Thread _ _).loc Cert.Kernel9Ideal.main_arg3))
      (m ((c.tc : Thread _ _).loc Cert.Kernel9Ideal.main_arg4)) (m ((c.tc : Thread _ _).loc Cert.Kernel9Ideal.main_arg5)),
    fun c => normals (m ((c.tc : Thread _ _).loc Cert.Kernel9Ideal.main_arg0)) (m ((c.tc : Thread _ _).loc Cert.Kernel9Ideal.main_arg1))
      (m ((c.tc : Thread _ _).loc Cert.Kernel9Ideal.main_arg2)) (m ((c.tc : Thread _ _).loc Cert.Kernel9Ideal.main_arg3))
      (m ((c.tc : Thread _ _).loc Cert.Kernel9Ideal.main_arg4)) (m ((c.tc : Thread _ _).loc Cert.Kernel9Ideal.main_arg5))
      (m ((c.tc : Thread _ _).loc Cert.Kernel9Ideal.main_arg6)) (m ((c.tc : Thread _ _).loc Cert.Kernel9Ideal.main_arg7))
      (m ((c.tc : Thread _ _).loc Cert.Kernel9Ideal.main_arg8)), ?_, ?_⟩
  · refine (θ_run _ _ _).mono (fun r h c => ?_) (Cert.Kernel9Ideal.Value.run_blocks m g)
    exact ⟨(h c).1.trans (final_sums m c), (h c).2.1.trans (final_normals m c), (h c).2.2.2⟩
  · refine (θ_run _ _ _).mono (fun r h c => ?_) (Cert.Reference9Ideal.Value.run m' g')
    obtain ⟨h0, h1, h2, h3, h4, h5, h6, h7, h8, h9⟩ := hagree c
    refine ⟨(h c).1.trans ?_, (h c).2.1.trans ?_, (h c).2.2⟩
    · refine (Cert.Reference9Ideal.Read.val_main_v28_eq _ _ _ _ _ _).trans ((sums_eq _ _ _ _ _ _).trans ?_)
      dsimp only
      rw [h0, h1, h2, h3, h4, h5]
    · refine (Cert.Reference9Ideal.Read.val_main_v51_eq _ _).trans ((normals_eq _ _ _ _ _ _ _ _ _).trans ?_)
      dsimp only
      rw [h0, h1, h2, h3, h4, h5, h6, h7, h8]

end Cert.Proj.Scan

end
-- ==== Proof.Proj.MixReference.lean ====
module

public import proofs.«01_k».proof.Defs
public import proofs.«01_k».proof.Proof.Proj.ScanReference
public import proofs.«01_k».proof.Proof.Gen.Reference10Ideal.Run
public import proofs.«01_k».proof.Proof.Gen.Reference10Ideal.Read

/-!
# The reference of the attention's output projection
-/

@[expose] public section

set_option maxRecDepth 16384

noncomputable section

namespace Cert.Proj.Mix

open Cert.Proj.Scan Cert.Reference10Ideal Cert.Reference10Ideal.Read Idealize.ShloMosaic Idealize.ShloMosaic.TcCoe Idealize.SL.Sem

/-- Row `r` of the rows of two arrays, one after the other. -/
def joined (a : S4096x1024.Idx → EReal) (b : S16384x1024.Idx → EReal) (r : Fin 20480) (k : Fin 1024) : EReal :=
  if h : r.val < 4096 then a (ix2 ⟨r.val, h⟩ k) else b (ix2 ⟨r.val - 4096, by omega⟩ k)

/-- A row with the gated projection of a row of the attention added. -/
def addedTo (f : Fin 1024 → EReal) (W : Fin 1024 → Fin 1024 → EReal) (x g : Fin 1024 → EReal) (q : Fin 1024) : EReal :=
  x q + g q * ∑ e, f e * W e q

/-- A row of the rows with the projection of the attention added. -/
def sumRow (a : FVec Ideal S4096x1024 .bf16) (b : FVec Ideal S16384x1024 .bf16) (w : FVec Ideal S1x1024x1024 .f32)
    (x : FVec Ideal S4096x1024 .f32) (y : FVec Ideal S16384x1024 .f32) (g : FVec Ideal S8x1x1024 .f32) (r : Fin 20480) : Fin 1024 → EReal :=
  addedTo (joined a b r) (fun e q => w (ix3 0 e q)) (joined x y r) (fun q => g (ix3 (group r) 0 q))

/-- The rows with the projection of the attention added. -/
def sums (a : FVec Ideal S4096x1024 .bf16) (b : FVec Ideal S16384x1024 .bf16) (w : FVec Ideal S1x1024x1024 .f32)
    (x : FVec Ideal S4096x1024 .f32) (y : FVec Ideal S16384x1024 .f32) (g : FVec Ideal S8x1x1024 .f32) :
    FVec Ideal S20480x1024 .f32 := fun i => sumRow a b w x y g (i 0) (i 1)

/-- Those rows normalised, scaled and shifted. -/
def normals (a : FVec Ideal S4096x1024 .bf16) (b : FVec Ideal S16384x1024 .bf16) (w : FVec Ideal S1x1024x1024 .f32)
    (x : FVec Ideal S4096x1024 .f32) (y : FVec Ideal S16384x1024 .f32) (g : FVec Ideal S8x1x1024 .f32)
    (n : FVec Ideal S1024 .f32) (sh sc : FVec Ideal S8x1x1024 .f32) : FVec Ideal S20480x1024 .f32 := fun i =>
  modulated (sumRow a b w x y g (i 0)) (fun q => n (ix1 q)) (fun q => sc (ix3 (group (i 0)) 0 q)) (fun q => sh (ix3 (group (i 0)) 0 q)) (i 1)

/-- The reference's rows of the attention. -/
theorem joined_eq (a : FVec Ideal S4096x1024 .bf16) (b : FVec Ideal S16384x1024 .bf16) (p : Fin 20480) (k : Fin 1024) :
    val_main_v0 (F := Ideal) a b (ix2 p k) = joined a b p k := by
  unfold joined
  pointwise [val_main_v0]

/-- The reference's rows of the activations. -/
theorem joined_eq' (a : FVec Ideal S4096x1024 .f32) (b : FVec Ideal S16384x1024 .f32) (p : Fin 20480) (k : Fin 1024) :
    val_main_v2 (F := Ideal) a b (ix2 p k) = joined a b p k := by
  unfold joined
  pointwise [val_main_v2]

/-- A modulation of the reference's rows. -/
theorem group_eq (g : FVec Ideal S8x1x1024 .f32) (p : Fin 20480) (q : Fin 1024) :
    val_main_v5 (F := Ideal) g (ix2 p q) = g (ix3 (group p) 0 q) := by
  rw [val_main_v5_apply, val_main_v4_apply, val_main_v3_apply]
  have hp := p.isLt
  have hq := q.isLt
  refine congrArg g (funext fun a => Fin.ext ?_)
  fin_cases a
  · show (p.val * 1024 + q.val) / 4194304 = p.val / 4096; omega
  · rfl
  · show (p.val * 1024 + q.val) % 1024 = q.val; omega

/-- The reference's first result, row by row. -/
theorem sum_eq (a : FVec Ideal S4096x1024 .bf16) (b : FVec Ideal S16384x1024 .bf16) (w : FVec Ideal S1x1024x1024 .f32)
    (x : FVec Ideal S4096x1024 .f32) (y : FVec Ideal S16384x1024 .f32) (g : FVec Ideal S8x1x1024 .f32) (p : Fin 20480) (q : Fin 1024) :
    val_main_v9 (F := Ideal) a b w x y g (ix2 p q) = sumRow a b w x y g p q := by
  rw [val_main_v9_apply, val_main_v8_apply, group_eq, val_main_v7_apply, joined_eq']
  refine congrArg₂ (fun a b : EReal => a + b) rfl (congrArg₂ (fun a b : EReal => a * b) rfl (Finset.sum_congr rfl fun e _ => ?_))
  have he := e.isLt
  have hq := q.isLt
  refine congrArg₂ (fun a b : EReal => a * b) ?_ ?_
  · rw [val_main_v1_apply]
    refine Eq.trans (congrArg (fun i => val_main_v0 (F := Ideal) a b i) (funext fun a => Fin.ext ?_)) (joined_eq a b p e)
    fin_cases a <;> rfl
  · rw [val_main_v6_apply]
    refine congrArg w (funext fun a => Fin.ext ?_)
    fin_cases a
    · rfl
    · show (e.val * 1024 + q.val) / 1024 % 1024 = e.val; omega
    · show (e.val * 1024 + q.val) % 1024 = q.val; omega

/-- The reference's first result. -/
theorem sums_eq (a : FVec Ideal S4096x1024 .bf16) (b : FVec Ideal S16384x1024 .bf16) (w : FVec Ideal S1x1024x1024 .f32)
    (x : FVec Ideal S4096x1024 .f32) (y : FVec Ideal S16384x1024 .f32) (g : FVec Ideal S8x1x1024 .f32) :
    val_main_v9 (F := Ideal) a b w x y g = sums a b w x y g := by
  funext i
  obtain ⟨p, q, rfl⟩ : ∃ p q, i = ix2 p q := ⟨_, _, eq_ix2 i⟩
  exact sum_eq a b w x y g p q

/-- The reference's second result. -/
theorem normals_eq (a : FVec Ideal S4096x1024 .bf16) (b : FVec Ideal S16384x1024 .bf16) (w : FVec Ideal S1x1024x1024 .f32)
    (x : FVec Ideal S4096x1024 .f32) (y : FVec Ideal S16384x1024 .f32) (g : FVec Ideal S8x1x1024 .f32)
    (n : FVec Ideal S1024 .f32) (sh sc : FVec Ideal S8x1x1024 .f32) :
    val_main_v32 (F := Ideal) a b w x y g n sh sc = normals a b w x y g n sh sc := by
  funext i
  obtain ⟨p, q, rfl⟩ : ∃ p q, i = ix2 p q := ⟨_, _, eq_ix2 i⟩
  have hh : val_main_v31 (F := Ideal) sh (ix2 p q) = sh (ix3 (group p) 0 q) := group_eq sh p q
  have hc : val_main_v25 (F := Ideal) sc (ix2 p q) = sc (ix3 (group p) 0 q) := group_eq sc p q
  rw [val_main_v32_apply, hh, val_main_v28_apply, val_main_v27_apply, hc, val_main_v26_apply, val_main_v22_apply, val_main_v19_apply,
    val_main_v18_apply, val_main_v17_apply, val_main_v16_apply, val_main_v14_apply, val_main_v12_apply, val_main_v11_apply, val_main_v13_apply,
    val_main_v15_apply, val_main_v21_apply, val_main_v20_apply, val_main_cst_apply, zero_eq, sum_eq]
  have hs : ∑ k : Fin 1024, val_main_v10 (F := Ideal) a b w x y g (ix2 p k) = ∑ k : Fin 1024, sumRow a b w x y g p k * sumRow a b w x y g p k := by
    refine Finset.sum_congr rfl fun k _ => ?_
    rw [val_main_v10_apply, sum_eq]
    rfl
  have ha : ∀ k : Fin 1024, idx_main_v11 (idx_main_v12 (idx_main_v18 (ix2 p q))) k = ix2 p k := by
    intro k
    refine funext fun c => Fin.ext ?_
    fin_cases c <;> rfl
  have hb : idx_main_v20 (idx_main_v21 (ix2 p q)) = ix1 q := by
    refine funext fun c => Fin.ext ?_
    fin_cases c; rfl
  simp only [ha]
  rw [hs, hb, zero_add]
  rfl

end Cert.Proj.Mix

end
-- ==== Proof.Proj.MixBody.lean ====
module

public import proofs.«01_k».proof.Defs
public import proofs.«01_k».proof.Proof.Proj.MixReference
public import proofs.«01_k».proof.Proof.Gen.Kernel10Ideal.Frame

/-!
# A point of the attention's output projection
-/

@[expose] public section

set_option maxRecDepth 16384

noncomputable section

namespace Cert.Proj.Mix

open Cert.Proj.Scan Cert.Kernel10Ideal Cert.Kernel10Ideal.Gen Idealize.ShloMosaic Idealize.ShloMosaic.TcCoe Idealize.SL.Sem

/-- What a point takes of two blocks: the first before point 8, the second from there on. -/
def pick {s : Shape} {e : EltTy} (i : grid0.Coords) (u v : s.Idx → Elt Ideal e) : s.Idx → Elt Ideal e := if (i 0).val < 8 then u else v

/-- The choice of the kernel between two blocks. -/
theorem select_eq {s : Shape} {e : EltTy} (i : grid0.Coords) (u v : s.Idx → Elt Ideal e) :
    Scalar.select (Scalar.cmpi .slt (BitVec.ofNat 32 (i 0).val) 8#32) u v = pick i u v := by
  have h : ∀ n : Fin 40, Scalar.cmpi .slt (BitVec.ofNat 32 n.val) 8#32 = if n.val < 8 then 1#1 else 0#1 := by decide
  have hi := h (i 0)
  unfold pick
  rw [hi]
  by_cases h8 : (i 0).val < 8
  · rw [if_pos h8, if_pos h8]; rfl
  · rw [if_neg h8, if_neg h8]; rfl

/-- The weights kept in the scratch buffer: those of the block. -/
theorem kept_apply (w : FVec Ideal S1x1024x1024 .f32) (e q : Fin 1024) : k0_pay3 (F := Ideal) w (ix2 e q) = w (ix3 0 e q) := by
  pointwise [k0_pay3]

/-- The product of rows with the kept weights, gated and added. -/
theorem sum_apply (i : grid0.Coords) (a b : FVec Ideal S512x1024 .bf16) (W : FVec Ideal S1024x1024 .bf16) (x y : FVec Ideal S512x1024 .f32)
    (g : FVec Ideal S1x1x1024 .f32) (p : Fin 512) (q : Fin 1024) :
    k0_pay4 (F := Ideal) i a b W x y g (ix2 p q) = addedTo (fun k => pick (e := .bf16) i a b (ix2 p k)) (fun e k => W (ix2 e k))
      (fun k => pick (e := .f32) i x y (ix2 p k)) (fun k => g (ix3 0 0 k)) q := by
  unfold k0_pay4 addedTo
  dsimp only
  rw [select_eq (e := .bf16) i a b, select_eq (e := .f32) i x y]
  generalize pick (e := .bf16) i a b = f
  generalize pick (e := .f32) i x y = z
  pointwise []

/-- The normalised rows, scaled and shifted. -/
theorem normal_apply (i : grid0.Coords) (a b : FVec Ideal S512x1024 .bf16) (W : FVec Ideal S1024x1024 .bf16) (x y : FVec Ideal S512x1024 .f32)
    (g : FVec Ideal S1x1x1024 .f32) (w : FVec Ideal S1x1024 .f32) (sc sh : FVec Ideal S1x1x1024 .f32) (p : Fin 512) (q : Fin 1024) :
    k0_pay1 (F := Ideal) (k0_pay5 (F := Ideal) i a b W x y g) (k0_pay6 (F := Ideal) w) sc sh (ix2 p q)
      = modulated (fun k => k0_pay4 (F := Ideal) i a b W x y g (ix2 p k)) (fun k => w (ix2 0 k))
        (fun k => sc (ix3 0 0 k)) (fun k => sh (ix3 0 0 k)) q := by
  unfold k0_pay5 modulated rms
  dsimp only
  generalize k0_pay4 (F := Ideal) i a b W x y g = v
  pointwise [k0_pay1, k0_pay6]

section Body

variable (c : Dev nD) (i : grid0.Coords) (arg1 : Memref sig .tc .vmem S512x1024 .bf16) (harg1 : arg1.IsWhole)
  (arg2 : Memref sig .tc .vmem S512x1024 .bf16) (harg2 : arg2.IsWhole) (arg3 : Memref sig .tc .vmem S1x1024x1024 .f32) (harg3 : arg3.IsWhole)
  (arg4 : Memref sig .tc .vmem S512x1024 .f32) (harg4 : arg4.IsWhole) (arg5 : Memref sig .tc .vmem S512x1024 .f32) (harg5 : arg5.IsWhole)
  (arg6 : Memref sig .tc .vmem S1x1x1024 .f32) (harg6 : arg6.IsWhole) (arg7 : Memref sig .tc .vmem S1x1024 .f32) (harg7 : arg7.IsWhole)
  (arg8 : Memref sig .tc .vmem S1x1x1024 .f32) (harg8 : arg8.IsWhole) (arg9 : Memref sig .tc .vmem S1x1x1024 .f32) (harg9 : arg9.IsWhole)
  (arg10 : Memref sig .tc .vmem S16x1024 .f32) (harg10 : arg10.IsWhole) (arg11 : Memref sig .tc .vmem S512x1024 .f32) (harg11 : arg11.IsWhole)
  (arg12 : Memref sig .tc .vmem S512x1024 .f32) (harg12 : arg12.IsWhole) (arg13 : Memref sig .tc .vmem S16x512 .f32) (harg13 : arg13.IsWhole)
  (arg14 : Memref sig .tc .vmem S1024x1024 .bf16) (harg14 : arg14.IsWhole)
  (x0 x1 : FVec Ideal S512x1024 .bf16) (x2 : FVec Ideal S1x1024x1024 .f32) (x3 x4 : FVec Ideal S512x1024 .f32)
  (x5 : FVec Ideal S1x1x1024 .f32) (x6 : FVec Ideal S1x1024 .f32) (x7 x8 : FVec Ideal S1x1x1024 .f32)
  (x9 : FVec Ideal S16x1024 .f32) (xs0 : FVec Ideal S1024x1024 .bf16)

/-- The first point keeps the weights of its block. -/
theorem scratch_first (hc0 : cond0_0 i) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay3 (F := Ideal) x2 := by
  unfold sout0_A_0
  rw [View.read_writes_junk_eq_canon]
  funext y
  refine (store_whole (e := .bf16) _ _ (by decide) _ y).trans ?_
  exact congrArg (fun w => k0_pay3 (F := Ideal) w y) (load_whole harg3 _ _ (by decide) x2)

/-- The weights the first point reads back. -/
theorem weights_first : kernelRun0_A.sl.v7 (F := Ideal) c arg3 harg3 arg14 x2 = k0_pay3 (F := Ideal) x2 := by
  funext y
  unfold kernelRun0_A.sl.v7
  rw [View.readCov_eq_canon']
  refine (congrArg (View.canon _) (emb_whole _ _ (by decide) y)).trans ?_
  refine (store_whole (e := .bf16) _ _ (by decide) _ y).trans ?_
  exact congrArg (fun w => k0_pay3 (F := Ideal) w y) (load_whole harg3 _ _ (by decide) x2)

/-- The first point's normalised rows. -/
theorem scaled_first :
    kernelRun0_A.sl.r (F := Ideal) c i arg1 harg1 arg2 harg2 arg3 harg3 arg4 harg4 arg5 harg5 arg6 harg6 arg14 x0 x1 x2 x3 x4 x5
      = k0_pay5 (F := Ideal) i x0 x1 (k0_pay3 (F := Ideal) x2) x3 x4 x5 := by
  unfold kernelRun0_A.sl.r
  rw [load_whole harg1 _ _ (by decide) x0, load_whole harg2 _ _ (by decide) x1, load_whole harg4 _ _ (by decide) x3, load_whole harg5 _ _ (by decide) x4, load_whole harg6 _ _ (by decide) x5, weights_first]

/-- The weights of the normalisation, at the first point. -/
theorem norm_first : kernelRun0_A.sl.r_1 (F := Ideal) c arg7 harg7 x6 = k0_pay6 (F := Ideal) x6 :=
  congrArg (fun w => k0_pay6 (F := Ideal) w) (load_whole harg7 _ _ (by decide) x6)

/-- A later point's normalised rows. -/
theorem scaled_later :
    kernelRun0_B.sl.r (F := Ideal) c i arg1 harg1 arg2 harg2 arg4 harg4 arg5 harg5 arg6 harg6 arg14 harg14 x0 x1 x3 x4 x5 xs0
      = k0_pay5 (F := Ideal) i x0 x1 xs0 x3 x4 x5 := by
  unfold kernelRun0_B.sl.r
  rw [load_whole harg1 _ _ (by decide) x0, load_whole harg2 _ _ (by decide) x1, load_whole harg4 _ _ (by decide) x3, load_whole harg5 _ _ (by decide) x4, load_whole harg6 _ _ (by decide) x5, load_whole harg14 _ _ (by decide) xs0]

/-- The weights of the normalisation, at a later point. -/
theorem norm_later : kernelRun0_B.sl.r_1 (F := Ideal) c arg7 harg7 x6 = k0_pay6 (F := Ideal) x6 :=
  congrArg (fun w => k0_pay6 (F := Ideal) w) (load_whole harg7 _ _ (by decide) x6)

/-- The first point's rows with the projection added. -/
theorem rows_first (hc0 : cond0_0 i) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9
      = k0_pay4 (F := Ideal) i x0 x1 (k0_pay3 (F := Ideal) x2) x3 x4 x5 := by
  unfold out0_A_10
  rw [View.read_writes_junk_eq_canon]
  funext y
  refine (store_whole (e := .f32) _ _ (by decide) _ y).trans ?_
  rw [load_whole harg1 _ _ (by decide) x0, load_whole harg2 _ _ (by decide) x1, load_whole harg4 _ _ (by decide) x3, load_whole harg5 _ _ (by decide) x4, load_whole harg6 _ _ (by decide) x5, weights_first]

/-- The first point's normalised rows, scaled and shifted. -/
theorem normed_first (hc0 : cond0_0 i) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9
      = k0_pay1 (F := Ideal) (k0_pay5 (F := Ideal) i x0 x1 (k0_pay3 (F := Ideal) x2) x3 x4 x5) (k0_pay6 (F := Ideal) x6) x8 x7 := by
  unfold out0_A_11
  rw [View.read_writes_junk_eq_canon]
  funext y
  refine (store_whole (e := .f32) _ _ (by decide) _ y).trans ?_
  rw [scaled_first, norm_first, load_whole harg8 _ _ (by decide) x7, load_whole harg9 _ _ (by decide) x8]

/-- A later point's rows with the projection added. -/
theorem rows_later (hc0 : ¬cond0_0 i) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0
      = k0_pay4 (F := Ideal) i x0 x1 xs0 x3 x4 x5 := by
  unfold out0_B_10
  rw [View.read_writes_junk_eq_canon]
  funext y
  refine (store_whole (e := .f32) _ _ (by decide) _ y).trans ?_
  rw [load_whole harg1 _ _ (by decide) x0, load_whole harg2 _ _ (by decide) x1, load_whole harg4 _ _ (by decide) x3, load_whole harg5 _ _ (by decide) x4, load_whole harg6 _ _ (by decide) x5, load_whole harg14 _ _ (by decide) xs0]

/-- A later point's normalised rows, scaled and shifted. -/
theorem normed_later (hc0 : ¬cond0_0 i) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0
      = k0_pay1 (F := Ideal) (k0_pay5 (F := Ideal) i x0 x1 xs0 x3 x4 x5) (k0_pay6 (F := Ideal) x6) x8 x7 := by
  unfold out0_B_11
  rw [View.read_writes_junk_eq_canon]
  funext y
  refine (store_whole (e := .f32) _ _ (by decide) _ y).trans ?_
  rw [scaled_later, norm_later, load_whole harg8 _ _ (by decide) x7, load_whole harg9 _ _ (by decide) x8]

end Body

end Cert.Proj.Mix

end
-- ==== Proof.Proj.MixOut.lean ====
module

public import proofs.«01_k».proof.Defs
public import proofs.«01_k».proof.Proof.Proj.MixBody
public import proofs.«01_k».proof.Proof.Proj.MixReference
public import proofs.«01_k».proof.Proof.Gen.Kernel10.Frame
public import proofs.«01_k».proof.Proof.Gen.Kernel10Ideal.Value

/-!
# The attention's output projection
-/

@[expose] public section

set_option maxRecDepth 16384

noncomputable section

namespace Cert.Proj.Mix

open Cert.Proj.Scan Cert.Kernel10Ideal Cert.Kernel10Ideal.Gen Idealize.ShloMosaic Idealize.ShloMosaic.TcCoe Idealize.SL.Sem

variable (m : (ℓ : Loc nD τ sig) → Buf (Elt Ideal) ℓ)

/-- The blocks a point works on: their modulations, the weights, and rows `512 t` onwards of the results. -/
theorem idx : ∀ t : Fin cfg0.N, win0_2.index t = ![0, 0, 0] ∧ win0_5.index t = ![t.val / 8, 0, 0] ∧ win0_6.index t = ![0, 0]
    ∧ win0_7.index t = ![t.val / 8, 0, 0] ∧ win0_8.index t = ![t.val / 8, 0, 0] ∧ win0_10.index t = ![t.val, 0] ∧ win0_11.index t = ![t.val, 0] :=
  (by decide +kernel : ∀ t : Fin grid0.N, _)

/-- The blocks of the first arrays, before point 8. -/
theorem idx_first : ∀ t : Fin cfg0.N, t.val < 8 → win0_0.index t = ![t.val, 0] ∧ win0_3.index t = ![t.val, 0] :=
  (by decide +kernel : ∀ t : Fin grid0.N, _)

/-- The blocks of the second arrays, from point 8 on. -/
theorem idx_second : ∀ t : Fin cfg0.N, ¬t.val < 8 → win0_1.index t = ![t.val - 8, 0] ∧ win0_4.index t = ![t.val - 8, 0] :=
  (by decide +kernel : ∀ t : Fin grid0.N, _)

/-- A point's only coordinate is its number. -/
theorem coord : ∀ t : Fin cfg0.N, ((grid0.coords t) 0).val = t.val := (by decide +kernel : ∀ t : Fin grid0.N, _)

/-- Row `p` of a point's block. -/
def row (t : Fin cfg0.N) (p : Fin 512) : Fin 20480 := ⟨512 * t.val + p.val, by have h : t.val < 40 := lt_of_lt_of_eq t.isLt N_0; omega⟩

/-- The modulation of a point's rows. -/
theorem group_row (t : Fin cfg0.N) (p : Fin 512) :
    group (row t p) = ⟨t.val / 8, by have h : t.val < 40 := lt_of_lt_of_eq t.isLt N_0; omega⟩ := by
  refine Fin.ext ?_
  show (512 * t.val + p.val) / 4096 = t.val / 8
  omega

/-- A point's rows of the attention. -/
theorem read_mixed (c : Dev nD) (t : Fin cfg0.N) (p : Fin 512) (k : Fin 1024) :
    pick (e := .bf16) (grid0.coords t) (iblk m c 0 t : FVec Ideal S512x1024 .bf16) (iblk m c 1 t : FVec Ideal S512x1024 .bf16) (ix2 p k)
      = joined (m ((c : Thread nD τ).loc main_arg0) : FVec Ideal S4096x1024 .bf16) (m ((c : Thread nD τ).loc main_arg1) : FVec Ideal S16384x1024 .bf16) (row t p) k := by
  have h40 : t.val < 40 := lt_of_lt_of_eq t.isLt N_0
  have hp := p.isLt
  unfold pick joined row
  rw [coord t]
  by_cases h : t.val < 8
  · rw [if_pos h, dif_pos (show 512 * t.val + p.val < 4096 by omega)]
    blk_point [iblk, V, idx_first t h]
  · rw [if_neg h, dif_neg (show ¬512 * t.val + p.val < 4096 by omega)]
    blk_point [iblk, V, idx_second t h]

/-- A point's rows of the activations. -/
theorem read_rows (c : Dev nD) (t : Fin cfg0.N) (p : Fin 512) (k : Fin 1024) :
    pick (e := .f32) (grid0.coords t) (iblk m c 3 t : FVec Ideal S512x1024 .f32) (iblk m c 4 t : FVec Ideal S512x1024 .f32) (ix2 p k)
      = joined (m ((c : Thread nD τ).loc main_arg3) : FVec Ideal S4096x1024 .f32) (m ((c : Thread nD τ).loc main_arg4) : FVec Ideal S16384x1024 .f32) (row t p) k := by
  have h40 : t.val < 40 := lt_of_lt_of_eq t.isLt N_0
  have hp := p.isLt
  unfold pick joined row
  rw [coord t]
  by_cases h : t.val < 8
  · rw [if_pos h, dif_pos (show 512 * t.val + p.val < 4096 by omega)]
    blk_point [iblk, V, idx_first t h]
  · rw [if_neg h, dif_neg (show ¬512 * t.val + p.val < 4096 by omega)]
    blk_point [iblk, V, idx_second t h]

/-- The weights of the projection. -/
theorem read_weights (c : Dev nD) (t : Fin cfg0.N) (e q : Fin 1024) :
    (iblk m c 2 t : FVec Ideal S1x1024x1024 .f32) (ix3 0 e q)
      = (m ((c : Thread nD τ).loc main_arg2) : FVec Ideal S1x1024x1024 .f32) (ix3 0 e q) := by
  blk_point [iblk, V, idx t]

/-- The gate of a point's rows. -/
theorem read_gate (c : Dev nD) (t : Fin cfg0.N) (p : Fin 512) (k : Fin 1024) :
    (iblk m c 5 t : FVec Ideal S1x1x1024 .f32) (ix3 0 0 k)
      = (m ((c : Thread nD τ).loc main_arg5) : FVec Ideal S8x1x1024 .f32) (ix3 (group (row t p)) 0 k) := by
  rw [group_row]
  blk_point [iblk, V, idx t]

/-- The shift of a point's rows. -/
theorem read_shift (c : Dev nD) (t : Fin cfg0.N) (p : Fin 512) (k : Fin 1024) :
    (iblk m c 7 t : FVec Ideal S1x1x1024 .f32) (ix3 0 0 k)
      = (m ((c : Thread nD τ).loc main_arg7) : FVec Ideal S8x1x1024 .f32) (ix3 (group (row t p)) 0 k) := by
  rw [group_row]
  blk_point [iblk, V, idx t]

/-- The scale of a point's rows. -/
theorem read_scale (c : Dev nD) (t : Fin cfg0.N) (p : Fin 512) (k : Fin 1024) :
    (iblk m c 8 t : FVec Ideal S1x1x1024 .f32) (ix3 0 0 k)
      = (m ((c : Thread nD τ).loc main_arg8) : FVec Ideal S8x1x1024 .f32) (ix3 (group (row t p)) 0 k) := by
  rw [group_row]
  blk_point [iblk, V, idx t]

/-- The weights of the rows' normalisation. -/
theorem read_norm (c : Dev nD) (t : Fin cfg0.N) (k : Fin 1024) :
    (iblk m c 6 t : FVec Ideal S1x1024 .f32) (ix2 0 k)
      = (m ((c : Thread nD τ).loc main_arg6) : FVec Ideal S1024 .f32) (ix1 k) := by
  blk_point [iblk, V, idx t]

/-- After every point the scratch buffer holds the projection's weights. -/
theorem scratch_eq (c : Dev nD) : ∀ (n : ℕ) (hn : n < cfg0.N) (e : Fin 1024) (q : Fin 1024), (outsAt0 m c n hn).2.2.2 (ix2 e q)
    = (m ((c : Thread nD τ).loc main_arg2) : FVec Ideal S1x1024x1024 .f32) (ix3 0 e q) := by
  intro n
  induction n with
  | zero =>
    intro hn e q
    rw [outsAt0_A m c ⟨0, hn⟩ rfl]
    dsimp only
    rw [scratch_first]
    exact (kept_apply _ e q).trans (read_weights m c ⟨0, hn⟩ e q)
  | succ n ih =>
    intro hn e q
    have h40 : n + 1 < 40 := lt_of_lt_of_eq hn N_0
    have h := outsAt0_B m c ⟨n + 1, hn⟩ (by simp only; omega)
    refine (congrFun (congrArg (fun r => r.2.2.2) h) (ix2 e q)).trans ?_
    dsimp only [sout0_B_0]
    exact ih (Nat.lt_of_succ_lt hn) e q

/-- The rows with the projection added, from a point's blocks and weights that are the projection's. -/
theorem sumRow_eq (c : Dev nD) (t : Fin cfg0.N) (W : FVec Ideal S1024x1024 .bf16)
    (hW : ∀ e q, W (ix2 e q) = (m ((c : Thread nD τ).loc main_arg2) : FVec Ideal S1x1024x1024 .f32) (ix3 0 e q)) (p : Fin 512) (q : Fin 1024) :
    k0_pay4 (F := Ideal) (grid0.coords t) (iblk m c 0 t) (iblk m c 1 t) W (iblk m c 3 t) (iblk m c 4 t) (iblk m c 5 t) (ix2 p q)
      = sumRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t p) q := by
  refine (sum_apply _ _ _ _ _ _ _ p q).trans ?_
  unfold sumRow
  rw [funext fun k => read_mixed m c t p k, funext fun e => funext fun q => hW e q, funext fun k => read_rows m c t p k,
    funext fun k => read_gate m c t p k]

/-- A point's block of the first result. -/
theorem sums_block (c : Dev nD) (t : Fin cfg0.N) (y : S512x1024.Idx) : (outsAt0 m c t.val t.isLt).1 y
    = sums (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t (y 0)) (y 1)) := by
  unfold sums
  by_cases h : t.val % 40 = 0
  · rw [outsAt0_A m c t h]
    dsimp only
    rw [rows_first]
    refine (congrArg _ (eq_ix2 y)).trans (sumRow_eq m c t _ ?_ (y 0) (y 1))
    exact fun e q => (kept_apply _ e q).trans (read_weights m c t e q)
  · rw [outsAt0_B m c t h]
    dsimp only
    rw [rows_later]
    refine (congrArg _ (eq_ix2 y)).trans (sumRow_eq m c t _ ?_ (y 0) (y 1))
    exact fun e q => scratch_eq m c _ _ e q

/-- The normalised rows, from a point's blocks and weights that are the projection's. -/
theorem normal_eq (c : Dev nD) (t : Fin cfg0.N) (W : FVec Ideal S1024x1024 .bf16)
    (hW : ∀ e q, W (ix2 e q) = (m ((c : Thread nD τ).loc main_arg2) : FVec Ideal S1x1024x1024 .f32) (ix3 0 e q)) (y : S512x1024.Idx) :
    k0_pay1 (F := Ideal) (k0_pay5 (F := Ideal) (grid0.coords t) (iblk m c 0 t) (iblk m c 1 t) W (iblk m c 3 t) (iblk m c 4 t) (iblk m c 5 t))
        (k0_pay6 (F := Ideal) (iblk m c 6 t)) (iblk m c 8 t) (iblk m c 7 t) y
      = normals (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (row t (y 0)) (y 1)) := by
  refine (congrArg _ (eq_ix2 y)).trans ((normal_apply _ _ _ _ _ _ _ _ _ _ (y 0) (y 1)).trans ?_)
  rw [funext fun k => sumRow_eq m c t W hW (y 0) k, funext fun k => read_norm m c t k, funext fun k => read_scale m c t (y 0) k,
    funext fun k => read_shift m c t (y 0) k]
  rfl

/-- A point's block of the second result. -/
theorem normals_block (c : Dev nD) (t : Fin cfg0.N) (y : S512x1024.Idx) : (outsAt0 m c t.val t.isLt).2.1 y
    = normals (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (ix2 (row t (y 0)) (y 1)) := by
  by_cases h : t.val % 40 = 0
  · rw [outsAt0_A m c t h]
    dsimp only
    rw [normed_first]
    exact normal_eq m c t _ (fun e q => (kept_apply _ e q).trans (read_weights m c t e q)) y
  · rw [outsAt0_B m c t h]
    dsimp only
    rw [normed_later]
    exact normal_eq m c t _ (fun e q => scratch_eq m c _ _ e q) y

/-- The kernel's first result. -/
theorem final_sums (c : Dev nD) : (dats m 0 c).arrAt 10 (cfgs 0).N
    = sums (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after0_10]
  refine (sums_block m c t y).trans ?_
  unfold row
  blk_ext [idx t]

/-- The kernel's second result. -/
theorem final_normals (c : Dev nD) : (dats m 0 c).arrAt 11 (cfgs 0).N
    = normals (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 11 _ (by decide +kernel) fun t hf y => ?_
  blk_simp
  rw [after0_11]
  refine (normals_block m c t y).trans ?_
  unfold row
  blk_ext [idx t]

/-- The frame of the kernel. -/
theorem frameBits : Cert.quiescent_Kernel10 := fun m g _ => Cert.Kernel10.Gen.frame m g

/-- The frame of its ideal reading. -/
theorem frameIdeal : Cert.quiescent_Kernel10Ideal := fun m g _ => Cert.Kernel10Ideal.Gen.frame m g

/-- The frame of the reference. -/
theorem frameReference : Cert.quiescent_Reference10Ideal := fun m g _ =>
  (θ_run Cert.Reference10Ideal.defs _ _).mono (fun r h => ⟨fun c => (h c).2.2, sem_eq_zero_of_no_sems (by decide) r.2⟩)
    (Cert.Reference10Ideal.Value.run (F := Ideal) m g)

/-- Over the extended reals the kernel and its reference end with equal results. -/
theorem algebraic : Cert.algebraic_Kernel10Ideal_Reference10Ideal := by
  intro m g m' g' _ hagree
  refine ⟨fun c => sums (m ((c.tc : Thread _ _).loc Cert.Kernel10Ideal.main_arg0)) (m ((c.tc : Thread _ _).loc Cert.Kernel10Ideal.main_arg1))
      (m ((c.tc : Thread _ _).loc Cert.Kernel10Ideal.main_arg2)) (m ((c.tc : Thread _ _).loc Cert.Kernel10Ideal.main_arg3))
      (m ((c.tc : Thread _ _).loc Cert.Kernel10Ideal.main_arg4)) (m ((c.tc : Thread _ _).loc Cert.Kernel10Ideal.main_arg5)),
    fun c => normals (m ((c.tc : Thread _ _).loc Cert.Kernel10Ideal.main_arg0)) (m ((c.tc : Thread _ _).loc Cert.Kernel10Ideal.main_arg1))
      (m ((c.tc : Thread _ _).loc Cert.Kernel10Ideal.main_arg2)) (m ((c.tc : Thread _ _).loc Cert.Kernel10Ideal.main_arg3))
      (m ((c.tc : Thread _ _).loc Cert.Kernel10Ideal.main_arg4)) (m ((c.tc : Thread _ _).loc Cert.Kernel10Ideal.main_arg5))
      (m ((c.tc : Thread _ _).loc Cert.Kernel10Ideal.main_arg6)) (m ((c.tc : Thread _ _).loc Cert.Kernel10Ideal.main_arg7))
      (m ((c.tc : Thread _ _).loc Cert.Kernel10Ideal.main_arg8)), ?_, ?_⟩
  · refine (θ_run _ _ _).mono (fun r h c => ?_) (Cert.Kernel10Ideal.Value.run_blocks m g)
    exact ⟨(h c).1.trans (final_sums m c), (h c).2.1.trans (final_normals m c), (h c).2.2.2⟩
  · refine (θ_run _ _ _).mono (fun r h c => ?_) (Cert.Reference10Ideal.Value.run m' g')
    obtain ⟨h0, h1, h2, h3, h4, h5, h6, h7, h8, h9⟩ := hagree c
    refine ⟨(h c).1.trans ?_, (h c).2.1.trans ?_, (h c).2.2⟩
    · refine (Cert.Reference10Ideal.Read.val_main_v9_eq _ _ _ _ _ _).trans ((sums_eq _ _ _ _ _ _).trans ?_)
      dsimp only
      rw [h0, h1, h2, h3, h4, h5]
    · refine (Cert.Reference10Ideal.Read.val_main_v32_eq _ _ _ _ _ _ _ _ _).trans ((normals_eq _ _ _ _ _ _ _ _ _).trans ?_)
      dsimp only
      rw [h0, h1, h2, h3, h4, h5, h6, h7, h8]

end Cert.Proj.Mix

end
-- ==== Proof.Proj.Queries.lean ====
module

public import proofs.«01_k».proof.Defs
public import proofs.«01_k».proof.Proof.Proj.Keys
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read

/-!
# The projection of the prompt's queries
-/

@[expose] public section

set_option maxRecDepth 16384

noncomputable section

namespace Cert.Proj.Queries

open Cert.Kernel11Ideal Cert.Kernel11Ideal.Gen Idealize.ShloMosaic Idealize.ShloMosaic.TcCoe Idealize.SL.Sem

/-- Column `q` of this projection, among the columns of the packed weights. -/
def column (q : Fin 1024) : Fin 3072 := ⟨q.val, by omega⟩

section Body

variable (c : Dev nD) (i : grid0.Coords) (arg2 : Memref sig .tc .vmem S1024x1024 .bf16) (harg2 : arg2.IsWhole)
  (arg3 : Memref sig .tc .vmem S1x1024x1024 .f32) (harg3 : arg3.IsWhole) (arg4 : Memref sig .tc .vmem S1024x1024 .f32) (harg4 : arg4.IsWhole)
  (arg5 : Memref sig .tc .vmem S1024x1024 .bf16) (harg5 : arg5.IsWhole)
  (x0 : FVec Ideal S1024x1024 .bf16) (x1 : FVec Ideal S1x1024x1024 .f32) (xs0 : FVec Ideal S1024x1024 .bf16)

/-- The first point keeps the weights of its block. -/
theorem scratch_first (hc0 : cond0_0 i) (y : S1024x1024.Idx) :
    sout0_A_0 (F := Ideal) c i arg2 harg2 arg3 harg3 arg4 harg4 arg5 harg5 hc0 x0 x1 y = x1 (ix3 0 (y 0) (y 1)) :=
  Cert.Proj.Keys.scratch_first c i arg2 harg2 arg3 harg3 arg4 harg4 arg5 harg5 x0 x1 hc0 y

/-- The first point's block: its rows times the weights it has just kept. -/
theorem out_first (hc0 : cond0_0 i) (y : S1024x1024.Idx) :
    out0_A_2 (F := Ideal) c i arg2 harg2 arg3 harg3 arg4 harg4 arg5 harg5 hc0 x0 x1 y = ∑ e : Fin 1024, x0 (ix2 (y 0) e) * x1 (ix3 0 e (y 1)) :=
  Cert.Proj.Keys.out_first c i arg2 harg2 arg3 harg3 arg4 harg4 arg5 harg5 x0 x1 hc0 y

/-- A later point's block: its rows times the weights kept before. -/
theorem out_later (hc0 : ¬cond0_0 i) (y : S1024x1024.Idx) :
    out0_B_2 (F := Ideal) c i arg2 harg2 arg3 harg3 arg4 harg4 arg5 harg5 hc0 x0 x1 xs0 y = ∑ e : Fin 1024, x0 (ix2 (y 0) e) * xs0 (ix2 e (y 1)) :=
  Cert.Proj.Keys.out_later c i arg2 harg2 arg3 harg3 arg4 harg4 arg5 harg5 x0 x1 xs0 hc0 y

end Body

variable (m : (ℓ : Loc nD τ sig) → Buf (Elt Ideal) ℓ)

/-- The blocks a point works on: rows `1024 t` onwards, and the projection's columns. -/
theorem idx : ∀ t : Fin cfg0.N, win0_0.index t = ![t.val, 0] ∧ win0_1.index t = ![0, 0, 0] ∧ win0_2.index t = ![t.val, 0] :=
  (by decide +kernel : ∀ t : Fin grid0.N, _)

/-- Row `p` of a point's block. -/
def row (t : Fin cfg0.N) (p : Fin 1024) : Fin 20480 := ⟨1024 * t.val + p.val, by have h : t.val < 4 := lt_of_lt_of_eq t.isLt N_0; omega⟩

/-- The rows of a point. -/
theorem read_rows (c : Dev nD) (t : Fin cfg0.N) (p e : Fin 1024) :
    (iblk m c 0 t : FVec Ideal S1024x1024 .bf16) (ix2 p e) = (m ((c : Thread nD τ).loc main_arg0) : FVec Ideal S20480x1024 .bf16) (ix2 (row t p) e) := by
  unfold row
  blk_point [iblk, V, idx t]

/-- The weights of a point. -/
theorem read_columns (c : Dev nD) (t : Fin cfg0.N) (e q : Fin 1024) :
    (iblk m c 1 t : FVec Ideal S1x1024x1024 .f32) (ix3 0 e q)
      = (m ((c : Thread nD τ).loc main_arg1) : FVec Ideal S1x1024x3072 .f32) (ix3 0 e (column q)) := by
  unfold column
  blk_point [iblk, V, idx t]

/-- The projection of the prompt's rows to its columns. -/
def proj (x : FVec Ideal S20480x1024 .bf16) (w : FVec Ideal S1x1024x3072 .f32) : FVec Ideal S4096x1024 .f32 := fun y =>
  ∑ e : Fin 1024, x (ix2 ⟨(y 0).val, lt_trans (y 0).isLt (by decide)⟩ e) * w (ix3 0 e (column (y 1)))

/-- After every point the scratch buffer holds the projection's weights. -/
theorem scratch_eq (c : Dev nD) : ∀ (n : ℕ) (hn : n < cfg0.N) (e q : Fin 1024), (outsAt0 m c n hn).2 (ix2 e q)
    = (m ((c : Thread nD τ).loc main_arg1) : FVec Ideal S1x1024x3072 .f32) (ix3 0 e (column q)) := by
  intro n
  induction n with
  | zero =>
    intro hn e q
    rw [outsAt0_A m c ⟨0, hn⟩ rfl]
    dsimp only
    exact (scratch_first c (grid0.coords ⟨0, hn⟩) _ _ _ _ _ _ _ _ _ _ _ (ix2 e q)).trans (read_columns m c ⟨0, hn⟩ e q)
  | succ n ih =>
    intro hn e q
    have h4 : n + 1 < 4 := lt_of_lt_of_eq hn N_0
    have h := outsAt0_B m c ⟨n + 1, hn⟩ (by simp only; omega)
    refine (congrFun (congrArg Prod.snd h) (ix2 e q)).trans ?_
    dsimp only [sout0_B_0]
    exact ih (Nat.lt_of_succ_lt hn) e q

/-- A point's block of the result, from its rows and the projection's weights. -/
theorem block_eq (x : FVec Ideal S20480x1024 .bf16) (w : FVec Ideal S1x1024x3072 .f32) (c : Dev nD) (t : Fin cfg0.N) (hx : m ((c : Thread nD τ).loc main_arg0) = x)
    (hw : m ((c : Thread nD τ).loc main_arg1) = w) (y : S1024x1024.Idx) :
    (outsAt0 m c t.val t.isLt).1 y = ∑ e : Fin 1024, x (ix2 (row t (y 0)) e) * w (ix3 0 e (column (y 1))) := by
  subst hx hw
  by_cases h : t.val % 4 = 0
  · rw [outsAt0_A m c t h]
    dsimp only
    refine (out_first c (grid0.coords t) _ _ _ _ _ _ _ _ _ _ _ y).trans (Finset.sum_congr rfl fun e _ => ?_)
    exact congrArg₂ (fun a b : EReal => a * b) (read_rows m c t (y 0) e) (read_columns m c t e (y 1))
  · rw [outsAt0_B m c t h]
    dsimp only
    refine (out_later c (grid0.coords t) _ _ _ _ _ _ _ _ _ _ _ _ y).trans (Finset.sum_congr rfl fun e _ => ?_)
    exact congrArg₂ (fun a b : EReal => a * b) (read_rows m c t (y 0) e) (scratch_eq m c _ _ e (y 1))

/-- The kernel's result: the projection of its arguments. -/
theorem final (c : Dev nD) : (dats m 0 c).arrAt 2 (cfgs 0).N
    = proj (m ((c : Thread nD τ).loc main_arg0)) (m ((c : Thread nD τ).loc main_arg1)) := by
  refine (dats m 0 c).arrAt_eq_of_covers 2 _ (by decide +kernel) fun t hf y => ?_
  blk_simp
  rw [after0_2]
  refine (block_eq m _ _ c t rfl rfl y).trans ?_
  unfold proj row column
  refine Finset.sum_congr rfl fun e _ => ?_
  refine congrArg₂ (fun a b : EReal => a * b) ?_ ?_
  · blk_ext [idx t]
  · blk_ext [idx t]

/-- The reference's result: the projection of its arguments. -/
theorem reference_eq (x : FVec Ideal S20480x1024 .bf16) (w : FVec Ideal S1x1024x3072 .f32) :
    Cert.Reference11Ideal.Read.val_main_v4 (F := Ideal) x w = proj x w := by
  funext y
  obtain ⟨p, q, rfl⟩ : ∃ p q, y = ix2 p q := ⟨_, _, eq_ix2 y⟩
  rw [Cert.Reference11Ideal.Read.val_main_v4_apply, Cert.Reference11Ideal.Read.val_main_v3_apply]
  refine Finset.sum_congr rfl fun e _ => ?_
  rw [Cert.Reference11Ideal.Read.val_main_v1_apply, Cert.Reference11Ideal.Read.val_main_v0_apply, Cert.Reference11Ideal.Read.val_main_v2_apply]
  have he := e.isLt
  have hq := q.isLt
  refine congrArg₂ (fun a b : EReal => a * b) (congrArg x (funext fun a => Fin.ext ?_)) (congrArg w (funext fun a => Fin.ext ?_))
  · fin_cases a <;> rfl
  · fin_cases a
    · rfl
    · show (e.val * 3072 + q.val) / 3072 % 1024 = e.val; omega
    · show (e.val * 3072 + q.val) % 3072 = q.val; omega

/-- The frame of the kernel. -/
theorem frameBits : Cert.quiescent_Kernel11 := fun m g _ => Cert.Kernel11.Gen.frame m g

/-- The frame of its ideal reading. -/
theorem frameIdeal : Cert.quiescent_Kernel11Ideal := fun m g _ => Cert.Kernel11Ideal.Gen.frame m g

/-- The frame of the reference. -/
theorem frameReference : Cert.quiescent_Reference11Ideal := fun m g _ =>
  (θ_run Cert.Reference11Ideal.defs _ _).mono (fun r h => ⟨fun c => (h c).2, sem_eq_zero_of_no_sems (by decide) r.2⟩)
    (Cert.Reference11Ideal.Value.run (F := Ideal) m g)

/-- Over the extended reals the kernel and its reference end with equal results. -/
theorem algebraic : Cert.algebraic_Kernel11Ideal_Reference11Ideal := by
  intro m g m' g' _ hagree
  refine ⟨fun c => proj (m ((c.tc : Thread _ _).loc Cert.Kernel11Ideal.main_arg0)) (m ((c.tc : Thread _ _).loc Cert.Kernel11Ideal.main_arg1)), ?_, ?_⟩
  · refine (θ_run _ _ _).mono (fun r h c => ?_) (Cert.Kernel11Ideal.Value.run_blocks m g)
    exact ⟨(h c).1.trans (final m c), (h c).2⟩
  · refine (θ_run _ _ _).mono (fun r h c => ?_) (Cert.Reference11Ideal.Value.run m' g')
    obtain ⟨h0, h1⟩ := hagree c
    refine ⟨(h c).1.trans ?_, (h c).2⟩
    refine (Cert.Reference11Ideal.Read.val_main_v4_eq _ _).trans ((reference_eq _ _).trans ?_)
    dsimp only
    rw [h0, h1]

end Cert.Proj.Queries

end
-- ==== Proof.lean ====
module

public import proofs.«01_k».proof.Defs
public import proofs.«01_k».proof.Proof.PreFacts
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Moe.Claims
public import proofs.«01_k».proof.Proof.Attn.Claims
public import proofs.«01_k».proof.Proof.Proj.Keys
public import proofs.«01_k».proof.Proof.Proj.Values
public import proofs.«01_k».proof.Proof.Norm.Prompt
public import proofs.«01_k».proof.Proof.Norm.Samples
public import proofs.«01_k».proof.Proof.Proj.Packed
public import proofs.«01_k».proof.Proof.Proj.Gate
public import proofs.«01_k».proof.Proof.Proj.ScanOut
public import proofs.«01_k».proof.Proof.Proj.MixOut
public import proofs.«01_k».proof.Proof.Proj.Queries

@[expose] public section

noncomputable section

namespace Cert.Proof

open Idealize.ShloMosaic Idealize.SL.Sem

instance : Cert.Pre_finite.Facts := Cert.Attn.preFacts

/-- The frame of the attention kernel. -/
theorem attnFrame : Cert.quiescent_Kernel := fun m g _ => Cert.Kernel.Gen.frame m g

/-- The frame of its ideal reading. -/
theorem attnFrameIdeal : Cert.quiescent_KernelIdeal := fun m g _ => Cert.KernelIdeal.Gen.frame m g

/-- The same frame under the precondition. -/
theorem attnFrameIdealPre : Cert.quiescent_KernelIdeal_pre_finite := fun m g _ => Cert.KernelIdeal.Gen.frame m g

/-- The frame of the attention's reference. -/
theorem attnFrameReference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same frame under the precondition. -/
theorem attnFrameReferencePre : Cert.quiescent_ReferenceIdeal_pre_finite := fun m g _ =>
  (θ_run Cert.ReferenceIdeal.defs _ _).mono (fun r h => ⟨fun c => (h c).2, sem_eq_zero_of_no_sems (by decide) r.2⟩)
    (Cert.ReferenceIdeal.Value.run (F := Ideal) m g)

/-- The one named constant of the attention: the scale `1 / (8 log 2)`. -/
theorem attnPreserves : Cert.preserves_Kernel_KernelIdeal :=
  IdealRules.named_const.statement Cert.KernelIdeal.κ "scale" .f32 0x3E38AA3B#32 (((1/8) * (Real.log 2)⁻¹ : ℝ) : EReal) rfl

/-- The attention kernel and its reference over the extended reals. -/
theorem attnAlgebraic : Cert.algebraic_KernelIdeal_ReferenceIdeal_pre_finite := Cert.Attn.algebraic

/-- Everything the certificate claims. -/
theorem claim : Cert.Claim :=
  ⟨Cert.Kernel.Gen.facts, Cert.KernelIdeal.Gen.facts, Cert.ReferenceIdeal.Gen.facts, Cert.Moe.kernelFacts, Cert.Kernel2Ideal.Gen.facts,
    Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts, Cert.Attn.preFacts,
    attnFrame, attnFrameIdeal, attnFrameIdealPre, attnFrameReference, attnFrameReferencePre, Cert.Moe.frameBits, Cert.Moe.frameIdeal,
    Cert.Moe.frameReference,
    Cert.Proj.Keys.frameBits, Cert.Proj.Keys.frameIdeal, Cert.Proj.Keys.frameReference,
    Cert.Proj.Values.frameBits, Cert.Proj.Values.frameIdeal, Cert.Proj.Values.frameReference,
    Cert.Norm.Prompt.frameBits, Cert.Norm.Prompt.frameIdeal, Cert.Norm.Prompt.frameReference,
    Cert.Norm.Samples.frameBits, Cert.Norm.Samples.frameIdeal, Cert.Norm.Samples.frameReference,
    Cert.Proj.Packed.frameBits, Cert.Proj.Packed.frameIdeal, Cert.Proj.Packed.frameReference,
    Cert.Proj.Gate.frameBits, Cert.Proj.Gate.frameIdeal, Cert.Proj.Gate.frameReference,
    Cert.Proj.Scan.frameBits, Cert.Proj.Scan.frameIdeal, Cert.Proj.Scan.frameReference,
    Cert.Proj.Mix.frameBits, Cert.Proj.Mix.frameIdeal, Cert.Proj.Mix.frameReference,
    Cert.Proj.Queries.frameBits, Cert.Proj.Queries.frameIdeal, Cert.Proj.Queries.frameReference,
    attnPreserves, attnAlgebraic, trivial, Cert.Moe.algebraic,
    trivial, Cert.Proj.Keys.algebraic, trivial, Cert.Proj.Values.algebraic, trivial, Cert.Norm.Prompt.algebraic, trivial, Cert.Norm.Samples.algebraic,
    trivial, Cert.Proj.Packed.algebraic, trivial, Cert.Proj.Gate.algebraic,
    trivial, Cert.Proj.Scan.algebraic, trivial, Cert.Proj.Mix.algebraic, trivial, Cert.Proj.Queries.algebraic⟩

end Cert.Proof

end
